-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_on_dq_columns_pre_finite [hKernelIdeal : Cert.KernelIdeal.Facts] [hReferenceIdeal : Cert.ReferenceIdeal.Facts] [hPre_finite : Cert.Pre_finite.Facts] [hOn_dq_columns : Cert.On_dq_columns.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v35_0)) (v1 : (c : Dev Cert.KernelIdeal.nD) → Buf (Elt Ideal) ((c.tc : Thread Cert.KernelIdeal.nD Cert.KernelIdeal.τ).loc Cert.KernelIdeal.main_v35_1)) (v2 : (c : Dev Cert.KernelIdeal.nD) → Buf (Elt Ideal) ((c.tc : Thread Cert.KernelIdeal.nD Cert.KernelIdeal.τ).loc Cert.KernelIdeal.main_v35_2)) (v3 : (c : Dev Cert.KernelIdeal.nD) → Buf (Elt Ideal) ((c.tc : Thread Cert.KernelIdeal.nD Cert.KernelIdeal.τ).loc Cert.KernelIdeal.main_v35_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![2, 2048, 4096]⟩ : Shape).Idx, (Cert.On_dq_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 i = 1#1 → r.2.mem ((c.tc : Thread Cert.KernelIdeal.nD Cert.KernelIdeal.τ).loc Cert.KernelIdeal.main_v35_0) i = v0 c i)
          ∧ (∀ i : (⟨3, ![2, 2048, 1024]⟩ : Shape).Idx, (Cert.On_dq_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 i = 1#1 → r.2.mem ((c.tc : Thread Cert.KernelIdeal.nD Cert.KernelIdeal.τ).loc Cert.KernelIdeal.main_v35_1) i = v1 c i)
          ∧ (∀ i : (⟨3, ![2, 2048, 1024]⟩ : Shape).Idx, (Cert.On_dq_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 i = 1#1 → r.2.mem ((c.tc : Thread Cert.KernelIdeal.nD Cert.KernelIdeal.τ).loc Cert.KernelIdeal.main_v35_2) i = v2 c i)
          ∧ (∀ i : (⟨3, ![16, 256, 768]⟩ : Shape).Idx, (Cert.On_dq_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2 i = 1#1 → r.2.mem ((c.tc : Thread Cert.KernelIdeal.nD Cert.KernelIdeal.τ).loc Cert.KernelIdeal.main_v35_3) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![2, 2048, 4096]⟩ : Shape).Idx, (Cert.On_dq_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 i = 1#1 → r.2.mem ((c.tc : Thread Cert.ReferenceIdeal.nD Cert.ReferenceIdeal.τ).loc Cert.ReferenceIdeal.main_v205) i = v0 c i)
          ∧ (∀ i : (⟨3, ![2, 2048, 1024]⟩ : Shape).Idx, (Cert.On_dq_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 i = 1#1 → r.2.mem ((c.tc : Thread Cert.ReferenceIdeal.nD Cert.ReferenceIdeal.τ).loc Cert.ReferenceIdeal.main_v207) i = v1 c i)
          ∧ (∀ i : (⟨3, ![2, 2048, 1024]⟩ : Shape).Idx, (Cert.On_dq_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 i = 1#1 → r.2.mem ((c.tc : Thread Cert.ReferenceIdeal.nD Cert.ReferenceIdeal.τ).loc Cert.ReferenceIdeal.main_v209) i = v2 c i)
          ∧ (∀ i : (⟨3, ![16, 256, 768]⟩ : Shape).Idx, (Cert.On_dq_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2 i = 1#1 → r.2.mem ((c.tc : Thread Cert.ReferenceIdeal.nD Cert.ReferenceIdeal.τ).loc Cert.ReferenceIdeal.main_v202) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_v16) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_v8) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v8) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v7) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v6) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v1) = v0 c
          ∧ r.2.mem ((c.tc : Thread Cert.Reference17Ideal.nD Cert.Reference17Ideal.τ).loc Cert.Reference17Ideal.main_v25) = v1 c
          ∧ r.2.mem ((c.tc : Thread Cert.Reference17Ideal.nD Cert.Reference17Ideal.τ).loc Cert.Reference17Ideal.main_v6) = v2 c
          ∧ r.2.mem ((c.tc : Thread Cert.Reference17Ideal.nD Cert.Reference17Ideal.τ).loc Cert.Reference17Ideal.main_v12) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v1) = v0 c
          ∧ r.2.mem ((c.tc : Thread Cert.Reference18Ideal.nD Cert.Reference18Ideal.τ).loc Cert.Reference18Ideal.main_v25) = v1 c
          ∧ r.2.mem ((c.tc : Thread Cert.Reference18Ideal.nD Cert.Reference18Ideal.τ).loc Cert.Reference18Ideal.main_v6) = v2 c
          ∧ r.2.mem ((c.tc : Thread Cert.Reference18Ideal.nD Cert.Reference18Ideal.τ).loc Cert.Reference18Ideal.main_v12) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v1) = v0 c
          ∧ r.2.mem ((c.tc : Thread Cert.Reference19Ideal.nD Cert.Reference19Ideal.τ).loc Cert.Reference19Ideal.main_v25) = v1 c
          ∧ r.2.mem ((c.tc : Thread Cert.Reference19Ideal.nD Cert.Reference19Ideal.τ).loc Cert.Reference19Ideal.main_v6) = v2 c
          ∧ r.2.mem ((c.tc : Thread Cert.Reference19Ideal.nD Cert.Reference19Ideal.τ).loc Cert.Reference19Ideal.main_v12) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v1) = v0 c
          ∧ r.2.mem ((c.tc : Thread Cert.Reference20Ideal.nD Cert.Reference20Ideal.τ).loc Cert.Reference20Ideal.main_v25) = v1 c
          ∧ r.2.mem ((c.tc : Thread Cert.Reference20Ideal.nD Cert.Reference20Ideal.τ).loc Cert.Reference20Ideal.main_v6) = v2 c
          ∧ r.2.mem ((c.tc : Thread Cert.Reference20Ideal.nD Cert.Reference20Ideal.τ).loc Cert.Reference20Ideal.main_v12) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v1) = v0 c
          ∧ r.2.mem ((c.tc : Thread Cert.Reference21Ideal.nD Cert.Reference21Ideal.τ).loc Cert.Reference21Ideal.main_v25) = v1 c
          ∧ r.2.mem ((c.tc : Thread Cert.Reference21Ideal.nD Cert.Reference21Ideal.τ).loc Cert.Reference21Ideal.main_v6) = v2 c
          ∧ r.2.mem ((c.tc : Thread Cert.Reference21Ideal.nD Cert.Reference21Ideal.τ).loc Cert.Reference21Ideal.main_v12) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v1) = v0 c
          ∧ r.2.mem ((c.tc : Thread Cert.Reference22Ideal.nD Cert.Reference22Ideal.τ).loc Cert.Reference22Ideal.main_v25) = v1 c
          ∧ r.2.mem ((c.tc : Thread Cert.Reference22Ideal.nD Cert.Reference22Ideal.τ).loc Cert.Reference22Ideal.main_v6) = v2 c
          ∧ r.2.mem ((c.tc : Thread Cert.Reference22Ideal.nD Cert.Reference22Ideal.τ).loc Cert.Reference22Ideal.main_v12) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v1) = v0 c
          ∧ r.2.mem ((c.tc : Thread Cert.Reference23Ideal.nD Cert.Reference23Ideal.τ).loc Cert.Reference23Ideal.main_v25) = v1 c
          ∧ r.2.mem ((c.tc : Thread Cert.Reference23Ideal.nD Cert.Reference23Ideal.τ).loc Cert.Reference23Ideal.main_v6) = v2 c
          ∧ r.2.mem ((c.tc : Thread Cert.Reference23Ideal.nD Cert.Reference23Ideal.τ).loc Cert.Reference23Ideal.main_v12) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v3) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v5) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v6) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v5) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v8) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hPre_finite : Cert.Pre_finite.Facts) (hPre_finite2 : Cert.Pre_finite2.Facts) (hOn_dq_columns : Cert.On_dq_columns.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ preserves_Kernel_KernelIdeal
    ∧ algebraic_KernelIdeal_ReferenceIdeal_on_dq_columns_pre_finite (hKernelIdeal := hKernelIdeal) (hReferenceIdeal := hReferenceIdeal) (hPre_finite := hPre_finite) (hOn_dq_columns := hOn_dq_columns)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
-- ==== On_dq_columns.lean ====
abbrev S2x2048x4096 : Shape := ⟨3, ![2, 2048, 4096]⟩
abbrev S16x257 : Shape := ⟨2, ![16, 257]⟩
abbrev S2x2048x2048 : Shape := ⟨3, ![2, 2048, 2048]⟩
abbrev S_ : Shape := ⟨0, ![]⟩
abbrev S2x2048x1024 : Shape := ⟨3, ![2, 2048, 1024]⟩
abbrev S16x256x768 : Shape := ⟨3, ![16, 256, 768]⟩

class Facts : Prop where
  bcast_S_S2x2048x4096 : S_.BroadcastsInDim S2x2048x4096 (![] : Fin 0 → Fin S2x2048x4096.rank)
  bcast_S_S2x2048x1024 : S_.BroadcastsInDim S2x2048x1024 (![] : Fin 0 → Fin S2x2048x1024.rank)
  bcast_S_S16x256x768 : S_.BroadcastsInDim S16x256x768 (![] : Fin 0 → Fin S16x256x768.rank)

variable [Facts]

def fn {F : FTy → Type} [FloatOps F] (main_arg0 : FVec F S2x2048x4096 .f32) (main_arg1 : FVec F S16x257 .f32) (main_arg2 : FVec F S2x2048x2048 .bf16) : IVec S2x2048x4096 1 × IVec S2x2048x1024 1 × IVec S2x2048x1024 1 × IVec S16x256x768 1 :=
  let main_v0 : IVec S2x2048x4096 32 := iotaInDim S2x2048x4096 32 2
  let main_c : IVec S_ 32 := constantI S_ 32 1024#32
  let main_v1 : IVec S2x2048x4096 32 := broadcastInDim S2x2048x4096 ![] bcast_S_S2x2048x4096 main_c
  let main_v2 : IVec S2x2048x4096 1 := cmpi .slt main_v0 main_v1
  let main_c_0 : IVec S_ 1 := constantI S_ 1 1#1
  let main_v3 : IVec S2x2048x1024 1 := broadcastInDim S2x2048x1024 ![] bcast_S_S2x2048x1024 main_c_0
  let main_c_1 : IVec S_ 1 := constantI S_ 1 1#1
  let main_v4 : IVec S2x2048x1024 1 := broadcastInDim S2x2048x1024 ![] bcast_S_S2x2048x1024 main_c_1
  let main_c_2 : IVec S_ 1 := constantI S_ 1 1#1
  let main_v5 : IVec S16x256x768 1 := broadcastInDim S16x256x768 ![] bcast_S_S16x256x768 main_c_2
  (main_v2, main_v3, main_v4, main_v5)
-- ==== Pre_finite.lean ====
abbrev S2x2048x4096 : Shape := ⟨3, ![2, 2048, 4096]⟩
abbrev S16x257 : Shape := ⟨2, ![16, 257]⟩
abbrev S2x2048x2048 : Shape := ⟨3, ![2, 2048, 2048]⟩
abbrev S_ : Shape := ⟨0, ![]⟩

class Facts : Prop where
  slices_S2x2048x4096_S2x2048x2048_0_0_0 : S2x2048x4096.Slices ![0, 0, 0] S2x2048x2048
  bcast_S_S2x2048x2048 : S_.BroadcastsInDim S2x2048x2048 (![] : Fin 0 → Fin S2x2048x2048.rank)
  reducesTo_S2x2048x2048_S_d0_1_2 : S2x2048x2048.ReducesTo [0, 1, 2] S_
  h_S_ : 0 < S_.numel
  bcast_S_S16x257 : S_.BroadcastsInDim S16x257 (![] : Fin 0 → Fin S16x257.rank)
  reducesTo_S16x257_S_d0_1 : S16x257.ReducesTo [0, 1] S_

variable [Facts]

def fn {F : FTy → Type} [FloatOps F] (main_arg0 : FVec F S2x2048x4096 .f32) (main_arg1 : FVec F S16x257 .f32) (main_arg2 : FVec F S2x2048x2048 .bf16) : IVec S_ 1 :=
  let main_v0 : FVec F S2x2048x2048 .f32 := (extractStridedSlice S2x2048x2048 ![0, 0, 0] · slices_S2x2048x4096_S2x2048x2048_0_0_0) main_arg0
  let main_v1 : FVec F S2x2048x2048 .f32 := Host.absf main_v0
  let main_cst : FVec F S_ .f32 := constant S_ .f32 0x7F800000#32
  let main_v2 : FVec F S2x2048x2048 .f32 := broadcastInDim S2x2048x2048 ![] bcast_S_S2x2048x2048 main_cst
  let main_v3 : IVec S2x2048x2048 1 := cmpf .olt main_v1 main_v2
  let main_c : IVec S_ 1 := constantI S_ 1 1#1
  let main_v4 : IVec S_ 1 := (fun x v => Host.reduce IntOp.andi x v reducesTo_S2x2048x2048_S_d0_1_2 h_S_) main_v3 main_c
  let main_v5 : FVec F S16x257 .f32 := Host.absf main_arg1
  let main_cst_0 : FVec F S_ .f32 := constant S_ .f32 0x7F800000#32
  let main_v6 : FVec F S16x257 .f32 := broadcastInDim S16x257 ![] bcast_S_S16x257 main_cst_0
  let main_v7 : IVec S16x257 1 := cmpf .olt main_v5 main_v6
  let main_c_1 : IVec S_ 1 := constantI S_ 1 1#1
  let main_v8 : IVec S_ 1 := (fun x v => Host.reduce IntOp.andi x v reducesTo_S16x257_S_d0_1 h_S_) main_v7 main_c_1
  let main_v9 : IVec S_ 1 := andi main_v4 main_v8
  main_v9
-- ==== Pre_finite2.lean ====
abbrev S4096x2048 : Shape := ⟨2, ![4096, 2048]⟩
abbrev S5632x2048 : Shape := ⟨2, ![5632, 2048]⟩
abbrev S4096x5632 : Shape := ⟨2, ![4096, 5632]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S5632x2048 : S_.BroadcastsInDim S5632x2048 (![] : Fin 0 → Fin S5632x2048.rank)
  reducesTo_S5632x2048_S_d0_1 : S5632x2048.ReducesTo [0, 1] S_
  bcast_S_S4096x5632 : S_.BroadcastsInDim S4096x5632 (![] : Fin 0 → Fin S4096x5632.rank)
  reducesTo_S4096x5632_S_d0_1 : S4096x5632.ReducesTo [0, 1] S_

variable [Facts]

def fn {F : FTy → Type} [FloatOps F] (main_arg0 : FVec F S4096x2048 .bf16) (main_arg1 : FVec F S5632x2048 .bf16) (main_arg2 : FVec F S4096x5632 .bf16) (main_arg3 : FVec F S4096x5632 .bf16) : IVec S_ 1 :=
  let main_v0 : FVec F S4096x2048 .bf16 := Host.absf main_arg0
  let main_cst : FVec F S_ .bf16 := constant S_ .bf16 0x7F80#16
  let main_v1 : FVec F S4096x2048 .bf16 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S5632x2048 .bf16 := Host.absf main_arg1
  let main_cst_0 : FVec F S_ .bf16 := constant S_ .bf16 0x7F80#16
  let main_v5 : FVec F S5632x2048 .bf16 := broadcastInDim S5632x2048 ![] bcast_S_S5632x2048 main_cst_0
  let main_v6 : IVec S5632x2048 1 := cmpf .olt main_v4 main_v5
  let main_c_1 : IVec S_ 1 := constantI S_ 1 1#1
  let main_v7 : IVec S_ 1 := (fun x v => Host.reduce IntOp.andi x v reducesTo_S5632x2048_S_d0_1 h_S_) main_v6 main_c_1
  let main_v8 : IVec S_ 1 := andi main_v3 main_v7
  let main_v9 : FVec F S4096x5632 .bf16 := Host.absf main_arg3
  let main_cst_2 : FVec F S_ .bf16 := constant S_ .bf16 0x7F80#16
  let main_v10 : FVec F S4096x5632 .bf16 := broadcastInDim S4096x5632 ![] bcast_S_S4096x5632 main_cst_2
  let main_v11 : IVec S4096x5632 1 := cmpf .olt main_v9 main_v10
  let main_c_3 : IVec S_ 1 := constantI S_ 1 1#1
  let main_v12 : IVec S_ 1 := (fun x v => Host.reduce IntOp.andi x v reducesTo_S4096x5632_S_d0_1 h_S_) main_v11 main_c_3
  let main_v13 : IVec S_ 1 := andi main_v8 main_v12
  main_v13
-- ==== Kernel.lean ====
abbrev S2x2048x4096 : Shape := ⟨3, ![2, 2048, 4096]⟩
abbrev S16x257 : Shape := ⟨2, ![16, 257]⟩
abbrev S2x2048x2048 : Shape := ⟨3, ![2, 2048, 2048]⟩
abbrev S256 : Shape := ⟨1, ![256]⟩
abbrev S_ : Shape := ⟨0, ![]⟩
abbrev S768 : Shape := ⟨1, ![768]⟩
abbrev S256x1 : Shape := ⟨2, ![256, 1]⟩
abbrev S1x768 : Shape := ⟨2, ![1, 768]⟩
abbrev S256x768 : Shape := ⟨2, ![256, 768]⟩
abbrev S1x256x768 : Shape := ⟨3, ![1, 256, 768]⟩
abbrev S256x768x1 : Shape := ⟨3, ![256, 768, 1]⟩
abbrev S16x256x768 : Shape := ⟨3, ![16, 256, 768]⟩
abbrev S2x2048x1024 : Shape := ⟨3, ![2, 2048, 1024]⟩
abbrev S1x256x128 : Shape := ⟨3, ![1, 256, 128]⟩
abbrev S1x2048x128 : Shape := ⟨3, ![1, 2048, 128]⟩
abbrev S2x256x768 : Shape := ⟨3, ![2, 256, 768]⟩
abbrev S2560x128 : Shape := ⟨2, ![2560, 128]⟩
abbrev S128x2560 : Shape := ⟨2, ![128, 2560]⟩
abbrev S512x128 : Shape := ⟨2, ![512, 128]⟩
abbrev S2048x128 : Shape := ⟨2, ![2048, 128]⟩
abbrev S768x128 : Shape := ⟨2, ![768, 128]⟩
abbrev S256x128 : Shape := ⟨2, ![256, 128]⟩
abbrev S512x768 : Shape := ⟨2, ![512, 768]⟩
abbrev S512 : Shape := ⟨1, ![512]⟩
abbrev S512x1 : Shape := ⟨2, ![512, 1]⟩
abbrev S128x768 : Shape := ⟨2, ![128, 768]⟩
abbrev S128x2048 : Shape := ⟨2, ![128, 2048]⟩

abbrev nBuf : Space → Nat
  | .hbm => 92
  | .vmem => 22
  | .smem => 0
  | _ => 0

abbrev bufTy : (tb : Table) → Fin (tcTables nBuf tb) → BufTy
  | .hbm, ⟨0, _⟩ => ⟨S2x2048x4096, .f32⟩
  | .hbm, ⟨1, _⟩ => ⟨S16x257, .f32⟩
  | .hbm, ⟨2, _⟩ => ⟨S2x2048x2048, .bf16⟩
  | .hbm, ⟨3, _⟩ => ⟨S256, .i32⟩
  | .hbm, ⟨4, _⟩ => ⟨S_, .i32⟩
  | .hbm, ⟨5, _⟩ => ⟨S256, .i32⟩
  | .hbm, ⟨6, _⟩ => ⟨S256, .i32⟩
  | .hbm, ⟨7, _⟩ => ⟨S768, .i32⟩
  | .hbm, ⟨8, _⟩ => ⟨S256x1, .i32⟩
  | .hbm, ⟨9, _⟩ => ⟨S1x768, .i32⟩
  | .hbm, ⟨10, _⟩ => ⟨S256x768, .i32⟩
  | .hbm, ⟨11, _⟩ => ⟨S256x768, .i32⟩
  | .hbm, ⟨12, _⟩ => ⟨S256x768, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S256x768, .i32⟩
  | .hbm, ⟨17, _⟩ => ⟨S256x768, .i32⟩
  | .hbm, ⟨18, _⟩ => ⟨S_, .i32⟩
  | .hbm, ⟨19, _⟩ => ⟨S256x768, .i32⟩
  | .hbm, ⟨20, _⟩ => ⟨S256x768, .i32⟩
  | .hbm, ⟨21, _⟩ => ⟨S_, .i32⟩
  | .hbm, ⟨22, _⟩ => ⟨S256x768, .i32⟩
  | .hbm, ⟨23, _⟩ => ⟨S256x768, .i32⟩
  | .hbm, ⟨24, _⟩ => ⟨S256, .i32⟩
  | .hbm, ⟨25, _⟩ => ⟨S256x1, .i32⟩
  | .hbm, ⟨26, _⟩ => ⟨S_, .i32⟩
  | .hbm, ⟨27, _⟩ => ⟨S_, .i32⟩
  | .hbm, ⟨28, _⟩ => ⟨S256x1, .i32⟩
  | .hbm, ⟨29, _⟩ => ⟨S256x1, .i32⟩
  | .hbm, ⟨30, _⟩ => ⟨S256x1, .i32⟩
  | .hbm, ⟨31, _⟩ => ⟨S_, .i32⟩
  | .hbm, ⟨32, _⟩ => ⟨S256x1, .i32⟩
  | .hbm, ⟨33, _⟩ => ⟨S256x1, .i1⟩
  | .hbm, ⟨34, _⟩ => ⟨S256x1, .i32⟩
  | .hbm, ⟨35, _⟩ => ⟨S256x1, .i32⟩
  | .hbm, ⟨36, _⟩ => ⟨S_, .i32⟩
  | .hbm, ⟨37, _⟩ => ⟨S256x1, .i32⟩
  | .hbm, ⟨38, _⟩ => ⟨S256x1, .i1⟩
  | .hbm, ⟨39, _⟩ => ⟨S256x1, .i1⟩
  | .hbm, ⟨40, _⟩ => ⟨S_, .i32⟩
  | .hbm, ⟨41, _⟩ => ⟨S256x1, .i32⟩
  | .hbm, ⟨42, _⟩ => ⟨S256x1, .i32⟩
  | .hbm, ⟨43, _⟩ => ⟨S256x1, .i32⟩
  | .hbm, ⟨44, _⟩ => ⟨S1x768, .i32⟩
  | .hbm, ⟨45, _⟩ => ⟨S_, .i32⟩
  | .hbm, ⟨46, _⟩ => ⟨S_, .i32⟩
  | .hbm, ⟨47, _⟩ => ⟨S1x768, .i32⟩
  | .hbm, ⟨48, _⟩ => ⟨S1x768, .i32⟩
  | .hbm, ⟨49, _⟩ => ⟨S1x768, .i32⟩
  | .hbm, ⟨50, _⟩ => ⟨S_, .i32⟩
  | .hbm, ⟨51, _⟩ => ⟨S1x768, .i32⟩
  | .hbm, ⟨52, _⟩ => ⟨S1x768, .i1⟩
  | .hbm, ⟨53, _⟩ => ⟨S1x768, .i32⟩
  | .hbm, ⟨54, _⟩ => ⟨S1x768, .i32⟩
  | .hbm, ⟨55, _⟩ => ⟨S_, .i32⟩
  | .hbm, ⟨56, _⟩ => ⟨S1x768, .i32⟩
  | .hbm, ⟨57, _⟩ => ⟨S1x768, .i1⟩
  | .hbm, ⟨58, _⟩ => ⟨S1x768, .i1⟩
  | .hbm, ⟨59, _⟩ => ⟨S_, .i32⟩
  | .hbm, ⟨60, _⟩ => ⟨S1x768, .i32⟩
  | .hbm, ⟨61, _⟩ => ⟨S1x768, .i32⟩
  | .hbm, ⟨62, _⟩ => ⟨S1x768, .i32⟩
  | .hbm, ⟨63, _⟩ => ⟨S256x768, .i32⟩
  | .hbm, ⟨64, _⟩ => ⟨S256x768, .i32⟩
  | .hbm, ⟨65, _⟩ => ⟨S256x768, .i1⟩
  | .hbm, ⟨66, _⟩ => ⟨S_, .i32⟩
  | .hbm, ⟨67, _⟩ => ⟨S256x1, .i32⟩
  | .hbm, ⟨68, _⟩ => ⟨S256x1, .i32⟩
  | .hbm, ⟨69, _⟩ => ⟨S256x768, .i32⟩
  | .hbm, ⟨70, _⟩ => ⟨S256x768, .i32⟩
  | .hbm, ⟨71, _⟩ => ⟨S256x768, .i1⟩
  | .hbm, ⟨72, _⟩ => ⟨S256x768, .i1⟩
  | .hbm, ⟨73, _⟩ => ⟨S1x256x768, .i1⟩
  | .hbm, ⟨74, _⟩ => ⟨S_, .i32⟩
  | .hbm, ⟨75, _⟩ => ⟨S256x768, .i32⟩
  | .hbm, ⟨76, _⟩ => ⟨S256x768, .i1⟩
  | .hbm, ⟨77, _⟩ => ⟨S_, .i32⟩
  | .hbm, ⟨78, _⟩ => ⟨S256x768, .i32⟩
  | .hbm, ⟨79, _⟩ => ⟨S256x768, .i32⟩
  | .hbm, ⟨80, _⟩ => ⟨S256x768, .i32⟩
  | .hbm, ⟨81, _⟩ => ⟨S256x768x1, .i32⟩
  | .hbm, ⟨82, _⟩ => ⟨S16x256x768, .f32⟩
  | .hbm, ⟨83, _⟩ => ⟨S_, .f32⟩
  | .hbm, ⟨84, _⟩ => ⟨S_, .f32⟩
  | .hbm, ⟨85, _⟩ => ⟨S16x256x768, .i1⟩
  | .hbm, ⟨86, _⟩ => ⟨S16x256x768, .f32⟩
  | .hbm, ⟨87, _⟩ => ⟨S16x256x768, .f32⟩
  | .hbm, ⟨88, _⟩ => ⟨S2x2048x4096, .bf16⟩
  | .hbm, ⟨89, _⟩ => ⟨S2x2048x1024, .bf16⟩
  | .hbm, ⟨90, _⟩ => ⟨S2x2048x1024, .bf16⟩
  | .hbm, ⟨91, _⟩ => ⟨S16x256x768, .f32⟩
  | .local _ .vmem, ⟨0, _⟩ => ⟨S1x256x128, .f32⟩
  | .local _ .vmem, ⟨1, _⟩ => ⟨S1x256x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S2x256x768, .f32⟩
  | .local _ .vmem, ⟨7, _⟩ => ⟨S2x256x768, .f32⟩
  | .local _ .vmem, ⟨8, _⟩ => ⟨S1x256x128, .bf16⟩
  | .local _ .vmem, ⟨9, _⟩ => ⟨S1x256x128, .bf16⟩
  | .local _ .vmem, ⟨10, _⟩ => ⟨S1x256x128, .bf16⟩
  | .local _ .vmem, ⟨11, _⟩ => ⟨S1x256x128, .bf16⟩
  | .local _ .vmem, ⟨12, _⟩ => ⟨S1x2048x128, .bf16⟩
  | .local _ .vmem, ⟨13, _⟩ => ⟨S1x2048x128, .bf16⟩
  | .local _ .vmem, ⟨14, _⟩ => ⟨S1x2048x128, .bf16⟩
  | .local _ .vmem, ⟨15, _⟩ => ⟨S1x2048x128, .bf16⟩
  | .local _ .vmem, ⟨16, _⟩ => ⟨S2x256x768, .f32⟩
  | .local _ .vmem, ⟨17, _⟩ => ⟨S2x256x768, .f32⟩
  | .local _ .vmem, ⟨18, _⟩ => ⟨S2560x128, .bf16⟩
  | .local _ .vmem, ⟨19, _⟩ => ⟨S2560x128, .bf16⟩
  | .local _ .vmem, ⟨20, _⟩ => ⟨S128x2560, .f32⟩
  | .local _ .vmem, ⟨21, _⟩ => ⟨S128x2560, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_c : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_0 : Ref sig .tc := ⟨.hbm, 40, rfl⟩
abbrev main_call1_v12 : Ref sig .tc := ⟨.hbm, 41, rfl⟩
abbrev main_call1_v13 : Ref sig .tc := ⟨.hbm, 42, rfl⟩
abbrev main_v14 : Ref sig .tc := ⟨.hbm, 43, rfl⟩
abbrev main_v15 : Ref sig .tc := ⟨.hbm, 44, rfl⟩
abbrev main_c_4 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_call2_v5 : Ref sig .tc := ⟨.hbm, 51, rfl⟩
abbrev main_call2_v6 : Ref sig .tc := ⟨.hbm, 52, rfl⟩
abbrev main_call2_v7 : Ref sig .tc := ⟨.hbm, 53, rfl⟩
abbrev main_call2_v8 : Ref sig .tc := ⟨.hbm, 54, rfl⟩
abbrev main_call2_c : Ref sig .tc := ⟨.hbm, 55, rfl⟩
abbrev main_call2_v9 : Ref sig .tc := ⟨.hbm, 56, rfl⟩
abbrev main_call2_v10 : Ref sig .tc := ⟨.hbm, 57, rfl⟩
abbrev main_call2_v11 : Ref sig .tc := ⟨.hbm, 58, rfl⟩
abbrev main_call2_c_0 : Ref sig .tc := ⟨.hbm, 59, rfl⟩
abbrev main_call2_v12 : Ref sig .tc := ⟨.hbm, 60, rfl⟩
abbrev main_call2_v13 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_c_5 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_c_6 : Ref sig .tc := ⟨.hbm, 74, rfl⟩
abbrev main_v27 : Ref sig .tc := ⟨.hbm, 75, rfl⟩
abbrev main_v28 : Ref sig .tc := ⟨.hbm, 76, rfl⟩
abbrev main_c_7 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_cst : Ref sig .tc := ⟨.hbm, 83, rfl⟩
abbrev main_call3_v0 : Ref sig .tc := ⟨.hbm, 84, rfl⟩
abbrev main_call3_v1 : Ref sig .tc := ⟨.hbm, 85, rfl⟩
abbrev main_call3_v2 : Ref sig .tc := ⟨.hbm, 86, rfl⟩
abbrev main_v34 : Ref sig .tc := ⟨.hbm, 87, rfl⟩
abbrev main_v35_0 : Ref sig .tc := ⟨.hbm, 88, rfl⟩
abbrev main_v35_1 : Ref sig .tc := ⟨.hbm, 89, rfl⟩
abbrev main_v35_2 : Ref sig .tc := ⟨.hbm, 90, rfl⟩
abbrev main_v35_3 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![8, 2, 8], ![false, false, false]⟩

def k0_mult1 (i : grid0.Coords) : BitVec 32 :=
  let arg2 : BitVec 32 := BitVec.ofNat 32 (i 2).val
  let c256_i32 : BitVec 32 := 256#32
  let v8 : BitVec 32 := Scalar.muli arg2 c256_i32
  v8
def k0_off1 (i : grid0.Coords) : Fin 2 → Nat :=
  let arg2 : BitVec 32 := BitVec.ofNat 32 (i 2).val
  let c256_i32 : BitVec 32 := 256#32
  let v8 : BitVec 32 := Scalar.muli arg2 c256_i32
  let v9 : BitVec 32 := v8
  let v10 : Index := Scalar.indexCast v9
  let c0 : Index := 0#32
  ![v10.toNat, 0]
def k0_off2 (i : grid0.Coords) : Fin 2 → Nat :=
  let c0_37 : Index := 0#32
  let arg2 : BitVec 32 := BitVec.ofNat 32 (i 2).val
  let c256_i32 : BitVec 32 := 256#32
  let v8 : BitVec 32 := Scalar.muli arg2 c256_i32
  let v9 : BitVec 32 := v8
  let v83 : Index := Scalar.indexCast v9
  ![0, v83.toNat]
def k0_cond3 (i : grid0.Coords) : BitVec 1 :=
  let arg2 : BitVec 32 := BitVec.ofNat 32 (i 2).val
  let c7_i32 : BitVec 32 := 7#32
  let v100 : BitVec 1 := Scalar.cmpi .eq arg2 c7_i32
  let v101 : BitVec 32 := Scalar.extui v100
  let c0_i32_43 : BitVec 32 := 0#32
  let v102 : BitVec 1 := Scalar.cmpi .ne v101 c0_i32_43
  v102

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg0
  let c0_i32 : BitVec 32 := 0#32
  let c0_i32_0 : BitVec 32 := 0#32
  ![arg1.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c0_i32 : BitVec 32 := 0#32
  let c0_i32_0 : BitVec 32 := 0#32
  ![arg1.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S2x256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== KernelIdeal.lean ====
variable {F : FTy → Type} [FloatOps F] [Named F]
def κ : String → Option EReal := fun
  | "mask" => some ⊥
  | _ => none
-- ==== ReferenceIdeal.lean ====
abbrev S2x2048x4096 : Shape := ⟨3, ![2, 2048, 4096]⟩
abbrev S16x257 : Shape := ⟨2, ![16, 257]⟩
abbrev S2x2048x2048 : Shape := ⟨3, ![2, 2048, 2048]⟩
abbrev S2x2048x1024 : Shape := ⟨3, ![2, 2048, 1024]⟩
abbrev S2x2048x16x64 : Shape := ⟨4, ![2, 2048, 16, 64]⟩
abbrev S256 : Shape := ⟨1, ![256]⟩
abbrev S_ : Shape := ⟨0, ![]⟩
abbrev S768 : Shape := ⟨1, ![768]⟩
abbrev S256x1 : Shape := ⟨2, ![256, 1]⟩
abbrev S1x768 : Shape := ⟨2, ![1, 768]⟩
abbrev S256x768 : Shape := ⟨2, ![256, 768]⟩
abbrev S256x768x1 : Shape := ⟨3, ![256, 768, 1]⟩
abbrev S16x256x768 : Shape := ⟨3, ![16, 256, 768]⟩
abbrev S2048 : Shape := ⟨1, ![2048]⟩
abbrev S16x256x0 : Shape := ⟨3, ![16, 256, 0]⟩
abbrev S16x256x1792 : Shape := ⟨3, ![16, 256, 1792]⟩
abbrev S16x256x2560 : Shape := ⟨3, ![16, 256, 2560]⟩
abbrev S16x256x2048 : Shape := ⟨3, ![16, 256, 2048]⟩
abbrev S16x256x256 : Shape := ⟨3, ![16, 256, 256]⟩
abbrev S16x256x1536 : Shape := ⟨3, ![16, 256, 1536]⟩
abbrev S16x256x512 : Shape := ⟨3, ![16, 256, 512]⟩
abbrev S16x256x1280 : Shape := ⟨3, ![16, 256, 1280]⟩
abbrev S16x256x1024 : Shape := ⟨3, ![16, 256, 1024]⟩
abbrev S16x2048x2048 : Shape := ⟨3, ![16, 2048, 2048]⟩
abbrev S2048x1 : Shape := ⟨2, ![2048, 1]⟩
abbrev S1x2048 : Shape := ⟨2, ![1, 2048]⟩
abbrev S2048x2048 : Shape := ⟨2, ![2048, 2048]⟩
abbrev S2x16x2048x2048 : Shape := ⟨4, ![2, 16, 2048, 2048]⟩
abbrev S1x16x2048x2048 : Shape := ⟨4, ![1, 16, 2048, 2048]⟩
abbrev S1x1x2048x2048 : Shape := ⟨4, ![1, 1, 2048, 2048]⟩
abbrev S2x16x2048 : Shape := ⟨3, ![2, 16, 2048]⟩
abbrev S2x16x2048x1 : Shape := ⟨4, ![2, 16, 2048, 1]⟩
abbrev S2x16x64x2048 : Shape := ⟨4, ![2, 16, 64, 2048]⟩
abbrev S2x16x2048x64 : Shape := ⟨4, ![2, 16, 2048, 64]⟩

abbrev nBuf : Space → Nat
  | .hbm => 325
  | .vmem => 0
  | .smem => 0
  | _ => 0

abbrev hbmTy0_0 (i : Nat) : BufTy := match i % 128 with
  | 0 => ⟨S2x2048x4096, .f32⟩
  | 1 => ⟨S16x257, .f32⟩
  | 2 => ⟨S2x2048x2048, .bf16⟩
  | 3 => ⟨S2x2048x1024, .f32⟩
  | 4 => ⟨S2x2048x16x64, .f32⟩
  | 5 => ⟨S2x2048x1024, .f32⟩
  | 6 => ⟨S2x2048x16x64, .f32⟩
  | 7 => ⟨S2x2048x1024, .f32⟩
  | 8 => ⟨S2x2048x16x64, .f32⟩
  | 9 => ⟨S256, .i32⟩
  | 10 => ⟨S_, .i32⟩
  | 11 => ⟨S256, .i32⟩
  | 12 => ⟨S256, .i32⟩
  | 13 => ⟨S768, .i32⟩
  | 14 => ⟨S256x1, .i32⟩
  | 15 => ⟨S1x768, .i32⟩
  | 16 => ⟨S256x768, .i32⟩
  | 17 => ⟨S256x768, .i32⟩
  | 18 => ⟨S256x768, .i32⟩
  | 19 => ⟨S_, .i32⟩
  | 20 => ⟨S_, .i32⟩
  | 21 => ⟨S_, .i32⟩
  | 22 => ⟨S256x768, .i32⟩
  | 23 => ⟨S256x768, .i32⟩
  | 24 => ⟨S_, .i32⟩
  | 25 => ⟨S256x768, .i32⟩
  | 26 => ⟨S256x768, .i32⟩
  | 27 => ⟨S_, .i32⟩
  | 28 => ⟨S256x768, .i32⟩
  | 29 => ⟨S256x768, .i32⟩
  | 30 => ⟨S2x2048x1024, .bf16⟩
  | 31 => ⟨S2x2048x1024, .f32⟩
  | 32 => ⟨S_, .i32⟩
  | 33 => ⟨S256x768, .i32⟩
  | 34 => ⟨S256x768, .i1⟩
  | 35 => ⟨S_, .i32⟩
  | 36 => ⟨S256x768, .i32⟩
  | 37 => ⟨S256x768, .i32⟩
  | 38 => ⟨S256x768, .i32⟩
  | 39 => ⟨S256x768x1, .i32⟩
  | 40 => ⟨S16x256x768, .f32⟩
  | 41 => ⟨S2048, .i32⟩
  | 42 => ⟨S_, .f32⟩
  | 43 => ⟨S16x256x0, .f32⟩
  | 44 => ⟨S_, .f32⟩
  | 45 => ⟨S16x256x1792, .f32⟩
  | 46 => ⟨S16x256x2560, .f32⟩
  | 47 => ⟨S_, .f32⟩
  | 48 => ⟨S16x256x0, .f32⟩
  | 49 => ⟨S_, .f32⟩
  | 50 => ⟨S16x256x1792, .f32⟩
  | 51 => ⟨S16x256x2048, .f32⟩
  | 52 => ⟨S_, .f32⟩
  | 53 => ⟨S16x256x256, .f32⟩
  | 54 => ⟨S_, .f32⟩
  | 55 => ⟨S16x256x1536, .f32⟩
  | 56 => ⟨S16x256x2560, .f32⟩
  | 57 => ⟨S_, .f32⟩
  | 58 => ⟨S16x256x256, .f32⟩
  | 59 => ⟨S_, .f32⟩
  | 60 => ⟨S16x256x1536, .f32⟩
  | 61 => ⟨S16x256x2048, .f32⟩
  | 62 => ⟨S_, .f32⟩
  | 63 => ⟨S16x256x512, .f32⟩
  | 64 => ⟨S_, .f32⟩
  | 65 => ⟨S16x256x1280, .f32⟩
  | 66 => ⟨S16x256x2560, .f32⟩
  | 67 => ⟨S_, .f32⟩
  | 68 => ⟨S16x256x512, .f32⟩
  | 69 => ⟨S_, .f32⟩
  | 70 => ⟨S16x256x1280, .f32⟩
  | 71 => ⟨S16x256x2048, .f32⟩
  | 72 => ⟨S_, .f32⟩
  | 73 => ⟨S16x256x768, .f32⟩
  | 74 => ⟨S_, .f32⟩
  | 75 => ⟨S16x256x1024, .f32⟩
  | 76 => ⟨S16x256x2560, .f32⟩
  | 77 => ⟨S_, .f32⟩
  | 78 => ⟨S16x256x768, .f32⟩
  | 79 => ⟨S_, .f32⟩
  | 80 => ⟨S16x256x1024, .f32⟩
  | 81 => ⟨S16x256x2048, .f32⟩
  | 82 => ⟨S_, .f32⟩
  | 83 => ⟨S16x256x1024, .f32⟩
  | 84 => ⟨S_, .f32⟩
  | 85 => ⟨S16x256x768, .f32⟩
  | 86 => ⟨S16x256x2560, .f32⟩
  | 87 => ⟨S_, .f32⟩
  | 88 => ⟨S16x256x1024, .f32⟩
  | 89 => ⟨S_, .f32⟩
  | 90 => ⟨S16x256x768, .f32⟩
  | 91 => ⟨S16x256x2048, .f32⟩
  | 92 => ⟨S_, .f32⟩
  | 93 => ⟨S16x256x1280, .f32⟩
  | 94 => ⟨S_, .f32⟩
  | 95 => ⟨S16x256x512, .f32⟩
  | 96 => ⟨S16x256x2560, .f32⟩
  | 97 => ⟨S_, .f32⟩
  | 98 => ⟨S16x256x1280, .f32⟩
  | 99 => ⟨S_, .f32⟩
  | 100 => ⟨S16x256x512, .f32⟩
  | 101 => ⟨S16x256x2048, .f32⟩
  | 102 => ⟨S_, .f32⟩
  | 103 => ⟨S16x256x1536, .f32⟩
  | 104 => ⟨S_, .f32⟩
  | 105 => ⟨S16x256x256, .f32⟩
  | 106 => ⟨S16x256x2560, .f32⟩
  | 107 => ⟨S_, .f32⟩
  | 108 => ⟨S16x256x1536, .f32⟩
  | 109 => ⟨S_, .f32⟩
  | 110 => ⟨S16x256x256, .f32⟩
  | 111 => ⟨S16x256x2048, .f32⟩
  | 112 => ⟨S_, .f32⟩
  | 113 => ⟨S16x256x1792, .f32⟩
  | 114 => ⟨S_, .f32⟩
  | 115 => ⟨S16x256x0, .f32⟩
  | 116 => ⟨S16x256x2560, .f32⟩
  | 117 => ⟨S_, .f32⟩
  | 118 => ⟨S16x256x1792, .f32⟩
  | 119 => ⟨S_, .f32⟩
  | 120 => ⟨S16x256x0, .f32⟩
  | 121 => ⟨S16x256x2048, .f32⟩
  | 122 => ⟨S16x2048x2048, .f32⟩
  | 123 => ⟨S2048x1, .i32⟩
  | 124 => ⟨S_, .i32⟩
  | 125 => ⟨S_, .i32⟩
  | 126 => ⟨S2048x1, .i32⟩
  | 127 => ⟨S2048x1, .i32⟩
  | _ => ⟨S2x2048x4096, .f32⟩

abbrev hbmTy0_1 (i : Nat) : BufTy := match i % 128 with
  | 0 => ⟨S2048x1, .i32⟩
  | 1 => ⟨S_, .i32⟩
  | 2 => ⟨S2048x1, .i32⟩
  | 3 => ⟨S2048x1, .i1⟩
  | 4 => ⟨S2048x1, .i32⟩
  | 5 => ⟨S2048x1, .i32⟩
  | 6 => ⟨S_, .i32⟩
  | 7 => ⟨S2048x1, .i32⟩
  | 8 => ⟨S2048x1, .i1⟩
  | 9 => ⟨S2048x1, .i1⟩
  | 10 => ⟨S_, .i32⟩
  | 11 => ⟨S2048x1, .i32⟩
  | 12 => ⟨S2048x1, .i32⟩
  | 13 => ⟨S2048x1, .i32⟩
  | 14 => ⟨S1x2048, .i32⟩
  | 15 => ⟨S_, .i32⟩
  | 16 => ⟨S_, .i32⟩
  | 17 => ⟨S1x2048, .i32⟩
  | 18 => ⟨S1x2048, .i32⟩
  | 19 => ⟨S1x2048, .i32⟩
  | 20 => ⟨S_, .i32⟩
  | 21 => ⟨S1x2048, .i32⟩
  | 22 => ⟨S1x2048, .i1⟩
  | 23 => ⟨S1x2048, .i32⟩
  | 24 => ⟨S1x2048, .i32⟩
  | 25 => ⟨S_, .i32⟩
  | 26 => ⟨S1x2048, .i32⟩
  | 27 => ⟨S1x2048, .i1⟩
  | 28 => ⟨S1x2048, .i1⟩
  | 29 => ⟨S_, .i32⟩
  | 30 => ⟨S1x2048, .i32⟩
  | 31 => ⟨S1x2048, .i32⟩
  | 32 => ⟨S1x2048, .i32⟩
  | 33 => ⟨S2048x2048, .i32⟩
  | 34 => ⟨S2048x2048, .i32⟩
  | 35 => ⟨S2048x2048, .i1⟩
  | 36 => ⟨S_, .i32⟩
  | 37 => ⟨S2048x1, .i32⟩
  | 38 => ⟨S2048x1, .i32⟩
  | 39 => ⟨S2048x2048, .i32⟩
  | 40 => ⟨S2048x2048, .i32⟩
  | 41 => ⟨S2048x2048, .i1⟩
  | 42 => ⟨S2048x2048, .i1⟩
  | 43 => ⟨S2x16x2048x2048, .f32⟩
  | 44 => ⟨S_, .f32⟩
  | 45 => ⟨S2x16x2048x2048, .f32⟩
  | 46 => ⟨S2x16x2048x2048, .f32⟩
  | 47 => ⟨S1x16x2048x2048, .f32⟩
  | 48 => ⟨S2x16x2048x2048, .f32⟩
  | 49 => ⟨S2x16x2048x2048, .f32⟩
  | 50 => ⟨S1x1x2048x2048, .i1⟩
  | 51 => ⟨S_, .f32⟩
  | 52 => ⟨S_, .f32⟩
  | 53 => ⟨S2x16x2048x2048, .i1⟩
  | 54 => ⟨S2x16x2048x2048, .f32⟩
  | 55 => ⟨S2x16x2048x2048, .f32⟩
  | 56 => ⟨S_, .f32⟩
  | 57 => ⟨S2x16x2048x2048, .f32⟩
  | 58 => ⟨S_, .f32⟩
  | 59 => ⟨S2x16x2048, .f32⟩
  | 60 => ⟨S2x16x2048x1, .f32⟩
  | 61 => ⟨S2x16x2048x2048, .f32⟩
  | 62 => ⟨S2x16x2048x2048, .i1⟩
  | 63 => ⟨S2x16x2048x2048, .f32⟩
  | 64 => ⟨S_, .f32⟩
  | 65 => ⟨S2x16x2048, .f32⟩
  | 66 => ⟨S_, .f32⟩
  | 67 => ⟨S2x16x2048, .f32⟩
  | 68 => ⟨S2x16x2048, .f32⟩
  | 69 => ⟨S_, .f32⟩
  | 70 => ⟨S2x16x2048, .f32⟩
  | 71 => ⟨S2x16x2048, .i1⟩
  | 72 => ⟨S_, .f32⟩
  | 73 => ⟨S2x16x2048, .f32⟩
  | 74 => ⟨S2x16x2048, .i1⟩
  | 75 => ⟨S_, .f32⟩
  | 76 => ⟨S2x16x2048, .f32⟩
  | 77 => ⟨S_, .f32⟩
  | 78 => ⟨S2x16x2048, .f32⟩
  | 79 => ⟨S_, .f32⟩
  | 80 => ⟨S2x16x2048, .f32⟩
  | 81 => ⟨S2x16x2048, .f32⟩
  | 82 => ⟨S2x16x2048, .f32⟩
  | 83 => ⟨S2x16x2048x1, .f32⟩
  | 84 => ⟨S2x16x2048x2048, .f32⟩
  | 85 => ⟨S2x16x2048x2048, .f32⟩
  | 86 => ⟨S2x16x2048x2048, .f32⟩
  | 87 => ⟨S_, .f32⟩
  | 88 => ⟨S2x16x2048, .f32⟩
  | 89 => ⟨S2x16x2048x1, .f32⟩
  | 90 => ⟨S2x16x2048x2048, .f32⟩
  | 91 => ⟨S2x16x2048x2048, .f32⟩
  | 92 => ⟨S2x16x2048x1, .f32⟩
  | 93 => ⟨S_, .f32⟩
  | 94 => ⟨S2x16x2048x1, .f32⟩
  | 95 => ⟨S2x16x2048x1, .f32⟩
  | 96 => ⟨S2x16x64x2048, .f32⟩
  | 97 => ⟨S2x2048x16x64, .f32⟩
  | 98 => ⟨S2x2048x1024, .f32⟩
  | 99 => ⟨S2x2048x16x64, .f32⟩
  | 100 => ⟨S2x16x64x2048, .f32⟩
  | 101 => ⟨S2x16x2048x2048, .f32⟩
  | 102 => ⟨S2x16x64x2048, .f32⟩
  | 103 => ⟨S2x2048x16x64, .f32⟩
  | 104 => ⟨S2x16x2048x2048, .f32⟩
  | 105 => ⟨S2x16x2048x2048, .f32⟩
  | 106 => ⟨S2x16x2048x2048, .f32⟩
  | 107 => ⟨S_, .f32⟩
  | 108 => ⟨S2x16x2048, .f32⟩
  | 109 => ⟨S2x16x2048x1, .f32⟩
  | 110 => ⟨S2x16x2048x1, .f32⟩
  | 111 => ⟨S2x16x2048x2048, .f32⟩
  | 112 => ⟨S2x16x2048x2048, .f32⟩
  | 113 => ⟨S_, .f32⟩
  | 114 => ⟨S2x16x2048, .f32⟩
  | 115 => ⟨S2x16x2048x2048, .f32⟩
  | 116 => ⟨S2x16x2048x2048, .f32⟩
  | 117 => ⟨S2x16x2048x2048, .f32⟩
  | 118 => ⟨S_, .f32⟩
  | 119 => ⟨S2x16x2048x2048, .f32⟩
  | 120 => ⟨S2x16x2048x2048, .f32⟩
  | 121 => ⟨S_, .f32⟩
  | 122 => ⟨S16x2048x2048, .f32⟩
  | 123 => ⟨S1x16x2048x2048, .f32⟩
  | 124 => ⟨S_, .f32⟩
  | 125 => ⟨S16x2048x2048, .f32⟩
  | 126 => ⟨S_, .f32⟩
  | 127 => ⟨S2x16x2048x2048, .f32⟩
  | _ => ⟨S2x2048x4096, .f32⟩

abbrev hbmTy0_2 (i : Nat) : BufTy := match i % 128 with
  | 0 => ⟨S2x16x2048x2048, .f32⟩
  | 1 => ⟨S2x16x2048x64, .f32⟩
  | 2 => ⟨S2x2048x16x64, .f32⟩
  | 3 => ⟨S2x16x2048x64, .f32⟩
  | 4 => ⟨S2x2048x16x64, .f32⟩
  | 5 => ⟨S16x256x2048, .f32⟩
  | 6 => ⟨S16x256x2048, .f32⟩
  | 7 => ⟨S16x256x2048, .f32⟩
  | 8 => ⟨S16x256x2048, .f32⟩
  | 9 => ⟨S16x256x2048, .f32⟩
  | 10 => ⟨S16x256x2048, .f32⟩
  | 11 => ⟨S16x256x2048, .f32⟩
  | 12 => ⟨S16x256x2048, .f32⟩
  | 13 => ⟨S_, .f32⟩
  | 14 => ⟨S16x256x2560, .f32⟩
  | 15 => ⟨S16x256x1792, .f32⟩
  | 16 => ⟨S16x256x768, .f32⟩
  | 17 => ⟨S16x256x0, .f32⟩
  | 18 => ⟨S_, .f32⟩
  | 19 => ⟨S16x256x2560, .f32⟩
  | 20 => ⟨S16x256x1536, .f32⟩
  | 21 => ⟨S16x256x768, .f32⟩
  | 22 => ⟨S16x256x256, .f32⟩
  | 23 => ⟨S16x256x768, .f32⟩
  | 24 => ⟨S_, .f32⟩
  | 25 => ⟨S16x256x2560, .f32⟩
  | 26 => ⟨S16x256x1280, .f32⟩
  | 27 => ⟨S16x256x768, .f32⟩
  | 28 => ⟨S16x256x512, .f32⟩
  | 29 => ⟨S16x256x768, .f32⟩
  | 30 => ⟨S_, .f32⟩
  | 31 => ⟨S16x256x2560, .f32⟩
  | 32 => ⟨S16x256x1024, .f32⟩
  | 33 => ⟨S16x256x768, .f32⟩
  | 34 => ⟨S16x256x768, .f32⟩
  | 35 => ⟨S16x256x768, .f32⟩
  | 36 => ⟨S_, .f32⟩
  | 37 => ⟨S16x256x2560, .f32⟩
  | 38 => ⟨S16x256x768, .f32⟩
  | 39 => ⟨S16x256x768, .f32⟩
  | 40 => ⟨S16x256x1024, .f32⟩
  | 41 => ⟨S16x256x768, .f32⟩
  | 42 => ⟨S_, .f32⟩
  | 43 => ⟨S16x256x2560, .f32⟩
  | 44 => ⟨S16x256x512, .f32⟩
  | 45 => ⟨S16x256x768, .f32⟩
  | 46 => ⟨S16x256x1280, .f32⟩
  | 47 => ⟨S16x256x768, .f32⟩
  | 48 => ⟨S_, .f32⟩
  | 49 => ⟨S16x256x2560, .f32⟩
  | 50 => ⟨S16x256x256, .f32⟩
  | 51 => ⟨S16x256x768, .f32⟩
  | 52 => ⟨S16x256x1536, .f32⟩
  | 53 => ⟨S16x256x768, .f32⟩
  | 54 => ⟨S_, .f32⟩
  | 55 => ⟨S16x256x2560, .f32⟩
  | 56 => ⟨S16x256x0, .f32⟩
  | 57 => ⟨S16x256x768, .f32⟩
  | 58 => ⟨S16x256x1792, .f32⟩
  | 59 => ⟨S16x256x768, .f32⟩
  | 60 => ⟨S2x2048x1024, .f32⟩
  | 61 => ⟨S_, .i32⟩
  | 62 => ⟨S_, .f32⟩
  | 63 => ⟨S2x2048x4096, .f32⟩
  | 64 => ⟨S2x2048x4096, .bf16⟩
  | 65 => ⟨S2x2048x1024, .f32⟩
  | 66 => ⟨S2x2048x1024, .bf16⟩
  | 67 => ⟨S2x2048x1024, .f32⟩
  | 68 => ⟨S2x2048x1024, .bf16⟩
  | _ => ⟨S2x2048x4096, .f32⟩

abbrev hbmTy (i : Nat) : BufTy := match i / 128 with
  | 0 => hbmTy0_0 i
  | 1 => hbmTy0_1 i
  | 2 => hbmTy0_2 i
  | _ => ⟨S2x2048x4096, .f32⟩

abbrev bufTy : (tb : Table) → Fin (tcTables nBuf tb) → BufTy
  | .hbm, ⟨i, _⟩ => hbmTy i
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c_0 : Ref sig .tc := ⟨.hbm, 19, rfl⟩
abbrev main_c_1 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_cst_9 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_cst_11 : Ref sig .tc := ⟨.hbm, 59, rfl⟩
abbrev main_v38 : Ref sig .tc := ⟨.hbm, 60, rfl⟩
abbrev main_v39 : Ref sig .tc := ⟨.hbm, 61, rfl⟩
abbrev main_cst_12 : Ref sig .tc := ⟨.hbm, 62, rfl⟩
abbrev main_v40 : Ref sig .tc := ⟨.hbm, 63, rfl⟩
abbrev main_cst_13 : Ref sig .tc := ⟨.hbm, 64, rfl⟩
abbrev main_v41 : Ref sig .tc := ⟨.hbm, 65, rfl⟩
abbrev main_v42 : Ref sig .tc := ⟨.hbm, 66, rfl⟩
abbrev main_cst_14 : Ref sig .tc := ⟨.hbm, 67, rfl⟩
abbrev main_v43 : Ref sig .tc := ⟨.hbm, 68, rfl⟩
abbrev main_cst_15 : Ref sig .tc := ⟨.hbm, 69, rfl⟩
abbrev main_v44 : Ref sig .tc := ⟨.hbm, 70, rfl⟩
abbrev main_v45 : Ref sig .tc := ⟨.hbm, 71, rfl⟩
abbrev main_cst_16 : Ref sig .tc := ⟨.hbm, 72, rfl⟩
abbrev main_v46 : Ref sig .tc := ⟨.hbm, 73, rfl⟩
abbrev main_cst_17 : Ref sig .tc := ⟨.hbm, 74, rfl⟩
abbrev main_v47 : Ref sig .tc := ⟨.hbm, 75, rfl⟩
abbrev main_v48 : Ref sig .tc := ⟨.hbm, 76, rfl⟩
abbrev main_cst_18 : Ref sig .tc := ⟨.hbm, 77, rfl⟩
abbrev main_v49 : Ref sig .tc := ⟨.hbm, 78, rfl⟩
abbrev main_cst_19 : Ref sig .tc := ⟨.hbm, 79, rfl⟩
abbrev main_v50 : Ref sig .tc := ⟨.hbm, 80, rfl⟩
abbrev main_v51 : Ref sig .tc := ⟨.hbm, 81, rfl⟩
abbrev main_cst_20 : Ref sig .tc := ⟨.hbm, 82, rfl⟩
abbrev main_v52 : Ref sig .tc := ⟨.hbm, 83, rfl⟩
abbrev main_cst_21 : Ref sig .tc := ⟨.hbm, 84, rfl⟩
abbrev main_v53 : Ref sig .tc := ⟨.hbm, 85, rfl⟩
abbrev main_v54 : Ref sig .tc := ⟨.hbm, 86, rfl⟩
abbrev main_cst_22 : Ref sig .tc := ⟨.hbm, 87, rfl⟩
abbrev main_v55 : Ref sig .tc := ⟨.hbm, 88, rfl⟩
abbrev main_cst_23 : Ref sig .tc := ⟨.hbm, 89, rfl⟩
abbrev main_v56 : Ref sig .tc := ⟨.hbm, 90, rfl⟩
abbrev main_v57 : Ref sig .tc := ⟨.hbm, 91, rfl⟩
abbrev main_cst_24 : Ref sig .tc := ⟨.hbm, 92, rfl⟩
abbrev main_v58 : Ref sig .tc := ⟨.hbm, 93, rfl⟩
abbrev main_cst_25 : Ref sig .tc := ⟨.hbm, 94, rfl⟩
abbrev main_v59 : Ref sig .tc := ⟨.hbm, 95, rfl⟩
abbrev main_v60 : Ref sig .tc := ⟨.hbm, 96, rfl⟩
abbrev main_cst_26 : Ref sig .tc := ⟨.hbm, 97, rfl⟩
abbrev main_v61 : Ref sig .tc := ⟨.hbm, 98, rfl⟩
abbrev main_cst_27 : Ref sig .tc := ⟨.hbm, 99, rfl⟩
abbrev main_v62 : Ref sig .tc := ⟨.hbm, 100, rfl⟩
abbrev main_v63 : Ref sig .tc := ⟨.hbm, 101, rfl⟩
abbrev main_cst_28 : Ref sig .tc := ⟨.hbm, 102, rfl⟩
abbrev main_v64 : Ref sig .tc := ⟨.hbm, 103, rfl⟩
abbrev main_cst_29 : Ref sig .tc := ⟨.hbm, 104, rfl⟩
abbrev main_v65 : Ref sig .tc := ⟨.hbm, 105, rfl⟩
abbrev main_v66 : Ref sig .tc := ⟨.hbm, 106, rfl⟩
abbrev main_cst_30 : Ref sig .tc := ⟨.hbm, 107, rfl⟩
abbrev main_v67 : Ref sig .tc := ⟨.hbm, 108, rfl⟩
abbrev main_cst_31 : Ref sig .tc := ⟨.hbm, 109, rfl⟩
abbrev main_v68 : Ref sig .tc := ⟨.hbm, 110, rfl⟩
abbrev main_v69 : Ref sig .tc := ⟨.hbm, 111, rfl⟩
abbrev main_cst_32 : Ref sig .tc := ⟨.hbm, 112, rfl⟩
abbrev main_v70 : Ref sig .tc := ⟨.hbm, 113, rfl⟩
abbrev main_cst_33 : Ref sig .tc := ⟨.hbm, 114, rfl⟩
abbrev main_v71 : Ref sig .tc := ⟨.hbm, 115, rfl⟩
abbrev main_v72 : Ref sig .tc := ⟨.hbm, 116, rfl⟩
abbrev main_cst_34 : Ref sig .tc := ⟨.hbm, 117, rfl⟩
abbrev main_v73 : Ref sig .tc := ⟨.hbm, 118, rfl⟩
abbrev main_cst_35 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_c_36 : Ref sig .tc := ⟨.hbm, 124, rfl⟩
abbrev main_call1_v0 : Ref sig .tc := ⟨.hbm, 125, rfl⟩
abbrev main_call1_v1 : Ref sig .tc := ⟨.hbm, 126, rfl⟩
abbrev main_call1_v2 : Ref sig .tc := ⟨.hbm, 127, rfl⟩
abbrev main_call1_v3 : Ref sig .tc := ⟨.hbm, 128, rfl⟩
abbrev main_call1_v4 : Ref sig .tc := ⟨.hbm, 129, rfl⟩
abbrev main_call1_v5 : Ref sig .tc := ⟨.hbm, 130, rfl⟩
abbrev main_call1_v6 : Ref sig .tc := ⟨.hbm, 131, rfl⟩
abbrev main_call1_v7 : Ref sig .tc := ⟨.hbm, 132, rfl⟩
abbrev main_call1_v8 : Ref sig .tc := ⟨.hbm, 133, rfl⟩
abbrev main_call1_c : Ref sig .tc := ⟨.hbm, 134, rfl⟩
abbrev main_call1_v9 : Ref sig .tc := ⟨.hbm, 135, rfl⟩
abbrev main_call1_v10 : Ref sig .tc := ⟨.hbm, 136, rfl⟩
abbrev main_call1_v11 : Ref sig .tc := ⟨.hbm, 137, rfl⟩
abbrev main_call1_c_0 : Ref sig .tc := ⟨.hbm, 138, rfl⟩
abbrev main_call1_v12 : Ref sig .tc := ⟨.hbm, 139, rfl⟩
abbrev main_call1_v13 : Ref sig .tc := ⟨.hbm, 140, rfl⟩
abbrev main_v78 : Ref sig .tc := ⟨.hbm, 141, rfl⟩
abbrev main_v79 : Ref sig .tc := ⟨.hbm, 142, rfl⟩
abbrev main_c_37 : Ref sig .tc := ⟨.hbm, 143, rfl⟩
abbrev main_call2_v0 : Ref sig .tc := ⟨.hbm, 144, rfl⟩
abbrev main_call2_v1 : Ref sig .tc := ⟨.hbm, 145, rfl⟩
abbrev main_call2_v2 : Ref sig .tc := ⟨.hbm, 146, rfl⟩
abbrev main_call2_v3 : Ref sig .tc := ⟨.hbm, 147, rfl⟩
abbrev main_call2_v4 : Ref sig .tc := ⟨.hbm, 148, rfl⟩
abbrev main_call2_v5 : Ref sig .tc := ⟨.hbm, 149, rfl⟩
abbrev main_call2_v6 : Ref sig .tc := ⟨.hbm, 150, rfl⟩
abbrev main_call2_v7 : Ref sig .tc := ⟨.hbm, 151, rfl⟩
abbrev main_call2_v8 : Ref sig .tc := ⟨.hbm, 152, rfl⟩
abbrev main_call2_c : Ref sig .tc := ⟨.hbm, 153, rfl⟩
abbrev main_call2_v9 : Ref sig .tc := ⟨.hbm, 154, rfl⟩
abbrev main_call2_v10 : Ref sig .tc := ⟨.hbm, 155, rfl⟩
abbrev main_call2_v11 : Ref sig .tc := ⟨.hbm, 156, rfl⟩
abbrev main_call2_c_0 : Ref sig .tc := ⟨.hbm, 157, rfl⟩
abbrev main_call2_v12 : Ref sig .tc := ⟨.hbm, 158, rfl⟩
abbrev main_call2_v13 : Ref sig .tc := ⟨.hbm, 159, rfl⟩
abbrev main_v80 : Ref sig .tc := ⟨.hbm, 160, rfl⟩
abbrev main_v81 : Ref sig .tc := ⟨.hbm, 161, rfl⟩
abbrev main_v82 : Ref sig .tc := ⟨.hbm, 162, rfl⟩
abbrev main_v83 : Ref sig .tc := ⟨.hbm, 163, rfl⟩
abbrev main_c_38 : Ref sig .tc := ⟨.hbm, 164, rfl⟩
abbrev main_v84 : Ref sig .tc := ⟨.hbm, 165, rfl⟩
abbrev main_v85 : Ref sig .tc := ⟨.hbm, 166, rfl⟩
abbrev main_v86 : Ref sig .tc := ⟨.hbm, 167, rfl⟩
abbrev main_v87 : Ref sig .tc := ⟨.hbm, 168, rfl⟩
abbrev main_v88 : Ref sig .tc := ⟨.hbm, 169, rfl⟩
abbrev main_v89 : Ref sig .tc := ⟨.hbm, 170, rfl⟩
abbrev main_v90 : Ref sig .tc := ⟨.hbm, 171, rfl⟩
abbrev main_cst_39 : Ref sig .tc := ⟨.hbm, 172, rfl⟩
abbrev main_v91 : Ref sig .tc := ⟨.hbm, 173, rfl⟩
abbrev main_v92 : Ref sig .tc := ⟨.hbm, 174, rfl⟩
abbrev main_v93 : Ref sig .tc := ⟨.hbm, 175, rfl⟩
abbrev main_v94 : Ref sig .tc := ⟨.hbm, 176, rfl⟩
abbrev main_v95 : Ref sig .tc := ⟨.hbm, 177, rfl⟩
abbrev main_v96 : Ref sig .tc := ⟨.hbm, 178, rfl⟩
abbrev main_cst_40 : Ref sig .tc := ⟨.hbm, 179, rfl⟩
abbrev main_call3_v0 : Ref sig .tc := ⟨.hbm, 180, rfl⟩
abbrev main_v97_1 : Ref sig .tc := ⟨.hbm, 181, rfl⟩
abbrev main_call3_v2 : Ref sig .tc := ⟨.hbm, 182, rfl⟩
abbrev main_v97_0 : Ref sig .tc := ⟨.hbm, 183, rfl⟩
abbrev main_call3_cst : Ref sig .tc := ⟨.hbm, 184, rfl⟩
abbrev main_v97_2 : Ref sig .tc := ⟨.hbm, 185, rfl⟩
abbrev main_cst_41 : Ref sig .tc := ⟨.hbm, 186, rfl⟩
abbrev main_v98 : Ref sig .tc := ⟨.hbm, 187, rfl⟩
abbrev main_v99 : Ref sig .tc := ⟨.hbm, 188, rfl⟩
abbrev main_v100 : Ref sig .tc := ⟨.hbm, 189, rfl⟩
abbrev main_v101 : Ref sig .tc := ⟨.hbm, 190, rfl⟩
abbrev main_v102 : Ref sig .tc := ⟨.hbm, 191, rfl⟩
abbrev main_cst_42 : Ref sig .tc := ⟨.hbm, 192, rfl⟩
abbrev main_v103 : Ref sig .tc := ⟨.hbm, 193, rfl⟩
abbrev main_cst_43 : Ref sig .tc := ⟨.hbm, 194, rfl⟩
abbrev main_v104 : Ref sig .tc := ⟨.hbm, 195, rfl⟩
abbrev main_v105 : Ref sig .tc := ⟨.hbm, 196, rfl⟩
abbrev main_cst_44 : Ref sig .tc := ⟨.hbm, 197, rfl⟩
abbrev main_v106 : Ref sig .tc := ⟨.hbm, 198, rfl⟩
abbrev main_v107 : Ref sig .tc := ⟨.hbm, 199, rfl⟩
abbrev main_cst_45 : Ref sig .tc := ⟨.hbm, 200, rfl⟩
abbrev main_v108 : Ref sig .tc := ⟨.hbm, 201, rfl⟩
abbrev main_v109 : Ref sig .tc := ⟨.hbm, 202, rfl⟩
abbrev main_cst_46 : Ref sig .tc := ⟨.hbm, 203, rfl⟩
abbrev main_v110 : Ref sig .tc := ⟨.hbm, 204, rfl⟩
abbrev main_cst_47 : Ref sig .tc := ⟨.hbm, 205, rfl⟩
abbrev main_v111 : Ref sig .tc := ⟨.hbm, 206, rfl⟩
abbrev main_cst_48 : Ref sig .tc := ⟨.hbm, 207, rfl⟩
abbrev main_v112 : Ref sig .tc := ⟨.hbm, 208, rfl⟩
abbrev main_v113 : Ref sig .tc := ⟨.hbm, 209, rfl⟩
abbrev main_v114 : Ref sig .tc := ⟨.hbm, 210, rfl⟩
abbrev main_v115 : Ref sig .tc := ⟨.hbm, 211, rfl⟩
abbrev main_v116 : Ref sig .tc := ⟨.hbm, 212, rfl⟩
abbrev main_v117 : Ref sig .tc := ⟨.hbm, 213, rfl⟩
abbrev main_v118 : Ref sig .tc := ⟨.hbm, 214, rfl⟩
abbrev main_cst_49 : Ref sig .tc := ⟨.hbm, 215, rfl⟩
abbrev main_v119 : Ref sig .tc := ⟨.hbm, 216, rfl⟩
abbrev main_v120 : Ref sig .tc := ⟨.hbm, 217, rfl⟩
abbrev main_v121 : Ref sig .tc := ⟨.hbm, 218, rfl⟩
abbrev main_v122 : Ref sig .tc := ⟨.hbm, 219, rfl⟩
abbrev main_v123 : Ref sig .tc := ⟨.hbm, 220, rfl⟩
abbrev main_cst_50 : Ref sig .tc := ⟨.hbm, 221, rfl⟩
abbrev main_v124 : Ref sig .tc := ⟨.hbm, 222, rfl⟩
abbrev main_v125 : Ref sig .tc := ⟨.hbm, 223, rfl⟩
abbrev main_v126 : Ref sig .tc := ⟨.hbm, 224, rfl⟩
abbrev main_v127 : Ref sig .tc := ⟨.hbm, 225, rfl⟩
abbrev main_v128 : Ref sig .tc := ⟨.hbm, 226, rfl⟩
abbrev main_v129 : Ref sig .tc := ⟨.hbm, 227, rfl⟩
abbrev main_v130 : Ref sig .tc := ⟨.hbm, 228, rfl⟩
abbrev main_v131 : Ref sig .tc := ⟨.hbm, 229, rfl⟩
abbrev main_v132 : Ref sig .tc := ⟨.hbm, 230, rfl⟩
abbrev main_v133 : Ref sig .tc := ⟨.hbm, 231, rfl⟩
abbrev main_v134 : Ref sig .tc := ⟨.hbm, 232, rfl⟩
abbrev main_v135 : Ref sig .tc := ⟨.hbm, 233, rfl⟩
abbrev main_v136 : Ref sig .tc := ⟨.hbm, 234, rfl⟩
abbrev main_cst_51 : Ref sig .tc := ⟨.hbm, 235, rfl⟩
abbrev main_v137 : Ref sig .tc := ⟨.hbm, 236, rfl⟩
abbrev main_v138 : Ref sig .tc := ⟨.hbm, 237, rfl⟩
abbrev main_v139 : Ref sig .tc := ⟨.hbm, 238, rfl⟩
abbrev main_v140 : Ref sig .tc := ⟨.hbm, 239, rfl⟩
abbrev main_v141 : Ref sig .tc := ⟨.hbm, 240, rfl⟩
abbrev main_cst_52 : Ref sig .tc := ⟨.hbm, 241, rfl⟩
abbrev main_v142 : Ref sig .tc := ⟨.hbm, 242, rfl⟩
abbrev main_v143 : Ref sig .tc := ⟨.hbm, 243, rfl⟩
abbrev main_v144 : Ref sig .tc := ⟨.hbm, 244, rfl⟩
abbrev main_v145 : Ref sig .tc := ⟨.hbm, 245, rfl⟩
abbrev main_call4_cst : Ref sig .tc := ⟨.hbm, 246, rfl⟩
abbrev main_call4_v0 : Ref sig .tc := ⟨.hbm, 247, rfl⟩
abbrev main_v146 : Ref sig .tc := ⟨.hbm, 248, rfl⟩
abbrev main_cst_53 : Ref sig .tc := ⟨.hbm, 249, rfl⟩
abbrev main_v147 : Ref sig .tc := ⟨.hbm, 250, rfl⟩
abbrev main_v148 : Ref sig .tc := ⟨.hbm, 251, rfl⟩
abbrev main_cst_54 : Ref sig .tc := ⟨.hbm, 252, rfl⟩
abbrev main_v149 : Ref sig .tc := ⟨.hbm, 253, rfl⟩
abbrev main_cst_55 : Ref sig .tc := ⟨.hbm, 254, rfl⟩
abbrev main_v150 : Ref sig .tc := ⟨.hbm, 255, rfl⟩
abbrev main_v151 : Ref sig .tc := ⟨.hbm, 256, rfl⟩
abbrev main_v152 : Ref sig .tc := ⟨.hbm, 257, rfl⟩
abbrev main_v153 : Ref sig .tc := ⟨.hbm, 258, rfl⟩
abbrev main_v154 : Ref sig .tc := ⟨.hbm, 259, rfl⟩
abbrev main_v155 : Ref sig .tc := ⟨.hbm, 260, rfl⟩
abbrev main_v156 : Ref sig .tc := ⟨.hbm, 261, rfl⟩
abbrev main_v157 : Ref sig .tc := ⟨.hbm, 262, rfl⟩
abbrev main_v158 : Ref sig .tc := ⟨.hbm, 263, rfl⟩
abbrev main_v159 : Ref sig .tc := ⟨.hbm, 264, rfl⟩
abbrev main_v160 : Ref sig .tc := ⟨.hbm, 265, rfl⟩
abbrev main_v161 : Ref sig .tc := ⟨.hbm, 266, rfl⟩
abbrev main_v162 : Ref sig .tc := ⟨.hbm, 267, rfl⟩
abbrev main_v163 : Ref sig .tc := ⟨.hbm, 268, rfl⟩
abbrev main_cst_56 : Ref sig .tc := ⟨.hbm, 269, rfl⟩
abbrev main_v164 : Ref sig .tc := ⟨.hbm, 270, rfl⟩
abbrev main_v165 : Ref sig .tc := ⟨.hbm, 271, rfl⟩
abbrev main_v166 : Ref sig .tc := ⟨.hbm, 272, rfl⟩
abbrev main_v167 : Ref sig .tc := ⟨.hbm, 273, rfl⟩
abbrev main_cst_57 : Ref sig .tc := ⟨.hbm, 274, rfl⟩
abbrev main_v168 : Ref sig .tc := ⟨.hbm, 275, rfl⟩
abbrev main_v169 : Ref sig .tc := ⟨.hbm, 276, rfl⟩
abbrev main_v170 : Ref sig .tc := ⟨.hbm, 277, rfl⟩
abbrev main_v171 : Ref sig .tc := ⟨.hbm, 278, rfl⟩
abbrev main_v172 : Ref sig .tc := ⟨.hbm, 279, rfl⟩
abbrev main_cst_58 : Ref sig .tc := ⟨.hbm, 280, rfl⟩
abbrev main_v173 : Ref sig .tc := ⟨.hbm, 281, rfl⟩
abbrev main_v174 : Ref sig .tc := ⟨.hbm, 282, rfl⟩
abbrev main_v175 : Ref sig .tc := ⟨.hbm, 283, rfl⟩
abbrev main_v176 : Ref sig .tc := ⟨.hbm, 284, rfl⟩
abbrev main_v177 : Ref sig .tc := ⟨.hbm, 285, rfl⟩
abbrev main_cst_59 : Ref sig .tc := ⟨.hbm, 286, rfl⟩
abbrev main_v178 : Ref sig .tc := ⟨.hbm, 287, rfl⟩
abbrev main_v179 : Ref sig .tc := ⟨.hbm, 288, rfl⟩
abbrev main_v180 : Ref sig .tc := ⟨.hbm, 289, rfl⟩
abbrev main_v181 : Ref sig .tc := ⟨.hbm, 290, rfl⟩
abbrev main_v182 : Ref sig .tc := ⟨.hbm, 291, rfl⟩
abbrev main_cst_60 : Ref sig .tc := ⟨.hbm, 292, rfl⟩
abbrev main_v183 : Ref sig .tc := ⟨.hbm, 293, rfl⟩
abbrev main_v184 : Ref sig .tc := ⟨.hbm, 294, rfl⟩
abbrev main_v185 : Ref sig .tc := ⟨.hbm, 295, rfl⟩
abbrev main_v186 : Ref sig .tc := ⟨.hbm, 296, rfl⟩
abbrev main_v187 : Ref sig .tc := ⟨.hbm, 297, rfl⟩
abbrev main_cst_61 : Ref sig .tc := ⟨.hbm, 298, rfl⟩
abbrev main_v188 : Ref sig .tc := ⟨.hbm, 299, rfl⟩
abbrev main_v189 : Ref sig .tc := ⟨.hbm, 300, rfl⟩
abbrev main_v190 : Ref sig .tc := ⟨.hbm, 301, rfl⟩
abbrev main_v191 : Ref sig .tc := ⟨.hbm, 302, rfl⟩
abbrev main_v192 : Ref sig .tc := ⟨.hbm, 303, rfl⟩
abbrev main_cst_62 : Ref sig .tc := ⟨.hbm, 304, rfl⟩
abbrev main_v193 : Ref sig .tc := ⟨.hbm, 305, rfl⟩
abbrev main_v194 : Ref sig .tc := ⟨.hbm, 306, rfl⟩
abbrev main_v195 : Ref sig .tc := ⟨.hbm, 307, rfl⟩
abbrev main_v196 : Ref sig .tc := ⟨.hbm, 308, rfl⟩
abbrev main_v197 : Ref sig .tc := ⟨.hbm, 309, rfl⟩
abbrev main_cst_63 : Ref sig .tc := ⟨.hbm, 310, rfl⟩
abbrev main_v198 : Ref sig .tc := ⟨.hbm, 311, rfl⟩
abbrev main_v199 : Ref sig .tc := ⟨.hbm, 312, rfl⟩
abbrev main_v200 : Ref sig .tc := ⟨.hbm, 313, rfl⟩
abbrev main_v201 : Ref sig .tc := ⟨.hbm, 314, rfl⟩
abbrev main_v202 : Ref sig .tc := ⟨.hbm, 315, rfl⟩
abbrev main_v203 : Ref sig .tc := ⟨.hbm, 316, rfl⟩
abbrev main_c_64 : Ref sig .tc := ⟨.hbm, 317, rfl⟩
abbrev main_call5_v0 : Ref sig .tc := ⟨.hbm, 318, rfl⟩
abbrev main_v204 : Ref sig .tc := ⟨.hbm, 319, rfl⟩
abbrev main_v205 : Ref sig .tc := ⟨.hbm, 320, rfl⟩
abbrev main_v206 : Ref sig .tc := ⟨.hbm, 321, rfl⟩
abbrev main_v207 : Ref sig .tc := ⟨.hbm, 322, rfl⟩
abbrev main_v208 : Ref sig .tc := ⟨.hbm, 323, rfl⟩
abbrev main_v209 : Ref sig .tc := ⟨.hbm, 324, rfl⟩

abbrev nD : Nat := 1
abbrev τ : Topo := Topo.v7x

variable {F : FTy → Type} [FloatOps F]
-- ==== Kernel2.lean ====
abbrev S4096x2048 : Shape := ⟨2, ![4096, 2048]⟩
abbrev S5632x2048 : Shape := ⟨2, ![5632, 2048]⟩
abbrev S4096x5632 : Shape := ⟨2, ![4096, 5632]⟩
abbrev S1024x2048 : Shape := ⟨2, ![1024, 2048]⟩
abbrev S1408x2048 : Shape := ⟨2, ![1408, 2048]⟩
abbrev S1024x1408 : Shape := ⟨2, ![1024, 1408]⟩
abbrev S256x2048 : Shape := ⟨2, ![256, 2048]⟩
abbrev S256x1408 : Shape := ⟨2, ![256, 1408]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .bf16⟩
  | .hbm, ⟨3, _⟩ => ⟨S4096x5632, .bf16⟩
  | .hbm, ⟨4, _⟩ => ⟨S4096x5632, .bf16⟩
  | .hbm, ⟨5, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S4096x2048 : Shape := ⟨2, ![4096, 2048]⟩
abbrev S5632x2048 : Shape := ⟨2, ![5632, 2048]⟩
abbrev S4096x5632 : Shape := ⟨2, ![4096, 5632]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .bf16⟩
  | .hbm, ⟨3, _⟩ => ⟨S4096x5632, .bf16⟩
  | .hbm, ⟨4, _⟩ => ⟨S4096x2048, .f32⟩
  | .hbm, ⟨5, _⟩ => ⟨S5632x2048, .f32⟩
  | .hbm, ⟨6, _⟩ => ⟨S4096x5632, .f32⟩
  | .hbm, ⟨7, _⟩ => ⟨S4096x5632, .f32⟩
  | .hbm, ⟨8, _⟩ => ⟨S4096x5632, .f32⟩
  | .hbm, ⟨9, _⟩ => ⟨S4096x5632, .f32⟩
  | .hbm, ⟨10, _⟩ => ⟨S_, .f32⟩
  | .hbm, ⟨11, _⟩ => ⟨S4096x5632, .f32⟩
  | .hbm, ⟨12, _⟩ => ⟨S4096x5632, .f32⟩
  | .hbm, ⟨13, _⟩ => ⟨S_, .f32⟩
  | .hbm, ⟨14, _⟩ => ⟨S4096x5632, .f32⟩
  | .hbm, ⟨15, _⟩ => ⟨S4096x5632, .f32⟩
  | .hbm, ⟨16, _⟩ => ⟨S_, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S4096x5632, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S4096x5632, .f32⟩
  | .hbm, ⟨33, _⟩ => ⟨S4096x5632, .f32⟩
  | .hbm, ⟨34, _⟩ => ⟨S4096x5632, .f32⟩
  | .hbm, ⟨35, _⟩ => ⟨S4096x5632, .f32⟩
  | .hbm, ⟨36, _⟩ => ⟨S4096x5632, .bf16⟩
  | .hbm, ⟨37, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v4_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v4_1 : Ref sig .tc := ⟨.hbm, 19, rfl⟩
abbrev main_v4_0 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩

abbrev nD : Nat := 1
abbrev τ : Topo := Topo.v7x

variable {F : FTy → Type} [FloatOps F]
-- ==== Kernel3.lean ====
abbrev S4096x5632 : Shape := ⟨2, ![4096, 5632]⟩
abbrev S4096x2048 : Shape := ⟨2, ![4096, 2048]⟩
abbrev S5632x2048 : Shape := ⟨2, ![5632, 2048]⟩
abbrev S4096x1408 : Shape := ⟨2, ![4096, 1408]⟩
abbrev S4096x512 : Shape := ⟨2, ![4096, 512]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S4096x1408, .bf16⟩
  | .local _ .vmem, ⟨1, _⟩ => ⟨S4096x1408, .bf16⟩
  | .local _ .vmem, ⟨2, _⟩ => ⟨S4096x512, .bf16⟩
  | .local _ .vmem, ⟨3, _⟩ => ⟨S4096x512, .bf16⟩
  | .local _ .vmem, ⟨4, _⟩ => ⟨S1408x512, .bf16⟩
  | .local _ .vmem, ⟨5, _⟩ => ⟨S1408x512, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 16
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S4096x5632, .f32⟩
  | .hbm, ⟨3, _⟩ => ⟨S4096x2048, .f32⟩
  | .hbm, ⟨4, _⟩ => ⟨S_, .f32⟩
  | .hbm, ⟨5, _⟩ => ⟨S5632x2048, .f32⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S2048x5632, .f32⟩
  | .hbm, ⟨14, _⟩ => ⟨S5632x2048, .f32⟩
  | .hbm, ⟨15, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel4.lean ====
abbrev S4096x5632 : Shape := ⟨2, ![4096, 5632]⟩
abbrev S4096x2048 : Shape := ⟨2, ![4096, 2048]⟩
abbrev S5632x2048 : Shape := ⟨2, ![5632, 2048]⟩
abbrev S4096x1408 : Shape := ⟨2, ![4096, 1408]⟩
abbrev S4096x512 : Shape := ⟨2, ![4096, 512]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S4096x1408, .bf16⟩
  | .local _ .vmem, ⟨1, _⟩ => ⟨S4096x1408, .bf16⟩
  | .local _ .vmem, ⟨2, _⟩ => ⟨S4096x512, .bf16⟩
  | .local _ .vmem, ⟨3, _⟩ => ⟨S4096x512, .bf16⟩
  | .local _ .vmem, ⟨4, _⟩ => ⟨S1408x512, .bf16⟩
  | .local _ .vmem, ⟨5, _⟩ => ⟨S1408x512, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 12
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S4096x5632, .f32⟩
  | .hbm, ⟨3, _⟩ => ⟨S4096x2048, .f32⟩
  | .hbm, ⟨4, _⟩ => ⟨S_, .f32⟩
  | .hbm, ⟨5, _⟩ => ⟨S5632x2048, .f32⟩
  | .hbm, ⟨6, _⟩ => ⟨S2048x5632, .f32⟩
  | .hbm, ⟨7, _⟩ => ⟨S4096x5632, .f32⟩
  | .hbm, ⟨8, _⟩ => ⟨S5632x2048, .f32⟩
  | .hbm, ⟨9, _⟩ => ⟨S2048x5632, .f32⟩
  | .hbm, ⟨10, _⟩ => ⟨S5632x2048, .f32⟩
  | .hbm, ⟨11, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S4096x5632 : Shape := ⟨2, ![4096, 5632]⟩
abbrev S5632x2048 : Shape := ⟨2, ![5632, 2048]⟩
abbrev S4096x2048 : Shape := ⟨2, ![4096, 2048]⟩
abbrev S1024x5632 : Shape := ⟨2, ![1024, 5632]⟩
abbrev S5632x512 : Shape := ⟨2, ![5632, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S4096x5632 : Shape := ⟨2, ![4096, 5632]⟩
abbrev S5632x2048 : Shape := ⟨2, ![5632, 2048]⟩
abbrev S_ : Shape := ⟨0, ![]⟩
abbrev S4096x2048 : Shape := ⟨2, ![4096, 2048]⟩
abbrev S2048x5632 : Shape := ⟨2, ![2048, 5632]⟩

abbrev nBuf : Space → Nat
  | .hbm => 9
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x5632, .f32⟩
  | .hbm, ⟨3, _⟩ => ⟨S5632x2048, .f32⟩
  | .hbm, ⟨4, _⟩ => ⟨S_, .f32⟩
  | .hbm, ⟨5, _⟩ => ⟨S4096x2048, .f32⟩
  | .hbm, ⟨6, _⟩ => ⟨S2048x5632, .f32⟩
  | .hbm, ⟨7, _⟩ => ⟨S4096x5632, .f32⟩
  | .hbm, ⟨8, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S4096x5632 : Shape := ⟨2, ![4096, 5632]⟩
abbrev S5632x2048 : Shape := ⟨2, ![5632, 2048]⟩
abbrev S4096x2048 : Shape := ⟨2, ![4096, 2048]⟩
abbrev S1024x5632 : Shape := ⟨2, ![1024, 5632]⟩
abbrev S5632x512 : Shape := ⟨2, ![5632, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x2048, .bf16⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .bf16⟩
  | .local _ .vmem, ⟨7, _⟩ => ⟨S1024x512, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S4096x5632 : Shape := ⟨2, ![4096, 5632]⟩
abbrev S5632x2048 : Shape := ⟨2, ![5632, 2048]⟩
abbrev S4096x2048 : Shape := ⟨2, ![4096, 2048]⟩
abbrev S_ : Shape := ⟨0, ![]⟩
abbrev S2048x5632 : Shape := ⟨2, ![2048, 5632]⟩

abbrev nBuf : Space → Nat
  | .hbm => 12
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x5632, .f32⟩
  | .hbm, ⟨4, _⟩ => ⟨S5632x2048, .f32⟩
  | .hbm, ⟨5, _⟩ => ⟨S_, .f32⟩
  | .hbm, ⟨6, _⟩ => ⟨S4096x2048, .f32⟩
  | .hbm, ⟨7, _⟩ => ⟨S2048x5632, .f32⟩
  | .hbm, ⟨8, _⟩ => ⟨S4096x5632, .f32⟩
  | .hbm, ⟨9, _⟩ => ⟨S4096x2048, .f32⟩
  | .hbm, ⟨10, _⟩ => ⟨S4096x2048, .f32⟩
  | .hbm, ⟨11, _⟩ => ⟨S4096x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel7.lean ====
abbrev S4096x5632 : Shape := ⟨2, ![4096, 5632]⟩
abbrev S5632x2048 : Shape := ⟨2, ![5632, 2048]⟩
abbrev S4096x2048 : Shape := ⟨2, ![4096, 2048]⟩
abbrev S1024x5632 : Shape := ⟨2, ![1024, 5632]⟩
abbrev S5632x512 : Shape := ⟨2, ![5632, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S4096x5632 : Shape := ⟨2, ![4096, 5632]⟩
abbrev S5632x2048 : Shape := ⟨2, ![5632, 2048]⟩
abbrev S4096x2048 : Shape := ⟨2, ![4096, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel8.lean ====
abbrev S4096x2048 : Shape := ⟨2, ![4096, 2048]⟩
abbrev S5632x2048 : Shape := ⟨2, ![5632, 2048]⟩
abbrev S4096x5632 : Shape := ⟨2, ![4096, 5632]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .bf16⟩
  | .local _ .vmem, ⟨5, _⟩ => ⟨S1024x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S4096x2048 : Shape := ⟨2, ![4096, 2048]⟩
abbrev S5632x2048 : Shape := ⟨2, ![5632, 2048]⟩
abbrev S2048x5632 : Shape := ⟨2, ![2048, 5632]⟩
abbrev S4096x5632 : Shape := ⟨2, ![4096, 5632]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x2048, .f32⟩
  | .hbm, ⟨3, _⟩ => ⟨S5632x2048, .f32⟩
  | .hbm, ⟨4, _⟩ => ⟨S2048x5632, .f32⟩
  | .hbm, ⟨5, _⟩ => ⟨S4096x5632, .f32⟩
  | .hbm, ⟨6, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel9.lean ====
abbrev S4096x2048 : Shape := ⟨2, ![4096, 2048]⟩
abbrev S5632x2048 : Shape := ⟨2, ![5632, 2048]⟩
abbrev S4096x5632 : Shape := ⟨2, ![4096, 5632]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 5
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .bf16⟩
  | .hbm, ⟨3, _⟩ => ⟨S4096x5632, .bf16⟩
  | .hbm, ⟨4, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference9Ideal.lean ====
abbrev S4096x2048 : Shape := ⟨2, ![4096, 2048]⟩
abbrev S5632x2048 : Shape := ⟨2, ![5632, 2048]⟩
abbrev S4096x5632 : Shape := ⟨2, ![4096, 5632]⟩
abbrev S2048x5632 : Shape := ⟨2, ![2048, 5632]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .bf16⟩
  | .hbm, ⟨3, _⟩ => ⟨S4096x2048, .f32⟩
  | .hbm, ⟨4, _⟩ => ⟨S5632x2048, .f32⟩
  | .hbm, ⟨5, _⟩ => ⟨S2048x5632, .f32⟩
  | .hbm, ⟨6, _⟩ => ⟨S4096x5632, .f32⟩
  | .hbm, ⟨7, _⟩ => ⟨S4096x5632, .bf16⟩
  | .hbm, ⟨8, _⟩ => ⟨S4096x5632, .f32⟩
  | .hbm, ⟨9, _⟩ => ⟨S4096x5632, .f32⟩
  | .hbm, ⟨10, _⟩ => ⟨S4096x5632, .f32⟩
  | .hbm, ⟨11, _⟩ => ⟨S_, .f32⟩
  | .hbm, ⟨12, _⟩ => ⟨S4096x5632, .f32⟩
  | .hbm, ⟨13, _⟩ => ⟨S4096x5632, .f32⟩
  | .hbm, ⟨14, _⟩ => ⟨S_, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== Kernel11.lean ====
abbrev S4096x2048 : Shape := ⟨2, ![4096, 2048]⟩
abbrev S8x2048x512 : Shape := ⟨3, ![8, 2048, 512]⟩
abbrev S4096x4096 : Shape := ⟨2, ![4096, 4096]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S8x2048x512, .bf16⟩
  | .hbm, ⟨2, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1024x512, .f32⟩
  | .local _ .vmem, ⟨5, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S4096x2048 : Shape := ⟨2, ![4096, 2048]⟩
abbrev S8x2048x512 : Shape := ⟨3, ![8, 2048, 512]⟩
abbrev S4096x8x512 : Shape := ⟨3, ![4096, 8, 512]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x512, .bf16⟩
  | .hbm, ⟨2, _⟩ => ⟨S4096x2048, .f32⟩
  | .hbm, ⟨3, _⟩ => ⟨S8x2048x512, .f32⟩
  | .hbm, ⟨4, _⟩ => ⟨S4096x8x512, .f32⟩
  | .hbm, ⟨5, _⟩ => ⟨S4096x4096, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel12.lean ====
abbrev S4096x2048 : Shape := ⟨2, ![4096, 2048]⟩
abbrev S4096x4096 : Shape := ⟨2, ![4096, 4096]⟩
abbrev S8x2048x512 : Shape := ⟨3, ![8, 2048, 512]⟩
abbrev S4096x1024 : Shape := ⟨2, ![4096, 1024]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S8x2048x512, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1x1024x512, .bf16⟩
  | .local _ .vmem, ⟨5, _⟩ => ⟨S1x1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S4096x2048 : Shape := ⟨2, ![4096, 2048]⟩
abbrev S4096x4096 : Shape := ⟨2, ![4096, 4096]⟩
abbrev S_ : Shape := ⟨0, ![]⟩
abbrev S8x2048x512 : Shape := ⟨3, ![8, 2048, 512]⟩
abbrev S4096x8x512 : Shape := ⟨3, ![4096, 8, 512]⟩
abbrev S8x512x2048 : Shape := ⟨3, ![8, 512, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S4096x2048, .f32⟩
  | .hbm, ⟨3, _⟩ => ⟨S4096x4096, .f32⟩
  | .hbm, ⟨4, _⟩ => ⟨S_, .f32⟩
  | .hbm, ⟨5, _⟩ => ⟨S8x2048x512, .f32⟩
  | .hbm, ⟨6, _⟩ => ⟨S4096x8x512, .f32⟩
  | .hbm, ⟨7, _⟩ => ⟨S4096x4096, .f32⟩
  | .hbm, ⟨8, _⟩ => ⟨S4096x8x512, .f32⟩
  | .hbm, ⟨9, _⟩ => ⟨S8x512x2048, .f32⟩
  | .hbm, ⟨10, _⟩ => ⟨S8x2048x512, .f32⟩
  | .hbm, ⟨11, _⟩ => ⟨S8x2048x512, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel13.lean ====
abbrev S4096x4096 : Shape := ⟨2, ![4096, 4096]⟩
abbrev S8x2048x512 : Shape := ⟨3, ![8, 2048, 512]⟩
abbrev S4096x2048 : Shape := ⟨2, ![4096, 2048]⟩
abbrev S1024x4096 : Shape := ⟨2, ![1024, 4096]⟩
abbrev S8x512x512 : Shape := ⟨3, ![8, 512, 512]⟩
abbrev S1024x512 : Shape := ⟨2, ![1024, 512]⟩
abbrev S1x512x512 : Shape := ⟨3, ![1, 512, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S8x2048x512, .bf16⟩
  | .hbm, ⟨2, _⟩ => ⟨S4096x2048, .bf16⟩
  | .local _ .vmem, ⟨0, _⟩ => ⟨S1024x4096, .bf16⟩
  | .local _ .vmem, ⟨1, _⟩ => ⟨S1024x4096, .bf16⟩
  | .local _ .vmem, ⟨2, _⟩ => ⟨S8x512x512, .bf16⟩
  | .local _ .vmem, ⟨3, _⟩ => ⟨S8x512x512, .bf16⟩
  | .local _ .vmem, ⟨4, _⟩ => ⟨S1024x512, .bf16⟩
  | .local _ .vmem, ⟨5, _⟩ => ⟨S1024x512, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S4096x4096 : Shape := ⟨2, ![4096, 4096]⟩
abbrev S8x2048x512 : Shape := ⟨3, ![8, 2048, 512]⟩
abbrev S_ : Shape := ⟨0, ![]⟩
abbrev S4096x2048 : Shape := ⟨2, ![4096, 2048]⟩
abbrev S4096x8x512 : Shape := ⟨3, ![4096, 8, 512]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S8x2048x512, .bf16⟩
  | .hbm, ⟨2, _⟩ => ⟨S4096x4096, .f32⟩
  | .hbm, ⟨3, _⟩ => ⟨S8x2048x512, .f32⟩
  | .hbm, ⟨4, _⟩ => ⟨S_, .f32⟩
  | .hbm, ⟨5, _⟩ => ⟨S4096x2048, .f32⟩
  | .hbm, ⟨6, _⟩ => ⟨S4096x8x512, .f32⟩
  | .hbm, ⟨7, _⟩ => ⟨S4096x4096, .f32⟩
  | .hbm, ⟨8, _⟩ => ⟨S4096x8x512, .f32⟩
  | .hbm, ⟨9, _⟩ => ⟨S4096x2048, .f32⟩
  | .hbm, ⟨10, _⟩ => ⟨S4096x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel14.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference14Ideal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel15.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference15Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel16.lean ====
abbrev S4096x2048 : Shape := ⟨2, ![4096, 2048]⟩
abbrev S2048x2048 : Shape := ⟨2, ![2048, 2048]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference16Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S2048x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel17.lean ====
abbrev S8x704x2048 : Shape := ⟨3, ![8, 704, 2048]⟩
abbrev S704x2048 : Shape := ⟨2, ![704, 2048]⟩
abbrev S8x176x2048 : Shape := ⟨3, ![8, 176, 2048]⟩
abbrev S176x2048 : Shape := ⟨2, ![176, 2048]⟩
abbrev S1x176x2048 : Shape := ⟨3, ![1, 176, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x704x2048, .bf16⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S704x2048, .f32⟩
  | .hbm, ⟨5, _⟩ => ⟨S704x2048, .f32⟩
  | .hbm, ⟨6, _⟩ => ⟨S704x2048, .f32⟩
  | .hbm, ⟨7, _⟩ => ⟨S704x2048, .f32⟩
  | .local _ .vmem, ⟨0, _⟩ => ⟨S8x176x2048, .bf16⟩
  | .local _ .vmem, ⟨1, _⟩ => ⟨S8x176x2048, .bf16⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S176x2048, .f32⟩
  | .local _ .vmem, ⟨7, _⟩ => ⟨S176x2048, .f32⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | .local _ .vmem, ⟨14, _⟩ => ⟨S176x2048, .f32⟩
  | .local _ .vmem, ⟨15, _⟩ => ⟨S176x2048, .f32⟩
  | _, _ => ⟨S8x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel17Ideal.lean ====
abbrev S8x704x2048 : Shape := ⟨3, ![8, 704, 2048]⟩
abbrev S704x2048 : Shape := ⟨2, ![704, 2048]⟩
abbrev S8x176x2048 : Shape := ⟨3, ![8, 176, 2048]⟩
abbrev S176x2048 : Shape := ⟨2, ![176, 2048]⟩
abbrev S1x176x2048 : Shape := ⟨3, ![1, 176, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x704x2048, .bf16⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S704x2048, .f32⟩
  | .hbm, ⟨5, _⟩ => ⟨S704x2048, .f32⟩
  | .hbm, ⟨6, _⟩ => ⟨S704x2048, .f32⟩
  | .hbm, ⟨7, _⟩ => ⟨S704x2048, .f32⟩
  | .local _ .vmem, ⟨0, _⟩ => ⟨S8x176x2048, .bf16⟩
  | .local _ .vmem, ⟨1, _⟩ => ⟨S8x176x2048, .bf16⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S176x2048, .f32⟩
  | .local _ .vmem, ⟨7, _⟩ => ⟨S176x2048, .f32⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | .local _ .vmem, ⟨14, _⟩ => ⟨S176x2048, .f32⟩
  | .local _ .vmem, ⟨15, _⟩ => ⟨S176x2048, .f32⟩
  | _, _ => ⟨S8x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference17Ideal.lean ====
abbrev S8x704x2048 : Shape := ⟨3, ![8, 704, 2048]⟩
abbrev S704x2048 : Shape := ⟨2, ![704, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x704x2048, .bf16⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S8x704x2048, .f32⟩
  | .hbm, ⟨5, _⟩ => ⟨S_, .f32⟩
  | .hbm, ⟨6, _⟩ => ⟨S704x2048, .f32⟩
  | .hbm, ⟨7, _⟩ => ⟨S_, .f32⟩
  | .hbm, ⟨8, _⟩ => ⟨S704x2048, .f32⟩
  | .hbm, ⟨9, _⟩ => ⟨S704x2048, .f32⟩
  | .hbm, ⟨10, _⟩ => ⟨S_, .f32⟩
  | .hbm, ⟨11, _⟩ => ⟨S704x2048, .f32⟩
  | .hbm, ⟨12, _⟩ => ⟨S704x2048, .f32⟩
  | .hbm, ⟨13, _⟩ => ⟨S704x2048, .f32⟩
  | .hbm, ⟨14, _⟩ => ⟨S_, .f32⟩
  | .hbm, ⟨15, _⟩ => ⟨S704x2048, .f32⟩
  | .hbm, ⟨16, _⟩ => ⟨S704x2048, .f32⟩
  | .hbm, ⟨17, _⟩ => ⟨S704x2048, .f32⟩
  | .hbm, ⟨18, _⟩ => ⟨S_, .f32⟩
  | .hbm, ⟨19, _⟩ => ⟨S704x2048, .f32⟩
  | .hbm, ⟨20, _⟩ => ⟨S704x2048, .f32⟩
  | .hbm, ⟨21, _⟩ => ⟨S704x2048, .f32⟩
  | .hbm, ⟨22, _⟩ => ⟨S_, .f32⟩
  | .hbm, ⟨23, _⟩ => ⟨S704x2048, .f32⟩
  | .hbm, ⟨24, _⟩ => ⟨S704x2048, .f32⟩
  | .hbm, ⟨25, _⟩ => ⟨S_, .f32⟩
  | .hbm, ⟨26, _⟩ => ⟨S704x2048, .f32⟩
  | .hbm, ⟨27, _⟩ => ⟨S704x2048, .f32⟩
  | .hbm, ⟨28, _⟩ => ⟨S704x2048, .f32⟩
  | .hbm, ⟨29, _⟩ => ⟨S_, .f32⟩
  | .hbm, ⟨30, _⟩ => ⟨S704x2048, .f32⟩
  | .hbm, ⟨31, _⟩ => ⟨S704x2048, .f32⟩
  | .hbm, ⟨32, _⟩ => ⟨S704x2048, .f32⟩
  | .hbm, ⟨33, _⟩ => ⟨S_, .f32⟩
  | .hbm, ⟨34, _⟩ => ⟨S704x2048, .f32⟩
  | .hbm, ⟨35, _⟩ => ⟨S704x2048, .f32⟩
  | .hbm, ⟨36, _⟩ => ⟨S704x2048, .f32⟩
  | .hbm, ⟨37, _⟩ => ⟨S_, .f32⟩
  | .hbm, ⟨38, _⟩ => ⟨S704x2048, .f32⟩
  | .hbm, ⟨39, _⟩ => ⟨S704x2048, .f32⟩
  | _, _ => ⟨S8x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel18.lean ====
abbrev S8x2048x512 : Shape := ⟨3, ![8, 2048, 512]⟩
abbrev S2048x512 : Shape := ⟨2, ![2048, 512]⟩
abbrev S8x512x512 : Shape := ⟨3, ![8, 512, 512]⟩
abbrev S512x512 : Shape := ⟨2, ![512, 512]⟩
abbrev S1x512x512 : Shape := ⟨3, ![1, 512, 512]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x512, .bf16⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .local _ .vmem, ⟨0, _⟩ => ⟨S8x512x512, .bf16⟩
  | .local _ .vmem, ⟨1, _⟩ => ⟨S8x512x512, .bf16⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | _, _ => ⟨S8x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel18Ideal.lean ====
abbrev S8x2048x512 : Shape := ⟨3, ![8, 2048, 512]⟩
abbrev S2048x512 : Shape := ⟨2, ![2048, 512]⟩
abbrev S8x512x512 : Shape := ⟨3, ![8, 512, 512]⟩
abbrev S512x512 : Shape := ⟨2, ![512, 512]⟩
abbrev S1x512x512 : Shape := ⟨3, ![1, 512, 512]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x512, .bf16⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .local _ .vmem, ⟨0, _⟩ => ⟨S8x512x512, .bf16⟩
  | .local _ .vmem, ⟨1, _⟩ => ⟨S8x512x512, .bf16⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | _, _ => ⟨S8x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference18Ideal.lean ====
abbrev S8x2048x512 : Shape := ⟨3, ![8, 2048, 512]⟩
abbrev S2048x512 : Shape := ⟨2, ![2048, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x512, .bf16⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S8x2048x512, .f32⟩
  | .hbm, ⟨5, _⟩ => ⟨S_, .f32⟩
  | .hbm, ⟨6, _⟩ => ⟨S2048x512, .f32⟩
  | .hbm, ⟨7, _⟩ => ⟨S_, .f32⟩
  | .hbm, ⟨8, _⟩ => ⟨S2048x512, .f32⟩
  | .hbm, ⟨9, _⟩ => ⟨S2048x512, .f32⟩
  | .hbm, ⟨10, _⟩ => ⟨S_, .f32⟩
  | .hbm, ⟨11, _⟩ => ⟨S2048x512, .f32⟩
  | .hbm, ⟨12, _⟩ => ⟨S2048x512, .f32⟩
  | .hbm, ⟨13, _⟩ => ⟨S2048x512, .f32⟩
  | .hbm, ⟨14, _⟩ => ⟨S_, .f32⟩
  | .hbm, ⟨15, _⟩ => ⟨S2048x512, .f32⟩
  | .hbm, ⟨16, _⟩ => ⟨S2048x512, .f32⟩
  | .hbm, ⟨17, _⟩ => ⟨S2048x512, .f32⟩
  | .hbm, ⟨18, _⟩ => ⟨S_, .f32⟩
  | .hbm, ⟨19, _⟩ => ⟨S2048x512, .f32⟩
  | .hbm, ⟨20, _⟩ => ⟨S2048x512, .f32⟩
  | .hbm, ⟨21, _⟩ => ⟨S2048x512, .f32⟩
  | .hbm, ⟨22, _⟩ => ⟨S_, .f32⟩
  | .hbm, ⟨23, _⟩ => ⟨S2048x512, .f32⟩
  | .hbm, ⟨24, _⟩ => ⟨S2048x512, .f32⟩
  | .hbm, ⟨25, _⟩ => ⟨S_, .f32⟩
  | .hbm, ⟨26, _⟩ => ⟨S2048x512, .f32⟩
  | .hbm, ⟨27, _⟩ => ⟨S2048x512, .f32⟩
  | .hbm, ⟨28, _⟩ => ⟨S2048x512, .f32⟩
  | .hbm, ⟨29, _⟩ => ⟨S_, .f32⟩
  | .hbm, ⟨30, _⟩ => ⟨S2048x512, .f32⟩
  | .hbm, ⟨31, _⟩ => ⟨S2048x512, .f32⟩
  | .hbm, ⟨32, _⟩ => ⟨S2048x512, .f32⟩
  | .hbm, ⟨33, _⟩ => ⟨S_, .f32⟩
  | .hbm, ⟨34, _⟩ => ⟨S2048x512, .f32⟩
  | .hbm, ⟨35, _⟩ => ⟨S2048x512, .f32⟩
  | .hbm, ⟨36, _⟩ => ⟨S2048x512, .f32⟩
  | .hbm, ⟨37, _⟩ => ⟨S_, .f32⟩
  | .hbm, ⟨38, _⟩ => ⟨S2048x512, .f32⟩
  | .hbm, ⟨39, _⟩ => ⟨S2048x512, .f32⟩
  | _, _ => ⟨S8x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel19.lean ====
abbrev S8x128x256 : Shape := ⟨3, ![8, 128, 256]⟩
abbrev S128x256 : Shape := ⟨2, ![128, 256]⟩
abbrev S1x128x256 : Shape := ⟨3, ![1, 128, 256]⟩

abbrev nBuf : Space → Nat
  | .hbm => 8
  | .vmem => 8
  | .smem => 0
  | _ => 0

abbrev bufTy : (tb : Table) → Fin (tcTables nBuf tb) → BufTy
  | .hbm, ⟨0, _⟩ => ⟨S8x128x256, .bf16⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S128x256, .f32⟩
  | .hbm, ⟨5, _⟩ => ⟨S128x256, .f32⟩
  | .hbm, ⟨6, _⟩ => ⟨S128x256, .f32⟩
  | .hbm, ⟨7, _⟩ => ⟨S128x256, .f32⟩
  | .local _ .vmem, ⟨0, _⟩ => ⟨S8x128x256, .bf16⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | _, _ => ⟨S8x128x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel19Ideal.lean ====
abbrev S8x128x256 : Shape := ⟨3, ![8, 128, 256]⟩
abbrev S128x256 : Shape := ⟨2, ![128, 256]⟩
abbrev S1x128x256 : Shape := ⟨3, ![1, 128, 256]⟩

abbrev nBuf : Space → Nat
  | .hbm => 8
  | .vmem => 8
  | .smem => 0
  | _ => 0

abbrev bufTy : (tb : Table) → Fin (tcTables nBuf tb) → BufTy
  | .hbm, ⟨0, _⟩ => ⟨S8x128x256, .bf16⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S128x256, .f32⟩
  | .hbm, ⟨5, _⟩ => ⟨S128x256, .f32⟩
  | .hbm, ⟨6, _⟩ => ⟨S128x256, .f32⟩
  | .hbm, ⟨7, _⟩ => ⟨S128x256, .f32⟩
  | .local _ .vmem, ⟨0, _⟩ => ⟨S8x128x256, .bf16⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | _, _ => ⟨S8x128x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference19Ideal.lean ====
abbrev S8x128x256 : Shape := ⟨3, ![8, 128, 256]⟩
abbrev S128x256 : Shape := ⟨2, ![128, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x256, .bf16⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S8x128x256, .f32⟩
  | .hbm, ⟨5, _⟩ => ⟨S_, .f32⟩
  | .hbm, ⟨6, _⟩ => ⟨S128x256, .f32⟩
  | .hbm, ⟨7, _⟩ => ⟨S_, .f32⟩
  | .hbm, ⟨8, _⟩ => ⟨S128x256, .f32⟩
  | .hbm, ⟨9, _⟩ => ⟨S128x256, .f32⟩
  | .hbm, ⟨10, _⟩ => ⟨S_, .f32⟩
  | .hbm, ⟨11, _⟩ => ⟨S128x256, .f32⟩
  | .hbm, ⟨12, _⟩ => ⟨S128x256, .f32⟩
  | .hbm, ⟨13, _⟩ => ⟨S128x256, .f32⟩
  | .hbm, ⟨14, _⟩ => ⟨S_, .f32⟩
  | .hbm, ⟨15, _⟩ => ⟨S128x256, .f32⟩
  | .hbm, ⟨16, _⟩ => ⟨S128x256, .f32⟩
  | .hbm, ⟨17, _⟩ => ⟨S128x256, .f32⟩
  | .hbm, ⟨18, _⟩ => ⟨S_, .f32⟩
  | .hbm, ⟨19, _⟩ => ⟨S128x256, .f32⟩
  | .hbm, ⟨20, _⟩ => ⟨S128x256, .f32⟩
  | .hbm, ⟨21, _⟩ => ⟨S128x256, .f32⟩
  | .hbm, ⟨22, _⟩ => ⟨S_, .f32⟩
  | .hbm, ⟨23, _⟩ => ⟨S128x256, .f32⟩
  | .hbm, ⟨24, _⟩ => ⟨S128x256, .f32⟩
  | .hbm, ⟨25, _⟩ => ⟨S_, .f32⟩
  | .hbm, ⟨26, _⟩ => ⟨S128x256, .f32⟩
  | .hbm, ⟨27, _⟩ => ⟨S128x256, .f32⟩
  | .hbm, ⟨28, _⟩ => ⟨S128x256, .f32⟩
  | .hbm, ⟨29, _⟩ => ⟨S_, .f32⟩
  | .hbm, ⟨30, _⟩ => ⟨S128x256, .f32⟩
  | .hbm, ⟨31, _⟩ => ⟨S128x256, .f32⟩
  | .hbm, ⟨32, _⟩ => ⟨S128x256, .f32⟩
  | .hbm, ⟨33, _⟩ => ⟨S_, .f32⟩
  | .hbm, ⟨34, _⟩ => ⟨S128x256, .f32⟩
  | .hbm, ⟨35, _⟩ => ⟨S128x256, .f32⟩
  | .hbm, ⟨36, _⟩ => ⟨S128x256, .f32⟩
  | .hbm, ⟨37, _⟩ => ⟨S_, .f32⟩
  | .hbm, ⟨38, _⟩ => ⟨S128x256, .f32⟩
  | .hbm, ⟨39, _⟩ => ⟨S128x256, .f32⟩
  | _, _ => ⟨S8x128x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel20.lean ====
abbrev S8x256x2048 : Shape := ⟨3, ![8, 256, 2048]⟩
abbrev S256x2048 : Shape := ⟨2, ![256, 2048]⟩
abbrev S8x128x2048 : Shape := ⟨3, ![8, 128, 2048]⟩
abbrev S128x2048 : Shape := ⟨2, ![128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel20Ideal.lean ====
abbrev S8x256x2048 : Shape := ⟨3, ![8, 256, 2048]⟩
abbrev S256x2048 : Shape := ⟨2, ![256, 2048]⟩
abbrev S8x128x2048 : Shape := ⟨3, ![8, 128, 2048]⟩
abbrev S128x2048 : Shape := ⟨2, ![128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference20Ideal.lean ====
abbrev S8x256x2048 : Shape := ⟨3, ![8, 256, 2048]⟩
abbrev S256x2048 : Shape := ⟨2, ![256, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S8x256x2048, .f32⟩
  | .hbm, ⟨5, _⟩ => ⟨S_, .f32⟩
  | .hbm, ⟨6, _⟩ => ⟨S256x2048, .f32⟩
  | .hbm, ⟨7, _⟩ => ⟨S_, .f32⟩
  | .hbm, ⟨8, _⟩ => ⟨S256x2048, .f32⟩
  | .hbm, ⟨9, _⟩ => ⟨S256x2048, .f32⟩
  | .hbm, ⟨10, _⟩ => ⟨S_, .f32⟩
  | .hbm, ⟨11, _⟩ => ⟨S256x2048, .f32⟩
  | .hbm, ⟨12, _⟩ => ⟨S256x2048, .f32⟩
  | .hbm, ⟨13, _⟩ => ⟨S256x2048, .f32⟩
  | .hbm, ⟨14, _⟩ => ⟨S_, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S_, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel21.lean ====
abbrev S8x256x512 : Shape := ⟨3, ![8, 256, 512]⟩
abbrev S256x512 : Shape := ⟨2, ![256, 512]⟩
abbrev S1x256x512 : Shape := ⟨3, ![1, 256, 512]⟩

abbrev nBuf : Space → Nat
  | .hbm => 8
  | .vmem => 8
  | .smem => 0
  | _ => 0

abbrev bufTy : (tb : Table) → Fin (tcTables nBuf tb) → BufTy
  | .hbm, ⟨0, _⟩ => ⟨S8x256x512, .bf16⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S256x512, .f32⟩
  | .hbm, ⟨5, _⟩ => ⟨S256x512, .f32⟩
  | .hbm, ⟨6, _⟩ => ⟨S256x512, .f32⟩
  | .hbm, ⟨7, _⟩ => ⟨S256x512, .f32⟩
  | .local _ .vmem, ⟨0, _⟩ => ⟨S8x256x512, .bf16⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | _, _ => ⟨S8x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel21Ideal.lean ====
abbrev S8x256x512 : Shape := ⟨3, ![8, 256, 512]⟩
abbrev S256x512 : Shape := ⟨2, ![256, 512]⟩
abbrev S1x256x512 : Shape := ⟨3, ![1, 256, 512]⟩

abbrev nBuf : Space → Nat
  | .hbm => 8
  | .vmem => 8
  | .smem => 0
  | _ => 0

abbrev bufTy : (tb : Table) → Fin (tcTables nBuf tb) → BufTy
  | .hbm, ⟨0, _⟩ => ⟨S8x256x512, .bf16⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S256x512, .f32⟩
  | .hbm, ⟨5, _⟩ => ⟨S256x512, .f32⟩
  | .hbm, ⟨6, _⟩ => ⟨S256x512, .f32⟩
  | .hbm, ⟨7, _⟩ => ⟨S256x512, .f32⟩
  | .local _ .vmem, ⟨0, _⟩ => ⟨S8x256x512, .bf16⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | _, _ => ⟨S8x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference21Ideal.lean ====
abbrev S8x256x512 : Shape := ⟨3, ![8, 256, 512]⟩
abbrev S256x512 : Shape := ⟨2, ![256, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x512, .bf16⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S8x256x512, .f32⟩
  | .hbm, ⟨5, _⟩ => ⟨S_, .f32⟩
  | .hbm, ⟨6, _⟩ => ⟨S256x512, .f32⟩
  | .hbm, ⟨7, _⟩ => ⟨S_, .f32⟩
  | .hbm, ⟨8, _⟩ => ⟨S256x512, .f32⟩
  | .hbm, ⟨9, _⟩ => ⟨S256x512, .f32⟩
  | .hbm, ⟨10, _⟩ => ⟨S_, .f32⟩
  | .hbm, ⟨11, _⟩ => ⟨S256x512, .f32⟩
  | .hbm, ⟨12, _⟩ => ⟨S256x512, .f32⟩
  | .hbm, ⟨13, _⟩ => ⟨S256x512, .f32⟩
  | .hbm, ⟨14, _⟩ => ⟨S_, .f32⟩
  | .hbm, ⟨15, _⟩ => ⟨S256x512, .f32⟩
  | .hbm, ⟨16, _⟩ => ⟨S256x512, .f32⟩
  | .hbm, ⟨17, _⟩ => ⟨S256x512, .f32⟩
  | .hbm, ⟨18, _⟩ => ⟨S_, .f32⟩
  | .hbm, ⟨19, _⟩ => ⟨S256x512, .f32⟩
  | .hbm, ⟨20, _⟩ => ⟨S256x512, .f32⟩
  | .hbm, ⟨21, _⟩ => ⟨S256x512, .f32⟩
  | .hbm, ⟨22, _⟩ => ⟨S_, .f32⟩
  | .hbm, ⟨23, _⟩ => ⟨S256x512, .f32⟩
  | .hbm, ⟨24, _⟩ => ⟨S256x512, .f32⟩
  | .hbm, ⟨25, _⟩ => ⟨S_, .f32⟩
  | .hbm, ⟨26, _⟩ => ⟨S256x512, .f32⟩
  | .hbm, ⟨27, _⟩ => ⟨S256x512, .f32⟩
  | .hbm, ⟨28, _⟩ => ⟨S256x512, .f32⟩
  | .hbm, ⟨29, _⟩ => ⟨S_, .f32⟩
  | .hbm, ⟨30, _⟩ => ⟨S256x512, .f32⟩
  | .hbm, ⟨31, _⟩ => ⟨S256x512, .f32⟩
  | .hbm, ⟨32, _⟩ => ⟨S256x512, .f32⟩
  | .hbm, ⟨33, _⟩ => ⟨S_, .f32⟩
  | .hbm, ⟨34, _⟩ => ⟨S256x512, .f32⟩
  | .hbm, ⟨35, _⟩ => ⟨S256x512, .f32⟩
  | .hbm, ⟨36, _⟩ => ⟨S256x512, .f32⟩
  | .hbm, ⟨37, _⟩ => ⟨S_, .f32⟩
  | .hbm, ⟨38, _⟩ => ⟨S256x512, .f32⟩
  | .hbm, ⟨39, _⟩ => ⟨S256x512, .f32⟩
  | _, _ => ⟨S8x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel22.lean ====
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S8x256x1024, .bf16⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel22Ideal.lean ====
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S8x256x1024, .bf16⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference22Ideal.lean ====
abbrev S8x256x1024 : Shape := ⟨3, ![8, 256, 1024]⟩
abbrev S256x1024 : Shape := ⟨2, ![256, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S8x256x1024, .f32⟩
  | .hbm, ⟨5, _⟩ => ⟨S_, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S_, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel23.lean ====
abbrev S8x512x256 : Shape := ⟨3, ![8, 512, 256]⟩
abbrev S512x256 : Shape := ⟨2, ![512, 256]⟩
abbrev S1x512x256 : Shape := ⟨3, ![1, 512, 256]⟩

abbrev nBuf : Space → Nat
  | .hbm => 8
  | .vmem => 8
  | .smem => 0
  | _ => 0

abbrev bufTy : (tb : Table) → Fin (tcTables nBuf tb) → BufTy
  | .hbm, ⟨0, _⟩ => ⟨S8x512x256, .bf16⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .local _ .vmem, ⟨0, _⟩ => ⟨S8x512x256, .bf16⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | _, _ => ⟨S8x512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference23Ideal.lean ====
abbrev S8x512x256 : Shape := ⟨3, ![8, 512, 256]⟩
abbrev S512x256 : Shape := ⟨2, ![512, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x512x256, .bf16⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S8x512x256, .f32⟩
  | .hbm, ⟨5, _⟩ => ⟨S_, .f32⟩
  | .hbm, ⟨6, _⟩ => ⟨S512x256, .f32⟩
  | .hbm, ⟨7, _⟩ => ⟨S_, .f32⟩
  | .hbm, ⟨8, _⟩ => ⟨S512x256, .f32⟩
  | .hbm, ⟨9, _⟩ => ⟨S512x256, .f32⟩
  | .hbm, ⟨10, _⟩ => ⟨S_, .f32⟩
  | .hbm, ⟨11, _⟩ => ⟨S512x256, .f32⟩
  | .hbm, ⟨12, _⟩ => ⟨S512x256, .f32⟩
  | .hbm, ⟨13, _⟩ => ⟨S512x256, .f32⟩
  | .hbm, ⟨14, _⟩ => ⟨S_, .f32⟩
  | .hbm, ⟨15, _⟩ => ⟨S512x256, .f32⟩
  | .hbm, ⟨16, _⟩ => ⟨S512x256, .f32⟩
  | .hbm, ⟨17, _⟩ => ⟨S512x256, .f32⟩
  | .hbm, ⟨18, _⟩ => ⟨S_, .f32⟩
  | .hbm, ⟨19, _⟩ => ⟨S512x256, .f32⟩
  | .hbm, ⟨20, _⟩ => ⟨S512x256, .f32⟩
  | .hbm, ⟨21, _⟩ => ⟨S512x256, .f32⟩
  | .hbm, ⟨22, _⟩ => ⟨S_, .f32⟩
  | .hbm, ⟨23, _⟩ => ⟨S512x256, .f32⟩
  | .hbm, ⟨24, _⟩ => ⟨S512x256, .f32⟩
  | .hbm, ⟨25, _⟩ => ⟨S_, .f32⟩
  | .hbm, ⟨26, _⟩ => ⟨S512x256, .f32⟩
  | .hbm, ⟨27, _⟩ => ⟨S512x256, .f32⟩
  | .hbm, ⟨28, _⟩ => ⟨S512x256, .f32⟩
  | .hbm, ⟨29, _⟩ => ⟨S_, .f32⟩
  | .hbm, ⟨30, _⟩ => ⟨S512x256, .f32⟩
  | .hbm, ⟨31, _⟩ => ⟨S512x256, .f32⟩
  | .hbm, ⟨32, _⟩ => ⟨S512x256, .f32⟩
  | .hbm, ⟨33, _⟩ => ⟨S_, .f32⟩
  | .hbm, ⟨34, _⟩ => ⟨S512x256, .f32⟩
  | .hbm, ⟨35, _⟩ => ⟨S512x256, .f32⟩
  | .hbm, ⟨36, _⟩ => ⟨S512x256, .f32⟩
  | .hbm, ⟨37, _⟩ => ⟨S_, .f32⟩
  | .hbm, ⟨38, _⟩ => ⟨S512x256, .f32⟩
  | .hbm, ⟨39, _⟩ => ⟨S512x256, .f32⟩
  | _, _ => ⟨S8x512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel24.lean ====
abbrev S4096x512 : Shape := ⟨2, ![4096, 512]⟩
abbrev S512x2048 : Shape := ⟨2, ![512, 2048]⟩
abbrev S4096x2048 : Shape := ⟨2, ![4096, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x512, .bf16⟩
  | .hbm, ⟨1, _⟩ => ⟨S512x2048, .bf16⟩
  | .hbm, ⟨2, _⟩ => ⟨S4096x2048, .f32⟩
  | .hbm, ⟨3, _⟩ => ⟨S4096x2048, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference24Ideal.lean ====
abbrev S4096x512 : Shape := ⟨2, ![4096, 512]⟩
abbrev S512x2048 : Shape := ⟨2, ![512, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x2048, .bf16⟩
  | .hbm, ⟨2, _⟩ => ⟨S4096x2048, .f32⟩
  | .hbm, ⟨3, _⟩ => ⟨S4096x512, .f32⟩
  | .hbm, ⟨4, _⟩ => ⟨S512x2048, .f32⟩
  | .hbm, ⟨5, _⟩ => ⟨S4096x2048, .f32⟩
  | .hbm, ⟨6, _⟩ => ⟨S4096x2048, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel25.lean ====
abbrev S4096x2048 : Shape := ⟨2, ![4096, 2048]⟩
abbrev S512x2048 : Shape := ⟨2, ![512, 2048]⟩
abbrev S4096x512 : Shape := ⟨2, ![4096, 512]⟩
abbrev S1024x2048 : Shape := ⟨2, ![1024, 2048]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S512x2048, .bf16⟩
  | .hbm, ⟨2, _⟩ => ⟨S4096x512, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S1024x512, .bf16⟩
  | .local _ .vmem, ⟨4, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference25Ideal.lean ====
abbrev S4096x2048 : Shape := ⟨2, ![4096, 2048]⟩
abbrev S512x2048 : Shape := ⟨2, ![512, 2048]⟩
abbrev S_ : Shape := ⟨0, ![]⟩
abbrev S4096x512 : Shape := ⟨2, ![4096, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S512x2048, .bf16⟩
  | .hbm, ⟨2, _⟩ => ⟨S4096x2048, .f32⟩
  | .hbm, ⟨3, _⟩ => ⟨S512x2048, .f32⟩
  | .hbm, ⟨4, _⟩ => ⟨S_, .f32⟩
  | .hbm, ⟨5, _⟩ => ⟨S4096x512, .f32⟩
  | .hbm, ⟨6, _⟩ => ⟨S4096x2048, .f32⟩
  | .hbm, ⟨7, _⟩ => ⟨S4096x512, .f32⟩
  | .hbm, ⟨8, _⟩ => ⟨S4096x512, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel26.lean ====
abbrev S4096x2048 : Shape := ⟨2, ![4096, 2048]⟩
abbrev S4096x512 : Shape := ⟨2, ![4096, 512]⟩
abbrev S2048x512 : Shape := ⟨2, ![2048, 512]⟩
abbrev S4096x1024 : Shape := ⟨2, ![4096, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S4096x512, .bf16⟩
  | .hbm, ⟨2, _⟩ => ⟨S2048x512, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference26Ideal.lean ====
abbrev S4096x2048 : Shape := ⟨2, ![4096, 2048]⟩
abbrev S4096x512 : Shape := ⟨2, ![4096, 512]⟩
abbrev S_ : Shape := ⟨0, ![]⟩
abbrev S2048x512 : Shape := ⟨2, ![2048, 512]⟩
abbrev S512x2048 : Shape := ⟨2, ![512, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x512, .bf16⟩
  | .hbm, ⟨2, _⟩ => ⟨S4096x2048, .f32⟩
  | .hbm, ⟨3, _⟩ => ⟨S4096x512, .f32⟩
  | .hbm, ⟨4, _⟩ => ⟨S_, .f32⟩
  | .hbm, ⟨5, _⟩ => ⟨S2048x512, .f32⟩
  | .hbm, ⟨6, _⟩ => ⟨S4096x512, .f32⟩
  | .hbm, ⟨7, _⟩ => ⟨S512x2048, .f32⟩
  | .hbm, ⟨8, _⟩ => ⟨S2048x512, .f32⟩
  | .hbm, ⟨9, _⟩ => ⟨S2048x512, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel27.lean ====
abbrev S4096x512 : Shape := ⟨2, ![4096, 512]⟩
abbrev S2048x512 : Shape := ⟨2, ![2048, 512]⟩
abbrev S4096x2048 : Shape := ⟨2, ![4096, 2048]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S2048x512, .bf16⟩
  | .hbm, ⟨2, _⟩ => ⟨S4096x2048, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1024x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference27Ideal.lean ====
abbrev S4096x512 : Shape := ⟨2, ![4096, 512]⟩
abbrev S2048x512 : Shape := ⟨2, ![2048, 512]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S2048x512, .bf16⟩
  | .hbm, ⟨2, _⟩ => ⟨S4096x512, .f32⟩
  | .hbm, ⟨3, _⟩ => ⟨S2048x512, .f32⟩
  | .hbm, ⟨4, _⟩ => ⟨S_, .f32⟩
  | .hbm, ⟨5, _⟩ => ⟨S4096x2048, .f32⟩
  | .hbm, ⟨6, _⟩ => ⟨S4096x512, .f32⟩
  | .hbm, ⟨7, _⟩ => ⟨S4096x2048, .f32⟩
  | .hbm, ⟨8, _⟩ => ⟨S4096x2048, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel28.lean ====
abbrev S4096x512 : Shape := ⟨2, ![4096, 512]⟩
abbrev S4096x2048 : Shape := ⟨2, ![4096, 2048]⟩
abbrev S8x512x256 : Shape := ⟨3, ![8, 512, 256]⟩
abbrev S4096x256 : Shape := ⟨2, ![4096, 256]⟩
abbrev S1x512x256 : Shape := ⟨3, ![1, 512, 256]⟩
abbrev S512x256 : Shape := ⟨2, ![512, 256]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S4096x2048, .bf16⟩
  | .hbm, ⟨2, _⟩ => ⟨S8x512x256, .bf16⟩
  | .local _ .vmem, ⟨0, _⟩ => ⟨S4096x512, .bf16⟩
  | .local _ .vmem, ⟨1, _⟩ => ⟨S4096x256, .bf16⟩
  | .local _ .vmem, ⟨2, _⟩ => ⟨S4096x256, .bf16⟩
  | .local _ .vmem, ⟨3, _⟩ => ⟨S1x512x256, .bf16⟩
  | .local _ .vmem, ⟨4, _⟩ => ⟨S1x512x256, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference28Ideal.lean ====
abbrev S4096x512 : Shape := ⟨2, ![4096, 512]⟩
abbrev S4096x2048 : Shape := ⟨2, ![4096, 2048]⟩
abbrev S_ : Shape := ⟨0, ![]⟩
abbrev S8x512x256 : Shape := ⟨3, ![8, 512, 256]⟩
abbrev S4096x8x256 : Shape := ⟨3, ![4096, 8, 256]⟩
abbrev S8x256x512 : Shape := ⟨3, ![8, 256, 512]⟩

abbrev nBuf : Space → Nat
  | .hbm => 12
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x2048, .bf16⟩
  | .hbm, ⟨2, _⟩ => ⟨S4096x512, .f32⟩
  | .hbm, ⟨3, _⟩ => ⟨S4096x2048, .f32⟩
  | .hbm, ⟨4, _⟩ => ⟨S_, .f32⟩
  | .hbm, ⟨5, _⟩ => ⟨S8x512x256, .f32⟩
  | .hbm, ⟨6, _⟩ => ⟨S4096x8x256, .f32⟩
  | .hbm, ⟨7, _⟩ => ⟨S4096x2048, .f32⟩
  | .hbm, ⟨8, _⟩ => ⟨S4096x8x256, .f32⟩
  | .hbm, ⟨9, _⟩ => ⟨S8x256x512, .f32⟩
  | .hbm, ⟨10, _⟩ => ⟨S8x512x256, .f32⟩
  | .hbm, ⟨11, _⟩ => ⟨S8x512x256, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Proof.Rows.lean ====
/-
  One row of the attention's softmax and of its gradient, over the extended reals, with no program in sight: the largest
  score, the exponentials of the differences, the probabilities, the gradient of the scores.
-/
module

public import Idealize.ShloMosaic.PureOps.Ideal.Laws
public import Idealize.ShloMosaic.Lib.Pointwise

@[expose] public section

noncomputable section

namespace Cert.Rows

open Idealize.ShloMosaic

/-- The factor 1/8 the scores are scaled by, as the word both programs hold. -/
def eighth : EReal := Ideal.ofBits .f32 0x3E000000#32

theorem eighth_eq : eighth = ((1 / 8 : ℝ) : EReal) := by
  unfold eighth
  simp [Ideal.ofBits, Ideal.ieee, -EReal.coe_mul]
  norm_num

theorem ofBits_bot : Ideal.ofBits .f32 0xFF800000#32 = (⊥ : EReal) := by
  simp [Ideal.ofBits, Ideal.ieee, -EReal.coe_mul]

/-- Column `d` of head `H` in an array of 1024 columns, and where the queries', keys' and values' columns lie in `z`. -/
abbrev col (H : Fin 16) (d : Fin 64) : Fin 1024 := ⟨H.val * 64 + d.val, by omega⟩
abbrev gcol (H : Fin 16) (d : Fin 64) : Fin 2048 := ⟨H.val * 64 + d.val, by omega⟩
abbrev qcol (H : Fin 16) (d : Fin 64) : Fin 4096 := ⟨H.val * 64 + d.val, by omega⟩
abbrev kcol (H : Fin 16) (d : Fin 64) : Fin 4096 := ⟨1024 + (H.val * 64 + d.val), by omega⟩
abbrev vcol (H : Fin 16) (d : Fin 64) : Fin 4096 := ⟨2048 + (H.val * 64 + d.val), by omega⟩

/-- Position `r` of query block `b`. -/
abbrev pos (b : Fin 8) (r : Fin 256) : Fin 2048 := ⟨256 * b.val + r.val, by omega⟩

/-- The keys a query sees: those of its own chunk of 64 and of the eight before. -/
def seen (n k : Fin 2048) : Prop := k.val / 64 ≤ n.val / 64 ∧ n.val / 64 ≤ k.val / 64 + 8

instance (n k : Fin 2048) : Decidable (seen n k) := by unfold seen; infer_instance

/-- The largest score of a row. -/
def top {n : ℕ} (s : Fin n → EReal) : EReal := Finset.univ.fold max ⊥ s

/-- What a score weighs: the exponential of how far it is below the largest. -/
def wt {n : ℕ} (s : Fin n → EReal) (j : Fin n) : EReal := Ideal.exp (s j - top s)

/-- The sum of a row's weights. -/
def den {n : ℕ} (s : Fin n → EReal) : EReal := ∑ j, wt s j

/-- The probability of key `j`: its weight times the reciprocal of the sum. -/
def pr {n : ℕ} (s : Fin n → EReal) (j : Fin n) : EReal := wt s j * Ideal.div 1 (den s)

/-- The gradient of score `j`, the gradients of the probabilities being `g`. -/
def ds {n : ℕ} (s g : Fin n → EReal) (j : Fin n) : EReal := pr s j * (g j - ∑ i, pr s i * g i)

/-- A product's 128 lanes, all but the 64 of one head being zero on the left, are that head's 64. -/
theorem sum_lanes (h : Fin 2) (f : Fin 128 → EReal) (hf : ∀ l : Fin 128, l.val / 64 ≠ h.val → f l = 0) :
    ∑ l, f l = ∑ d : Fin 64, f ⟨64 * h.val + d.val, by omega⟩ := by
  rw [Fin.sum_univ_two_halves 64 64 rfl f]
  match h with
  | ⟨0, _⟩ =>
    have z : ∑ k : Fin 64, f ⟨64 + k.val, by omega⟩ = 0 := Finset.sum_eq_zero fun d _ => hf _ (by simp)
    rw [z, add_zero]
    exact Finset.sum_congr rfl fun d _ => congrArg f (Fin.ext (by simp))
  | ⟨1, _⟩ =>
    rw [Finset.sum_eq_zero (s := Finset.univ) , zero_add]
    · exact Finset.sum_congr rfl fun d _ => congrArg f (Fin.ext (by simp))
    · intro d _; exact hf _ (by simp; omega)

/-- A stack of two heads' 256 rows, summed: all but one head's rows being zero, that head's sum. -/
theorem sum_stack (h : Fin 2) (f : Fin 512 → EReal) (hf : ∀ r : Fin 512, r.val / 256 ≠ h.val → f r = 0) :
    ∑ r, f r = ∑ d : Fin 256, f ⟨256 * h.val + d.val, by omega⟩ := by
  rw [Fin.sum_univ_two_halves 256 256 rfl f]
  match h with
  | ⟨0, _⟩ =>
    have z : ∑ k : Fin 256, f ⟨256 + k.val, by omega⟩ = 0 := Finset.sum_eq_zero fun d _ => hf _ (by simp)
    rw [z, add_zero]
    exact Finset.sum_congr rfl fun d _ => congrArg f (Fin.ext (by simp))
  | ⟨1, _⟩ =>
    rw [Finset.sum_eq_zero (s := Finset.univ) , zero_add]
    · exact Finset.sum_congr rfl fun d _ => congrArg f (Fin.ext (by simp))
    · intro d _; exact hf _ (by simp; omega)

end Cert.Rows

end
-- ==== Proof.Ref.lean ====
/-
  The reference's stages, each read at an index: the scores, their softmax, its gradient, the three contractions.
-/
module

public import proofs.«01_k».proof.Proof.Rows
public import proofs.«01_k».proof.Proof.Gen.ReferenceIdeal.Read

@[expose] public section

set_option maxRecDepth 16384

noncomputable section

open Idealize.ShloMosaic Idealize.ShloMosaic.TcCoe Idealize.SL.Sem

namespace Cert.ReferenceIdeal.Ref

open Cert.ReferenceIdeal Cert.ReferenceIdeal.Gen Cert.ReferenceIdeal.Read Cert.Rows

variable (x0 : FVec Ideal S2x2048x4096 .f32) (x1 : FVec Ideal S16x257 .f32) (x2 : FVec Ideal S2x2048x2048 .bf16)

/-! ## Which keys a query sees -/

theorem floordiv : ∀ n : Fin 2048, Scalar.select
      (IntOp.andi
        (IntOp.cmpi CmpIPredicate.ne
          (if BitVec.ofNat 32 n.val = 0 then (0 : BitVec 32) else if (BitVec.ofNat 32 n.val).msb = true then -1 else 1)
          (if 64#32 = 0 then 0 else if BitVec.msb 64#32 = true then -1 else 1))
        (IntOp.cmpi CmpIPredicate.ne (IntOp.remsi ArithUnit.host (BitVec.ofNat 32 n.val) 64#32) 0#32))
      (IntOp.subi (IntOp.divsi ArithUnit.host (BitVec.ofNat 32 n.val) 64#32) 1#32)
      (IntOp.divsi ArithUnit.host (BitVec.ofNat 32 n.val) 64#32) =
    BitVec.ofNat 32 (n.val / 64) := by
  decide +kernel

theorem chunk (n : Fin 2048) : val_main_v78 (F := Ideal) (ix2 n 0) = BitVec.ofNat 32 (n.val / 64) := by
  pointwise [val_main_v78, val_main_call1_v11, val_main_call1_v6, val_main_call1_v10, val_main_call1_v13, val_main_call1_v2, val_main_call1_v3, val_main_call1_v5, val_main_call1_v4, val_main_call1_v8, val_main_call1_v7, val_main_call1_v9, val_main_call1_c, val_main_call1_v12, val_main_call1_c_0, val_main_call1_v1, val_main_call1_v0, val_main_c_36, val_main_v77, val_main_v27]
  exact floordiv n

theorem chunk' (n : Fin 2048) : val_main_v80 (F := Ideal) (ix2 0 n) = BitVec.ofNat 32 (n.val / 64) := by
  pointwise [val_main_v80, val_main_call2_v11, val_main_call2_v6, val_main_call2_v10, val_main_call2_v13, val_main_call2_v2, val_main_call2_v3, val_main_call2_v5, val_main_call2_v4, val_main_call2_v8, val_main_call2_v7, val_main_call2_v9, val_main_call2_c, val_main_call2_v12, val_main_call2_c_0, val_main_call2_v1, val_main_call2_v0, val_main_c_37, val_main_v79, val_main_v27]
  exact floordiv n

theorem between : ∀ a b : Fin 32, IntOp.andi (IntOp.cmpi CmpIPredicate.sle (BitVec.ofNat 32 b.val) (BitVec.ofNat 32 a.val))
      (IntOp.cmpi CmpIPredicate.sge (BitVec.ofNat 32 b.val) (IntOp.subi (BitVec.ofNat 32 a.val) 8#32))
      = if b.val ≤ a.val ∧ a.val ≤ b.val + 8 then 1#1 else 0#1 := by
  decide +kernel

theorem seen_apply (n k : Fin 2048) : val_main_v89 (F := Ideal) (ix2 n k) = if seen n k then 1#1 else 0#1 := by
  pointwise [val_main_v89, val_main_v88, val_main_v87, val_main_v86, val_main_v85, val_main_v84, val_main_c_38, val_main_v83, val_main_v82, val_main_v81]
  rw [chunk, chunk']
  exact between ⟨n.val / 64, by omega⟩ ⟨k.val / 64, by omega⟩

theorem sel_seen {α : Type} (n k : Fin 2048) (a b : α) : Scalar.select (val_main_v89 (F := Ideal) (ix2 n k)) a b = if seen n k then a else b := by
  rw [seen_apply]; by_cases h : seen n k <;> simp [h, Scalar.select]

/-! ## The scores and their softmax -/

/-- The scores of query `n`: a key it does not see has −∞. -/
def sc (b : Fin 2) (H : Fin 16) (n k : Fin 2048) : EReal :=
  if seen n k then (∑ d, x0 (ix3 b n (qcol H d)) * x0 (ix3 b k (kcol H d))) * eighth + val_main_v76 (F := Ideal) x1 (ix3 H n k) else ⊥

/-- The gradients of its probabilities. -/
def gp (b : Fin 2) (H : Fin 16) (n k : Fin 2048) : EReal := ∑ d, x2 (ix3 b n (gcol H d)) * x0 (ix3 b k (vcol H d))

theorem scores (b : Fin 2) (H : Fin 16) (n k : Fin 2048) : val_main_v97_0 (F := Ideal) x0 x1 (ix4 b H n k) = sc x0 x1 b H n k := by
  have e : val_main_v90 (F := Ideal) x0 (ix4 b H n k) = ∑ d, x0 (ix3 b n (qcol H d)) * x0 (ix3 b k (kcol H d)) := by
    pointwise [val_main_v90, val_main_v1, val_main_v0, val_main_v3, val_main_v2]
  pointwise [val_main_v97_0, val_main_v97_1, val_main_v96, val_main_v95, val_main_v94, val_main_v93, val_main_v92, val_main_v91, val_main_cst_39, val_main_call3_v2, val_main_call3_v0, val_main_cst_40]
  rw [sel_seen, e]
  exact congrArg (fun x => if seen n k then _ else x) ofBits_bot

theorem largest (b : Fin 2) (H : Fin 16) (n : Fin 2048) : val_main_v98 (F := Ideal) x0 x1 (ix3 b H n) = top (sc x0 x1 b H n) := by
  pointwise [val_main_v98, val_main_cst_41]
  simp only [ofBits_bot, scores]
  rfl

theorem weights (b : Fin 2) (H : Fin 16) (n k : Fin 2048) : val_main_v118 (F := Ideal) x0 x1 (ix4 b H n k) = wt (sc x0 x1 b H n) k := by
  have e1 : val_main_v105 (F := Ideal) x0 x1 (ix3 b H n) = top (sc x0 x1 b H n) := by
    rw [val_main_v105_apply]
    pointwise [val_main_v104, val_main_cst_43]
    rw [ofBits_bot, largest, max_eq_right bot_le]
  have e2 : val_main_v116 (F := Ideal) x0 x1 (ix4 b H n k) = val_main_v105 (F := Ideal) x0 x1 (ix3 b H n) := by
    pointwise [val_main_v116, val_main_v115]
  pointwise [val_main_v118, val_main_v117]
  rw [e2, e1, scores]
  rfl

theorem sums (b : Fin 2) (H : Fin 16) (n : Fin 2048) : val_main_v119 (F := Ideal) x0 x1 (ix3 b H n) = den (sc x0 x1 b H n) := by
  pointwise [val_main_v119, val_main_cst_49]
  simp only [weights]
  rfl

theorem probs (b : Fin 2) (H : Fin 16) (n k : Fin 2048) : val_main_v122 (F := Ideal) x0 x1 (ix4 b H n k)
    = Ideal.div (wt (sc x0 x1 b H n) k) (den (sc x0 x1 b H n)) := by
  pointwise [val_main_v122, val_main_v121, val_main_v120]
  rw [weights, sums]

/-! ## The gradient of the scores -/

theorem gprobs (b : Fin 2) (H : Fin 16) (n k : Fin 2048) : val_main_v131 (F := Ideal) x0 x2 (ix4 b H n k) = gp x0 x2 b H n k := by
  pointwise [val_main_v131, val_main_v130, val_main_v129, val_main_v19, val_main_v18, val_main_v5, val_main_v4]
  rfl

/-- What the reference computes of a row's scores `s` and its probabilities' gradients `g`. -/
def dref (s g : Fin 2048 → EReal) (k : Fin 2048) : EReal :=
  (Ideal.div (g k) (den s) + -∑ x, g x * Ideal.div 1 (den s * den s) * wt s x) * wt s k

theorem ofBits_one : Ideal.ofBits .f32 0x3F800000#32 = (1 : EReal) := by
  simp [Ideal.ofBits, Ideal.ieee, -EReal.coe_mul]
  norm_num

theorem dscores (b : Fin 2) (H : Fin 16) (n k : Fin 2048) : val_main_v146 (F := Ideal) x0 x1 x2 (ix4 b H n k)
    = if seen n k then dref (sc x0 x1 b H n) (gp x0 x2 b H n) k else 0 := by
  pointwise [val_main_v146, val_main_v97_1, val_main_v96, val_main_v145, val_main_v144, val_main_v143, val_main_v142, val_main_v141, val_main_v140, val_main_v139, val_main_v138, val_main_v137, val_main_v136, val_main_v135, val_main_v134, val_main_v125, val_main_v124, val_main_v123, val_main_v120, val_main_call4_v0, val_main_call4_cst, val_main_cst_50, val_main_cst_51, val_main_cst_52]
  rw [sel_seen]
  simp only [gprobs, sums, weights, ofBits_one, Fin.sum_univ_one]
  rfl

/-! ## The results -/

theorem dq_apply (b : Fin 2) (n : Fin 2048) (H : Fin 16) (d : Fin 64) : val_main_v205 (F := Ideal) x0 x1 x2 (ix3 b n (qcol H d))
    = ∑ k, val_main_v146 (F := Ideal) x0 x1 x2 (ix4 b H n k) * eighth * x0 (ix3 b k (kcol H d)) := by
  have h : H.val * 64 + d.val < 1024 := by omega
  show val_main_v205 (F := Ideal) x0 x1 x2 (ix3 b n ⟨H.val * 64 + d.val, by omega⟩) = _
  pointwise [val_main_v205, val_main_v204, val_main_v203, val_main_v155, val_main_v154, val_main_v151, val_main_v150, val_main_cst_55, val_main_v3, val_main_v2]
  rw [dif_pos h]
  rfl

theorem dk_apply (b : Fin 2) (k : Fin 2048) (H : Fin 16) (d : Fin 64) : val_main_v207 (F := Ideal) x0 x1 x2 (ix3 b k (col H d))
    = ∑ n, val_main_v146 (F := Ideal) x0 x1 x2 (ix4 b H n k) * eighth * x0 (ix3 b n (qcol H d)) := by
  show val_main_v207 (F := Ideal) x0 x1 x2  (ix3 b k ⟨H.val * 64 + d.val, by omega⟩) = _
  pointwise [val_main_v207, val_main_v206, val_main_v153, val_main_v152, val_main_v151, val_main_v150, val_main_cst_55, val_main_v1, val_main_v0]
  rfl

theorem dv_apply (b : Fin 2) (k : Fin 2048) (H : Fin 16) (d : Fin 64) : val_main_v209 (F := Ideal) x0 x1 x2 (ix3 b k (col H d))
    = ∑ n, x2 (ix3 b n (gcol H d)) * val_main_v122 (F := Ideal) x0 x1 (ix4 b H n k) := by
  show val_main_v209 (F := Ideal) x0 x1 x2  (ix3 b k ⟨H.val * 64 + d.val, by omega⟩) = _
  pointwise [val_main_v209, val_main_v208, val_main_v133, val_main_v132, val_main_v130, val_main_v129, val_main_v19, val_main_v18]

/-- Entry `(r, j)` of the bias tile's gradient that query block `i` gives. -/
def piece (H : Fin 16) (r : Fin 256) (j : Fin 768) (i : Fin 8) : EReal :=
  if h : 512 ≤ 256 * i.val + j.val then ∑ b, val_main_v146 (F := Ideal) x0 x1 x2 (ix4 b H (pos i r) ⟨256 * i.val + j.val - 512, by omega⟩) else 0

theorem piece_some (H : Fin 16) (r : Fin 256) (j : Fin 768) (i : Fin 8) (n k : Fin 2048) (hn : n.val = 256 * i.val + r.val)
    (hk : k.val + 512 = 256 * i.val + j.val) : val_main_v149 (F := Ideal) x0 x1 x2 (ix3 H n k) = piece x0 x1 x2 H r j i := by
  have e : val_main_v149 (F := Ideal) x0 x1 x2 (ix3 H n k) = ∑ b, val_main_v146 (F := Ideal) x0 x1 x2 (ix4 b H n k) := by
    pointwise [val_main_v149, val_main_v148, val_main_v147, val_main_cst_53, val_main_cst_54]
    simp only [Fin.sum_univ_one]
  obtain rfl : n = pos i r := Fin.ext hn
  rw [e, piece, dif_pos (by omega)]
  exact Finset.sum_congr rfl fun b _ => congrArg (fun k => val_main_v146 (F := Ideal) x0 x1 x2 (ix4 b H (pos i r) k))
    (Fin.ext (by show k.val = 256 * i.val + j.val - 512; omega))

theorem piece_none (H : Fin 16) (r : Fin 256) (j : Fin 768) (i : Fin 8) (h : 256 * i.val + j.val < 512) :
    0 = piece x0 x1 x2 H r j i := by
  rw [piece, dif_neg (by omega)]

theorem dtile_apply (H : Fin 16) (r : Fin 256) (j : Fin 768) : val_main_v202 (F := Ideal) x0 x1 x2 (ix3 H r j) = ∑ i, piece x0 x1 x2 H r j i := by
  have e0 : val_main_v200 (F := Ideal) x0 x1 x2 (ix3 H r j) = piece x0 x1 x2 H r j 0 := by
    pointwise [val_main_v200, val_main_v198, val_main_v156, val_main_cst_63]
    split
    · exact piece_some x0 x1 x2 H r j 0 _ _ (by simp) (by simp; omega)
    · exact piece_none x0 x1 x2 H r j 0 (by simp; omega)
  have e1 : val_main_v195 (F := Ideal) x0 x1 x2 (ix3 H r j) = piece x0 x1 x2 H r j 1 := by
    pointwise [val_main_v195, val_main_v193, val_main_v157, val_main_cst_62]
    split
    · exact piece_some x0 x1 x2 H r j 1 _ _ (by simp) (by simp; omega)
    · exact piece_none x0 x1 x2 H r j 1 (by simp; omega)
  have e2 : val_main_v190 (F := Ideal) x0 x1 x2 (ix3 H r j) = piece x0 x1 x2 H r j 2 := by
    pointwise [val_main_v190, val_main_v188, val_main_v158, val_main_cst_61]
    rw [dif_pos (by omega)]
    exact piece_some x0 x1 x2 H r j 2 _ _ (by simp) (by simp; omega)
  have e3 : val_main_v185 (F := Ideal) x0 x1 x2 (ix3 H r j) = piece x0 x1 x2 H r j 3 := by
    pointwise [val_main_v185, val_main_v183, val_main_v159, val_main_cst_60]
    rw [dif_pos (by omega)]
    exact piece_some x0 x1 x2 H r j 3 _ _ (by simp) (by simp; omega)
  have e4 : val_main_v180 (F := Ideal) x0 x1 x2 (ix3 H r j) = piece x0 x1 x2 H r j 4 := by
    pointwise [val_main_v180, val_main_v178, val_main_v160, val_main_cst_59]
    rw [dif_pos (by omega)]
    exact piece_some x0 x1 x2 H r j 4 _ _ (by simp) (by simp; omega)
  have e5 : val_main_v175 (F := Ideal) x0 x1 x2 (ix3 H r j) = piece x0 x1 x2 H r j 5 := by
    pointwise [val_main_v175, val_main_v173, val_main_v161, val_main_cst_58]
    rw [dif_pos (by omega)]
    exact piece_some x0 x1 x2 H r j 5 _ _ (by simp) (by simp; omega)
  have e6 : val_main_v170 (F := Ideal) x0 x1 x2 (ix3 H r j) = piece x0 x1 x2 H r j 6 := by
    pointwise [val_main_v170, val_main_v168, val_main_v162, val_main_cst_57]
    rw [dif_pos (by omega)]
    exact piece_some x0 x1 x2 H r j 6 _ _ (by simp) (by simp; omega)
  have e7 : val_main_v166 (F := Ideal) x0 x1 x2 (ix3 H r j) = piece x0 x1 x2 H r j 7 := by
    pointwise [val_main_v166, val_main_v164, val_main_v163, val_main_cst_56]
    rw [dif_pos (by omega)]
    exact piece_some x0 x1 x2 H r j 7 _ _ (by simp) (by simp; omega)
  pointwise [val_main_v202, val_main_v197, val_main_v192, val_main_v187, val_main_v182, val_main_v177, val_main_v172]
  rw [e0, e1, e2, e3, e4, e5, e6, e7, Fin.sum_univ_eight]
  ac_rfl

/-! ## The bias -/

/-- The tile laid in a row of keys, its first key at `o − 512`; zero elsewhere. -/
def laid (o : ℕ) (H : Fin 16) (r : Fin 256) (k : Fin 2048) : EReal :=
  if h : o ≤ k.val + 512 ∧ k.val + 512 - o < 768 then val_main_v26 (F := Ideal) x1 (ix3 H r ⟨k.val + 512 - o, h.2⟩) else 0

theorem laid_some (o : ℕ) (H : Fin 16) (r : Fin 256) (k : Fin 2048) (j : Fin 768) (h : k.val + 512 = o + j.val) :
    val_main_v26 (F := Ideal) x1 (ix3 H r j) = laid x1 o H r k := by
  rw [laid, dif_pos (by omega)]
  exact congrArg (fun j => val_main_v26 (F := Ideal) x1 (ix3 H r j)) (Fin.ext (by show j.val = k.val + 512 - o; omega))

theorem laid_none (o : ℕ) (H : Fin 16) (r : Fin 256) (k : Fin 2048) (h : ¬ (o ≤ k.val + 512 ∧ k.val + 512 - o < 768)) :
    0 = laid x1 o H r k := by
  rw [laid, dif_neg h]

theorem laid_all (H : Fin 16) (r : Fin 256) (k : Fin 2048) :
    val_main_v33 (F := Ideal) x1 (ix3 H r k) = laid x1 0 H r k
      ∧ val_main_v39 (F := Ideal) x1 (ix3 H r k) = laid x1 256 H r k
      ∧ val_main_v45 (F := Ideal) x1 (ix3 H r k) = laid x1 512 H r k
      ∧ val_main_v51 (F := Ideal) x1 (ix3 H r k) = laid x1 768 H r k
      ∧ val_main_v57 (F := Ideal) x1 (ix3 H r k) = laid x1 1024 H r k
      ∧ val_main_v63 (F := Ideal) x1 (ix3 H r k) = laid x1 1280 H r k
      ∧ val_main_v69 (F := Ideal) x1 (ix3 H r k) = laid x1 1536 H r k
      ∧ val_main_v75 (F := Ideal) x1 (ix3 H r k) = laid x1 1792 H r k := by
  refine ⟨?_, ?_, ?_, ?_, ?_, ?_, ?_, ?_⟩
  · pointwise [val_main_v33, val_main_v30, val_main_v28, val_main_v29, val_main_cst, val_main_cst_5]
    split_ifs <;> first | (apply laid_some; (try dsimp only); omega) | (apply laid_none; omega)
  · pointwise [val_main_v39, val_main_v36, val_main_v34, val_main_v35, val_main_cst_8, val_main_cst_9]
    split_ifs <;> first | (apply laid_some; (try dsimp only); omega) | (apply laid_none; omega)
  · pointwise [val_main_v45, val_main_v42, val_main_v40, val_main_v41, val_main_cst_12, val_main_cst_13]
    split_ifs <;> first | (apply laid_some; (try dsimp only); omega) | (apply laid_none; omega)
  · pointwise [val_main_v51, val_main_v48, val_main_v46, val_main_v47, val_main_cst_16, val_main_cst_17]
    split_ifs <;> first | (apply laid_some; (try dsimp only); omega) | (apply laid_none; omega)
  · pointwise [val_main_v57, val_main_v54, val_main_v52, val_main_v53, val_main_cst_20, val_main_cst_21]
    split_ifs <;> first | (apply laid_some; (try dsimp only); omega) | (apply laid_none; omega)
  · pointwise [val_main_v63, val_main_v60, val_main_v58, val_main_v59, val_main_cst_24, val_main_cst_25]
    split_ifs <;> first | (apply laid_some; (try dsimp only); omega) | (apply laid_none; omega)
  · pointwise [val_main_v69, val_main_v66, val_main_v64, val_main_v65, val_main_cst_28, val_main_cst_29]
    split_ifs <;> first | (apply laid_some; (try dsimp only); omega) | (apply laid_none; omega)
  · pointwise [val_main_v75, val_main_v72, val_main_v70, val_main_v71, val_main_cst_32, val_main_cst_33]
    split_ifs <;> first | (apply laid_some; (try dsimp only); omega) | (apply laid_none; omega)

theorem laid_at (o : ℕ) (H : Fin 16) (i : Fin 8) (r r' : Fin 256) (k : Fin 2048) (ho : 256 * i.val = o) (hr : r'.val = r.val) :
    laid x1 o H r' k = laid x1 (256 * i.val) H r k := by
  subst ho
  rw [Fin.ext hr]

/-- The bias of query `r` of block `i` at key `k` is the tile's entry where the tile reaches, zero elsewhere. -/
theorem bias_apply (H : Fin 16) (i : Fin 8) (r : Fin 256) (k : Fin 2048) : val_main_v76 (F := Ideal) x1 (ix3 H (pos i r) k)
    = laid x1 (256 * i.val) H r k := by
  pointwise [val_main_v76]
  simp only [fun r => (laid_all x1 H r k).1, fun r => (laid_all x1 H r k).2.1, fun r => (laid_all x1 H r k).2.2.1,
    fun r => (laid_all x1 H r k).2.2.2.1, fun r => (laid_all x1 H r k).2.2.2.2.1, fun r => (laid_all x1 H r k).2.2.2.2.2.1,
    fun r => (laid_all x1 H r k).2.2.2.2.2.2.1, fun r => (laid_all x1 H r k).2.2.2.2.2.2.2]
  split_ifs <;> (apply laid_at <;> (try dsimp only) <;> omega)

end Cert.ReferenceIdeal.Ref

end
-- ==== Proof.Softmax.lean ====
/-
  Two rows of scores, the longer one -inf wherever the shorter one has no entry: their softmax and its gradient agree.
  And the gradient as a quotient's derivative gives it is the gradient as the kernel computes it.
-/
module

public import proofs.«01_k».proof.Proof.Rows
public import proofs.«01_k».proof.Proof.Ref

@[expose] public section

noncomputable section

open Idealize.ShloMosaic

namespace Cert.Rows

/-- The key a band's place `j` holds, and the keys that have a place in the band. -/
abbrev keyAt (i : Fin 8) (j : Fin 768) (h : 512 ≤ 256 * i.val + j.val) : Fin 2048 := ⟨256 * i.val + j.val - 512, by omega⟩
abbrev inBand (i : Fin 8) (k : Fin 2048) : Prop := 256 * i.val ≤ k.val + 512 ∧ k.val + 512 - 256 * i.val < 768

/-- `f` over the band is `F` over all keys, both `e` at the places only one of them has. -/
structure OnBand (i : Fin 8) (e : EReal) (f : Fin 768 → EReal) (F : Fin 2048 → EReal) : Prop where
  at_key : ∀ (j : Fin 768) (h : 512 ≤ 256 * i.val + j.val), f j = F (keyAt i j h)
  before : ∀ j : Fin 768, ¬ 512 ≤ 256 * i.val + j.val → f j = e
  outside : ∀ k : Fin 2048, ¬ inBand i k → F k = e

variable {i : Fin 8} {f g s : Fin 768 → EReal} {F G t : Fin 2048 → EReal}

theorem OnBand.key (h : OnBand i ⊥ f F) (k : Fin 2048) (hk : inBand i k) : F k = f ⟨k.val + 512 - 256 * i.val, hk.2⟩ := by
  obtain ⟨hk1, hk2⟩ := hk
  have h5 : 512 ≤ 256 * i.val + (k.val + 512 - 256 * i.val) := by omega
  rw [h.at_key ⟨_, hk2⟩ h5]
  exact congrArg F (Fin.ext (by simp only; omega))

theorem OnBand.sum (h : OnBand i 0 f F) : ∑ j, f j = ∑ k, F k := by
  refine Finset.sum_bij_ne_zero
    (fun j _ hj => keyAt i j (by by_contra hc; exact hj (h.before j hc))) (fun _ _ _ => Finset.mem_univ _) ?_ ?_ ?_
  · intro a _ ha b _ hb hab
    have h1 : 512 ≤ 256 * i.val + a.val := by by_contra hc; exact ha (h.before a hc)
    have h2 : 512 ≤ 256 * i.val + b.val := by by_contra hc; exact hb (h.before b hc)
    have := congrArg Fin.val hab
    simp only at this
    exact Fin.ext (by omega)
  · intro k _ hk
    have hb : inBand i k := by by_contra hc; exact hk (h.outside k hc)
    obtain ⟨hb1, hb2⟩ := hb
    have h5 : 512 ≤ 256 * i.val + (k.val + 512 - 256 * i.val) := by omega
    have e : keyAt i ⟨k.val + 512 - 256 * i.val, hb2⟩ h5 = k := Fin.ext (by simp only; omega)
    refine ⟨⟨k.val + 512 - 256 * i.val, hb2⟩, Finset.mem_univ _, ?_, e⟩
    rw [h.at_key _ h5, e]; exact hk
  · intro j _ hj
    exact h.at_key j _

theorem OnBand.top (h : OnBand i ⊥ s t) : top s = top t := by
  refine eq_of_forall_ge_iff fun x => ?_
  unfold Rows.top
  rw [Finset.fold_max_le, Finset.fold_max_le]
  refine and_congr_right fun _ => ⟨fun hs k _ => ?_, fun ht j _ => ?_⟩
  · by_cases hk : inBand i k
    · rw [h.key k hk]; exact hs _ (Finset.mem_univ _)
    · rw [h.outside k hk]; exact bot_le
  · by_cases hj : 512 ≤ 256 * i.val + j.val
    · rw [h.at_key j hj]; exact ht _ (Finset.mem_univ _)
    · rw [h.before j hj]; exact bot_le

theorem wt_bot {n : ℕ} (s : Fin n → EReal) (j : Fin n) (h : s j = ⊥) : wt s j = 0 := by
  unfold wt
  rw [h, EReal.bot_sub]
  rfl

theorem OnBand.wt (h : OnBand i ⊥ s t) : OnBand i 0 (wt s) (wt t) where
  at_key j hj := by unfold Rows.wt; rw [h.top, h.at_key j hj]
  before j hj := wt_bot s j (h.before j hj)
  outside k hk := wt_bot t k (h.outside k hk)

theorem OnBand.den (h : OnBand i ⊥ s t) : den s = den t := h.wt.sum

theorem OnBand.mul_right (h : OnBand i 0 f F) (hg : ∀ (j : Fin 768) (hj : 512 ≤ 256 * i.val + j.val), g j = G (keyAt i j hj)) :
    OnBand i 0 (fun j => f j * g j) (fun k => F k * G k) where
  at_key j hj := by rw [h.at_key j hj, hg j hj]
  before j hj := by rw [h.before j hj, zero_mul]
  outside k hk := by rw [h.outside k hk, zero_mul]

theorem OnBand.pr (h : OnBand i ⊥ s t) : OnBand i 0 (pr s) (pr t) := by
  have e := h.wt.mul_right (g := fun _ => Ideal.div 1 (Rows.den s)) (G := fun _ => Ideal.div 1 (Rows.den t)) (fun _ _ => by rw [h.den])
  exact e

theorem OnBand.ds (h : OnBand i ⊥ s t) (hg : ∀ (j : Fin 768) (hj : 512 ≤ 256 * i.val + j.val), g j = G (keyAt i j hj)) :
    OnBand i 0 (ds s g) (ds t G) := by
  refine h.pr.mul_right (g := fun j => g j - ∑ x, Rows.pr s x * g x) (G := fun k => G k - ∑ x, Rows.pr t x * G x) fun j hj => ?_
  rw [hg j hj, (h.pr.mul_right hg).sum]

/-! ## The gradient as the derivative of a quotient -/

theorem mul_sum_real {ι : Type} (u : Finset ι) (c : ℝ) (hc : 0 ≤ c) (f : ι → EReal) :
    ∑ x ∈ u, (c : EReal) * f x = (c : EReal) * ∑ x ∈ u, f x := by
  classical
  induction u using Finset.induction_on with
  | empty => simp
  | insert a u ha ih =>
    rw [Finset.sum_insert ha, Finset.sum_insert ha, ih,
      EReal.left_distrib_of_nonneg_of_ne_top (by exact_mod_cast hc) (EReal.coe_ne_top c)]

theorem sum_mul_real {ι : Type} (u : Finset ι) (c : ℝ) (hc : 0 ≤ c) (f : ι → EReal) :
    ∑ x ∈ u, f x * (c : EReal) = (∑ x ∈ u, f x) * (c : EReal) := by
  rw [mul_comm _ (c : EReal), ← mul_sum_real u c hc f]
  exact Finset.sum_congr rfl fun x _ => mul_comm _ _

/-- A row none of whose scores is +inf, one of them finite, has a positive finite sum of weights. -/
theorem den_real {n : ℕ} (s : Fin n → EReal) (hs : ∀ k, s k ≠ ⊤) (k : Fin n) (hk : s k ≠ ⊥) :
    ∃ d : ℝ, 0 < d ∧ den s = (d : EReal) := by
  have h1 : top s ≠ ⊤ := by
    refine ((Finset.fold_max_lt _).2 ⟨bot_lt_top, fun k _ => (hs k).lt_top⟩).ne
  have h2 : top s ≠ ⊥ := by
    intro e
    have := (Finset.le_fold_max (s := Finset.univ) (b := (⊥ : EReal)) (f := s) (s k)).2 (Or.inr ⟨k, Finset.mem_univ _, le_rfl⟩)
    have : s k ≤ top s := this
    rw [e] at this
    exact hk (le_bot_iff.1 this)
  obtain ⟨T, hT⟩ : ∃ T : ℝ, top s = (T : EReal) := ⟨_, (EReal.coe_toReal h1 h2).symm⟩
  have hw : ∀ x, ∃ r : ℝ, 0 ≤ r ∧ (s x ≠ ⊥ → 0 < r) ∧ wt s x = (r : EReal) := by
    intro x
    by_cases hx : s x = ⊥
    · exact ⟨0, le_rfl, fun h => absurd hx h, by rw [wt_bot s x hx]; rfl⟩
    · obtain ⟨y, hy⟩ : ∃ y : ℝ, s x = (y : EReal) := ⟨_, (EReal.coe_toReal (hs x) hx).symm⟩
      refine ⟨Real.exp (y - T), (Real.exp_pos _).le, fun _ => Real.exp_pos _, ?_⟩
      unfold wt
      rw [hy, hT, ← EReal.coe_sub]
      rfl
  choose r hr0 hr1 hr using hw
  refine ⟨∑ x, r x, Finset.sum_pos' (fun x _ => hr0 x) ⟨k, Finset.mem_univ _, hr1 k hk⟩, ?_⟩
  unfold den
  rw [Finset.sum_congr rfl fun x _ => hr x]
  classical
  have hc : ∀ u : Finset (Fin n), ∑ x ∈ u, ((r x : ℝ) : EReal) = ((∑ x ∈ u, r x : ℝ) : EReal) := by
    intro u
    induction u using Finset.induction_on with
    | empty => simp
    | insert a u ha ih => rw [Finset.sum_insert ha, Finset.sum_insert ha, ih, EReal.coe_add]
  exact hc _

theorem div_real (x : EReal) (d : ℝ) (hd : 0 < d) : Ideal.div x (d : EReal) = x * ((d⁻¹ : ℝ) : EReal) := by
  unfold Ideal.div
  rw [if_neg (by exact_mod_cast hd.ne'), EReal.coe_inv]

theorem pr_quot {n : ℕ} (s : Fin n → EReal) (d : ℝ) (hd : 0 < d) (hs : den s = (d : EReal)) (k : Fin n) :
    Ideal.div (wt s k) (den s) = pr s k := by
  unfold pr
  rw [hs, div_real _ d hd, div_real _ d hd, one_mul]

theorem ds_quot {n : ℕ} (s g : Fin n → EReal) (d : ℝ) (hd : 0 < d) (hs : den s = (d : EReal)) (k : Fin n) :
    (Ideal.div (g k) (den s) + -∑ x, g x * Ideal.div 1 (den s * den s) * wt s x) * wt s k = ds s g k := by
  have hc : 0 ≤ d⁻¹ := (inv_pos.2 hd).le
  have e1 : Ideal.div 1 (den s * den s) = ((d⁻¹ : ℝ) : EReal) * ((d⁻¹ : ℝ) : EReal) := by
    rw [hs, ← EReal.coe_mul, div_real _ _ (mul_pos hd hd), one_mul, ← EReal.coe_mul, mul_inv]
  have e2 : ∀ x, pr s x = ((d⁻¹ : ℝ) : EReal) * wt s x := by
    intro x; unfold pr; rw [hs, div_real _ d hd, one_mul, mul_comm]
  have e3 : ∑ x, g x * Ideal.div 1 (den s * den s) * wt s x = ((d⁻¹ : ℝ) : EReal) * ∑ x, pr s x * g x := by
    rw [← mul_sum_real _ _ hc]
    refine Finset.sum_congr rfl fun x _ => ?_
    rw [e1, e2]
    ac_rfl
  rw [e3]
  unfold ds
  rw [e2 k, hs, div_real _ d hd, sub_eq_add_neg, ← mul_neg, mul_comm (g k),
    ← EReal.left_distrib_of_nonneg_of_ne_top (by exact_mod_cast hc) (EReal.coe_ne_top _)]
  ac_rfl

end Cert.Rows

end
-- ==== Proof.Block.lean ====
/-
  What one block of the gradient kernel computes from the blocks it reads: two heads stacked as 512 rows against a band of
  768 keys. Each stored value, read at an index, in the words of `Rows`.
-/
module

public import proofs.«01_k».proof.Proof.Rows
public import proofs.«01_k».proof.Proof.Gen.KernelIdeal.Skeleton

@[expose] public section

set_option maxRecDepth 16384

noncomputable section

open Idealize.ShloMosaic Idealize.ShloMosaic.TcCoe Idealize.SL.Sem

namespace Cert.KernelIdeal.Block

open Cert.KernelIdeal Cert.KernelIdeal.Gen Cert.Rows

variable (kb vb : FVec Ideal S768x128 .bf16) (q : FVec Ideal S1x256x128 .f32) (g : FVec Ideal S1x256x128 .bf16)
  (bias : FVec Ideal S2x256x768 .f32) (left : FVec Ideal S1x768 .f32)

/-- Lane `d` of head `h` of the pair. -/
abbrev lane (h : Fin 2) (d : Fin 64) : Fin 128 := ⟨64 * h.val + d.val, by omega⟩

/-- Row `r` of head `h` of the pair, in the stack. -/
abbrev row (h : Fin 2) (r : Fin 256) : Fin 512 := ⟨256 * h.val + r.val, by omega⟩

/-- The scores of row `r` of head `h` against the band. -/
def sc (h : Fin 2) (r : Fin 256) (j : Fin 768) : EReal :=
  (∑ d, (q (ix3 0 r (lane h d)) * eighth) * kb (ix2 j (lane h d))) + bias (ix3 h r j) + left (ix2 0 j)

/-- The gradients of that row's probabilities. -/
def gp (h : Fin 2) (r : Fin 256) (j : Fin 768) : EReal := ∑ d, g (ix3 0 r (lane h d)) * vb (ix2 j (lane h d))

theorem first_lt : ∀ l : Fin 128, IntOp.cmpi CmpIPredicate.slt (BitVec.ofNat 32 l.val) 64#32 = if l.val < 64 then 1#1 else 0#1 := by
  decide

theorem first_apply (r : Fin 256) (l : Fin 128) : k0_pay15 (ix2 r l) = if l.val < 64 then 1#1 else 0#1 := by
  pointwise [k0_pay15]
  exact first_lt l

theorem sel_first {α : Type} (l : Fin 128) (a b : α) :
    Scalar.select (IntOp.cmpi CmpIPredicate.slt (BitVec.ofNat 32 l.val) 64#32) a b = if l.val < 64 then a else b := by
  rw [first_lt]; by_cases h : l.val < 64 <;> simp [h, Scalar.select]

/-- The stacked, scaled queries: a head's rows hold its own lanes, zero elsewhere. -/
theorem qs_apply (h : Fin 2) (r : Fin 256) (l : Fin 128) : k0_pay17 (F := Ideal) (k0_pay13 q) k0_pay15 (ix2 (row h r) l)
    = if l.val / 64 = h.val then q (ix3 0 r l) * eighth else 0 := by
  pointwise [k0_pay17, k0_pay13, k0_pay15]
  simp only [sel_first]
  match h with
  | ⟨0, _⟩ =>
    have e : (⟨256 * 0 + r.val, by omega⟩ : Fin 256) = r := Fin.ext (by simp)
    have hl : (l.val / 64 = 0) ↔ l.val < 64 := by omega
    have h0 : 256 * 0 + r.val < 256 := by omega
    simp only [hl, h0, e, dite_true]; rfl
  | ⟨1, _⟩ =>
    have hl : (l.val / 64 = 1) ↔ ¬ l.val < 64 := by omega
    have h0 : ¬ 256 * 1 + r.val < 256 := by omega
    have e : ∀ p, (⟨256 * 1 + r.val - 256, p⟩ : Fin 256) = r := fun p => Fin.ext (by simp)
    simp only [hl, h0, e, dite_false, ite_not]; rfl

/-- The stacked gradients of the attention's result. -/
theorem gs_apply (h : Fin 2) (r : Fin 256) (l : Fin 128) : k0_pay18 (F := Ideal) (k0_pay14 g) k0_pay15 (ix2 (row h r) l)
    = if l.val / 64 = h.val then g (ix3 0 r l) else 0 := by
  pointwise [k0_pay18, k0_pay14, k0_pay15]
  simp only [sel_first]
  match h with
  | ⟨0, _⟩ =>
    have e : (⟨256 * 0 + r.val, by omega⟩ : Fin 256) = r := Fin.ext (by simp)
    have hl : (l.val / 64 = 0) ↔ l.val < 64 := by omega
    have h0 : 256 * 0 + r.val < 256 := by omega
    simp only [hl, h0, e, dite_true]
  | ⟨1, _⟩ =>
    have hl : (l.val / 64 = 1) ↔ ¬ l.val < 64 := by omega
    have h0 : ¬ 256 * 1 + r.val < 256 := by omega
    have e : ∀ p, (⟨256 * 1 + r.val - 256, p⟩ : Fin 256) = r := fun p => Fin.ext (by simp)
    simp only [hl, h0, e, dite_false, ite_not]

theorem q_dot (h : Fin 2) (r : Fin 256) (j : Fin 768) :
    ∑ x, k0_pay17 (F := Ideal) (k0_pay13 q) k0_pay15 (ix2 (row h r) x) * kb (ix2 j x)
      = ∑ d, (q (ix3 0 r (lane h d)) * eighth) * kb (ix2 j (lane h d)) := by
  rw [sum_lanes h _ fun l hl => by rw [qs_apply, if_neg hl, zero_mul]]
  exact Finset.sum_congr rfl fun d _ => by rw [qs_apply, if_pos (by show (64 * h.val + d.val) / 64 = _; omega)]

theorem g_dot (h : Fin 2) (r : Fin 256) (j : Fin 768) :
    ∑ x, k0_pay18 (F := Ideal) (k0_pay14 g) k0_pay15 (ix2 (row h r) x) * vb (ix2 j x) = gp vb g h r j := by
  rw [sum_lanes h _ fun l hl => by rw [gs_apply, if_neg hl, zero_mul]]
  exact Finset.sum_congr rfl fun d _ => by rw [gs_apply, if_pos (by show (64 * h.val + d.val) / 64 = _; omega)]

/-- The probabilities. -/
theorem p_apply (h : Fin 2) (r : Fin 256) (j : Fin 768) :
    k0_pay19 (F := Ideal) kb (k0_pay13 q) k0_pay15 left bias (ix2 (row h r) j) = pr (sc kb q bias left h r) j := by
  pointwise [k0_pay19]
  have e1 : ∀ p, (⟨(256 * h.val + r.val) / 256, p⟩ : Fin 2) = h := fun p => Fin.ext (by show _ / _ = _; omega)
  have e2 : ∀ p, (⟨(256 * h.val + r.val) % 256, p⟩ : Fin 256) = r := fun p => Fin.ext (by show _ % _ = _; omega)
  simp only [e1, e2, q_dot, ofBits_bot]
  rfl

/-- The gradients of the scores. -/
theorem ds_apply (h : Fin 2) (r : Fin 256) (j : Fin 768) :
    k0_pay20 (F := Ideal) kb vb (k0_pay13 q) (k0_pay14 g) k0_pay15 left bias (ix2 (row h r) j)
      = ds (sc kb q bias left h r) (gp vb g h r) j := by
  pointwise [k0_pay20]
  simp only [p_apply, g_dot]
  rfl

/-- The bias block's gradient: what the block held, plus the gradients of the scores. -/
theorem db_apply (old : FVec Ideal S2x256x768 .f32) (h : Fin 2) (r : Fin 256) (j : Fin 768) :
    k0_pay21 (F := Ideal) kb vb (k0_pay13 q) (k0_pay14 g) k0_pay15 left bias old (ix3 h r j)
      = old (ix3 h r j) + ds (sc kb q bias left h r) (gp vb g h r) j := by
  pointwise [k0_pay21]
  have e : ∀ p, (⟨h.val * 256 + r.val, p⟩ : Fin 512) = row h r := fun p => Fin.ext (by show _ + _ = _ + _; omega)
  rw [e, ds_apply]

/-- The block of the queries' gradient. -/
theorem dq_apply (h : Fin 2) (r : Fin 256) (d : Fin 64) :
    k0_pay1 (F := Ideal) k0_pay15 (k0_pay23 kb vb (k0_pay13 q) (k0_pay14 g) k0_pay15 left bias)
        (k0_pay24 kb vb (k0_pay13 q) (k0_pay14 g) k0_pay15 left bias) (ix3 0 r (lane h d))
      = (∑ j, ds (sc kb q bias left h r) (gp vb g h r) j * kb (ix2 j (lane h d))) * eighth := by
  have key : ∀ R : Fin 512, ∀ l : Fin 128, k0_pay23 (F := Ideal) kb vb (k0_pay13 q) (k0_pay14 g) k0_pay15 left bias (ix2 R l)
      = ∑ j, k0_pay20 (F := Ideal) kb vb (k0_pay13 q) (k0_pay14 g) k0_pay15 left bias (ix2 R j) * kb (ix2 j l) := by
    intro R l; pointwise [k0_pay23, k0_pay22]
  pointwise [k0_pay1, k0_pay24]
  rw [first_apply, key, key]
  match h with
  | ⟨0, _⟩ =>
    have e : ∀ p, (⟨r.val, p⟩ : Fin 512) = row 0 r := fun p => Fin.ext (by show _ = _; simp)
    have hl : 64 * 0 + d.val < 64 := by omega
    simp only [hl, if_true, e, ds_apply]; rfl
  | ⟨1, _⟩ =>
    have e : ∀ p, (⟨256 + r.val, p⟩ : Fin 512) = row 1 r := fun p => Fin.ext (by show _ = _; simp)
    have hl : ¬ 64 * 1 + d.val < 64 := by omega
    simp only [hl, if_false, e, ds_apply]; rfl

/-- What the block adds into the keys' gradient. -/
theorem dk_apply (old : FVec Ideal S128x768 .f32) (h : Fin 2) (d : Fin 64) (j : Fin 768) :
    k0_pay2 (F := Ideal) (k0_pay17 (k0_pay13 q) k0_pay15) (k0_pay22 kb vb (k0_pay13 q) (k0_pay14 g) k0_pay15 left bias) old
        (ix2 (lane h d) j)
      = old (ix2 (lane h d) j)
        + ∑ r, (q (ix3 0 r (lane h d)) * eighth) * ds (sc kb q bias left h r) (gp vb g h r) j := by
  pointwise [k0_pay2, k0_pay22]
  rw [sum_stack h]
  · refine congrArg _ (Finset.sum_congr rfl fun r _ => ?_)
    rw [qs_apply, if_pos (by show (64 * h.val + d.val) / 64 = _; omega), ds_apply]
  · intro R hR
    obtain ⟨h', r', rfl⟩ : ∃ h' r', R = row h' r' := ⟨⟨R.val / 256, by omega⟩, ⟨R.val % 256, by omega⟩, Fin.ext (by show _ = 256 * (R.val / 256) + R.val % 256; omega)⟩
    have hne : ¬ (64 * h.val + d.val) / 64 = h'.val := by
      have : (256 * h'.val + r'.val) / 256 ≠ h.val := hR
      omega
    rw [qs_apply, if_neg hne, zero_mul]

/-- What the block adds into the values' gradient. -/
theorem dv_apply (old : FVec Ideal S128x768 .f32) (h : Fin 2) (d : Fin 64) (j : Fin 768) :
    k0_pay3 (F := Ideal) (k0_pay18 (k0_pay14 g) k0_pay15) (k0_pay19 kb (k0_pay13 q) k0_pay15 left bias) old
        (ix2 (lane h d) j)
      = old (ix2 (lane h d) j) + ∑ r, g (ix3 0 r (lane h d)) * pr (sc kb q bias left h r) j := by
  pointwise [k0_pay3]
  rw [sum_stack h]
  · refine congrArg _ (Finset.sum_congr rfl fun r _ => ?_)
    rw [gs_apply, if_pos (by show (64 * h.val + d.val) / 64 = _; omega), p_apply]
  · intro R hR
    obtain ⟨h', r', rfl⟩ : ∃ h' r', R = row h' r' := ⟨⟨R.val / 256, by omega⟩, ⟨R.val % 256, by omega⟩, Fin.ext (by show _ = 256 * (R.val / 256) + R.val % 256; omega)⟩
    have hne : ¬ (64 * h.val + d.val) / 64 = h'.val := by
      have : (256 * h'.val + r'.val) / 256 ≠ h.val := hR
      omega
    rw [gs_apply, if_neg hne, zero_mul]

/-- The keys' or values' gradient leaves the scratch transposed. -/
theorem out_apply (a : FVec Ideal S128x2048 .f32) (k : Fin 2048) (l : Fin 128) :
    k0_pay4 (F := Ideal) a (ix3 0 k l) = a (ix2 l k) ∧ k0_pay5 (F := Ideal) a (ix3 0 k l) = a (ix2 l k) := by
  constructor
  · pointwise [k0_pay4]
  · pointwise [k0_pay5]

end Cert.KernelIdeal.Block

end
-- ==== Proof.Store.lean ====
/-
  The scratch arrays read at an index: a band of the padded keys, the padded keys just filled, a band of an accumulator
  added to.
-/
module

public import proofs.«01_k».proof.Proof.Block
public import proofs.«01_k».proof.Proof.Gen.KernelIdeal.Value
public import Idealize.ShloMosaic.Lib.Pipeline.ValueKit
public import Idealize.ShloMosaic.Lib.Pipeline.ReadBack
public import Idealize.ShloMosaic.Lib.WritesUnit

@[expose] public section

set_option maxRecDepth 16384

noncomputable section

open Idealize.ShloMosaic Idealize.ShloMosaic.TcCoe Idealize.SL.Sem

namespace Cert.KernelIdeal.Store

open Cert.KernelIdeal Cert.KernelIdeal.Gen Cert.KernelIdeal.Block Cert.Rows

theorem off1_eq : ∀ t : Fin cfg0.N, k0_off1 (grid0.coords t) = ![256 * (t.val % 8), 0] :=
  (by decide +kernel : ∀ t : Fin grid0.N, _)

theorem off2_eq : ∀ t : Fin cfg0.N, k0_off2 (grid0.coords t) = ![0, 256 * (t.val % 8)] :=
  (by decide +kernel : ∀ t : Fin grid0.N, _)

/-- A band of 768 rows. -/
theorem ld_rows (t : Fin cfg0.N) (X : S2560x128.Idx → Elt Ideal .bf16)
    (inb : ∀ a, k0_off1 (grid0.coords t) a + (![768, 128] : Fin 2 → ℕ) a ≤ S2560x128.size a) (j : Fin 768) (l : Fin 128) :
    View.ld (Val := Elt Ideal) X (Rect.unit (s := S2560x128) (k0_off1 (grid0.coords t)) ![768, 128] inb) (ix2 j l)
      = X (ix2 ⟨256 * (t.val % 8) + j.val, by omega⟩ l) := by
  rw [View.ld_unit_apply_of]
  intro a
  refine Eq.trans ?_ (congrArg (· + _) (congrFun (off1_eq t) a).symm)
  match a with
  | ⟨0, _⟩ => rfl
  | ⟨1, _⟩ => exact (Nat.zero_add _).symm

/-- A band of 768 columns. -/
theorem ld_cols (t : Fin cfg0.N) (X : S128x2560.Idx → Elt Ideal .f32)
    (inb : ∀ a, k0_off2 (grid0.coords t) a + (![128, 768] : Fin 2 → ℕ) a ≤ S128x2560.size a) (l : Fin 128) (j : Fin 768) :
    View.ld (Val := Elt Ideal) X (Rect.unit (s := S128x2560) (k0_off2 (grid0.coords t)) ![128, 768] inb) (ix2 l j)
      = X (ix2 l ⟨256 * (t.val % 8) + j.val, by omega⟩) := by
  rw [View.ld_unit_apply_of]
  intro a
  refine Eq.trans ?_ (congrArg (· + _) (congrFun (off2_eq t) a).symm)
  match a with
  | ⟨0, _⟩ => exact (Nat.zero_add _).symm
  | ⟨1, _⟩ => rfl

/-- The padded rows just filled: 512 of the first piece written, the rows of the second behind them. -/
theorem canon_fill (i1 i0) (a : S2048x128.Idx → Elt Ideal .bf16) (z : S512x128.Idx → Elt Ideal .bf16) (x : Fin 2560) (l : Fin 128) :
    View.canon (Val := Elt Ideal) (s := S2560x128) (e := .bf16)
        [⟨Rect.unit (s := S2560x128) ![512, 0] ![2048, 128] i1, a⟩, ⟨Rect.unit (s := S2560x128) ![0, 0] ![512, 128] i0, z⟩] (ix2 x l)
      = if hx : 512 ≤ x.val then a (ix2 ⟨x.val - 512, by omega⟩ l) else z (ix2 ⟨x.val, by omega⟩ l) := by
  by_cases hx : 512 ≤ x.val
  · rw [dif_pos hx]
    have e : (Rect.unit (s := S2560x128) ![512, 0] ![2048, 128] i1).emb (ix2 ⟨x.val - 512, by omega⟩ l) = ix2 x l := by
      funext k
      apply Fin.ext
      match k with
      | ⟨0, _⟩ => show 512 + 1 * (x.val - 512) = x.val; omega
      | ⟨1, _⟩ => show 0 + 1 * l.val = l.val; omega
    rw [← e, View.canon_cons_emb]
  · rw [dif_neg hx, View.canon_cons_of_not_mem]
    · have e : (Rect.unit (s := S2560x128) ![0, 0] ![512, 128] i0).emb (ix2 ⟨x.val, by omega⟩ l) = ix2 x l := by
        funext k
        apply Fin.ext
        match k with
        | ⟨0, _⟩ => show 0 + 1 * x.val = x.val; omega
        | ⟨1, _⟩ => show 0 + 1 * l.val = l.val; omega
      rw [← e, View.canon_cons_emb]
    · rw [Rect.mem_set_unit]
      intro hall
      have h1 : 512 ≤ x.val ∧ x.val < 512 + 2048 := hall 0
      exact hx h1.1

/-- A band of columns put over columns read so. -/
theorem put_cols (t : Fin cfg0.N) (v : View sig .tc .vmem S128x2560 .f32) (f : v.ty.Contents (Elt Ideal)) (L : List (View.Piece (Elt Ideal) S128x2560 .f32))
    (inb : ∀ a, k0_off2 (grid0.coords t) a + (![128, 768] : Fin 2 → ℕ) a ≤ S128x2560.size a)
    (w : (Rect.unit (s := S128x2560) (k0_off2 (grid0.coords t)) ![128, 768] inb).shape.Idx → Elt Ideal .f32) (l : Fin 128) (x : Fin 2560) :
    v.read (Elt Ideal) (v.writes (Elt Ideal) f (⟨Rect.unit (s := S128x2560) (k0_off2 (grid0.coords t)) ![128, 768] inb, w⟩ :: L)) (ix2 l x)
      = if h : 256 * (t.val % 8) ≤ x.val ∧ x.val - 256 * (t.val % 8) < 768 then
          w (ix2 l ⟨x.val - 256 * (t.val % 8), h.2⟩)
        else v.read (Elt Ideal) (v.writes (Elt Ideal) f L) (ix2 l x) := by
  by_cases h : 256 * (t.val % 8) ≤ x.val ∧ x.val - 256 * (t.val % 8) < 768
  · rw [dif_pos h]
    refine View.read_writes_cons_unit_of_mem v f inb w L _ (ix2 l ⟨x.val - 256 * (t.val % 8), h.2⟩) (off2_eq t) fun a => ?_
    match a with
    | ⟨0, _⟩ => exact (Nat.zero_add _).symm
    | ⟨1, _⟩ => show x.val = 256 * (t.val % 8) + (x.val - 256 * (t.val % 8)); omega
  · rw [dif_neg h]
    refine View.read_writes_cons_unit_of_not_mem v f inb w L _ (off2_eq t) 1 ?_
    show x.val < 256 * (t.val % 8) ∨ 256 * (t.val % 8) + 768 ≤ x.val
    omega

/-- The same over columns all zero. -/
theorem canon_cols (t : Fin cfg0.N)
    (inb : ∀ a, k0_off2 (grid0.coords t) a + (![128, 768] : Fin 2 → ℕ) a ≤ S128x2560.size a) (i0)
    (w : (Rect.unit (s := S128x2560) (k0_off2 (grid0.coords t)) ![128, 768] inb).shape.Idx → Elt Ideal .f32)
    (z : S128x2560.Idx → Elt Ideal .f32) (l : Fin 128) (x : Fin 2560) :
    View.canon (Val := Elt Ideal) (s := S128x2560) (e := .f32)
        [⟨Rect.unit (s := S128x2560) (k0_off2 (grid0.coords t)) ![128, 768] inb, w⟩, ⟨Rect.unit (s := S128x2560) ![0, 0] ![128, 2560] i0, z⟩] (ix2 l x)
      = if h : 256 * (t.val % 8) ≤ x.val ∧ x.val - 256 * (t.val % 8) < 768 then
          w (ix2 l ⟨x.val - 256 * (t.val % 8), h.2⟩)
        else z (ix2 l x) := by
  have e0 : (![0, 0] : Fin 2 → ℕ) = fun _ => 0 := funext fun a => by fin_cases a <;> rfl
  have hz : View.canon (Val := Elt Ideal) (s := S128x2560) (e := .f32) [⟨Rect.unit (s := S128x2560) ![0, 0] ![128, 2560] i0, z⟩] = z :=
    View.canon_cons_unit_zero e0 _ _ _
  by_cases h : 256 * (t.val % 8) ≤ x.val ∧ x.val - 256 * (t.val % 8) < 768
  · rw [dif_pos h]
    have e : (Rect.unit (s := S128x2560) (k0_off2 (grid0.coords t)) ![128, 768] inb).emb (ix2 l ⟨x.val - 256 * (t.val % 8), h.2⟩) = ix2 l x := by
      funext a
      apply Fin.ext
      refine (congrArg (· + 1 * _) (congrFun (off2_eq t) a)).trans ?_
      match a with
      | ⟨0, _⟩ => show 0 + 1 * l.val = l.val; omega
      | ⟨1, _⟩ => show 256 * (t.val % 8) + 1 * (x.val - 256 * (t.val % 8)) = x.val; omega
    rw [← e, View.canon_cons_emb]
  · rw [dif_neg h, View.canon_cons_of_not_mem, hz]
    rw [Rect.mem_set_unit]
    intro hall
    have h1 : k0_off2 (grid0.coords t) 1 ≤ x.val ∧ x.val < k0_off2 (grid0.coords t) 1 + 768 := hall 1
    rw [off2_eq] at h1
    have h2 : 256 * (t.val % 8) ≤ x.val ∧ x.val < 256 * (t.val % 8) + 768 := h1
    omega

theorem third : ∀ t : Fin cfg0.N, (grid0.coords t 2).val = t.val % 8 :=
  (by decide +kernel : ∀ t : Fin grid0.N, _)

theorem left_cmp' : ∀ i : Fin 8, ∀ j : Fin 768,
    IntOp.cmpi CmpIPredicate.sge (IntOp.addi (IntOp.subi (IntOp.muli (BitVec.ofNat 32 i.val) 256#32) 512#32) (BitVec.ofNat 32 j.val)) 0#32
      = if 512 ≤ 256 * i.val + j.val then 1#1 else 0#1 := by
  decide +kernel

theorem left_cmp (n : ℕ) (j : Fin 768) :
    IntOp.cmpi CmpIPredicate.sge (IntOp.addi (Scalar.subi (Scalar.muli (BitVec.ofNat 32 (n % 8)) 256#32) 512#32) (BitVec.ofNat 32 j.val)) 0#32
      = if 512 ≤ 256 * (n % 8) + j.val then 1#1 else 0#1 :=
  left_cmp' ⟨n % 8, by omega⟩ j

/-- Keys before the sequence's first are masked. -/
theorem left_apply (t : Fin cfg0.N) (j : Fin 768) :
    k0_pay16 (F := Ideal) (grid0.coords t) (ix2 0 j) = if 512 ≤ 256 * (t.val % 8) + j.val then (0 : EReal) else ⊥ := by
  have hm : Named.named (F := Ideal) κ "mask" (φ := .f32) 4048155338#32 = (⊥ : EReal) :=
    IdealRules.named_const.ideal_named_scalar κ "mask" _ ⊥ rfl
  pointwise [k0_pay16]
  rw [third t, left_cmp, hm]
  by_cases h : 512 ≤ 256 * (t.val % 8) + j.val
  · simp only [h, if_true]; rfl
  · simp only [h, if_false]; rfl

theorem pay7_apply (a : FVec Ideal S1x2048x128 .f32) (r : Fin 2048) (l : Fin 128) : k0_pay7 (F := Ideal) a (ix2 r l) = a (ix3 0 r l) := by
  pointwise [k0_pay7]
theorem pay9_apply (a : FVec Ideal S1x2048x128 .f32) (r : Fin 2048) (l : Fin 128) : k0_pay9 (F := Ideal) a (ix2 r l) = a (ix3 0 r l) := by
  pointwise [k0_pay9]
theorem pay6_apply (r : Fin 512) (l : Fin 128) : k0_pay6 (F := Ideal) (ix2 r l) = (0 : EReal) := by
  pointwise [k0_pay6]
theorem pay8_apply (r : Fin 512) (l : Fin 128) : k0_pay8 (F := Ideal) (ix2 r l) = (0 : EReal) := by
  pointwise [k0_pay8]
theorem pay10_apply (l : Fin 128) (x : Fin 2560) : k0_pay10 (F := Ideal) (ix2 l x) = (0 : EReal) := by
  pointwise [k0_pay10]
theorem pay11_apply (l : Fin 128) (x : Fin 2560) : k0_pay11 (F := Ideal) (ix2 l x) = (0 : EReal) := by
  pointwise [k0_pay11]
theorem pay12_apply (h : Fin 2) (r : Fin 256) (j : Fin 768) : k0_pay12 (F := Ideal) (ix3 h r j) = (0 : EReal) := by
  pointwise [k0_pay12]

end Cert.KernelIdeal.Store

end
-- ==== Proof.Pass.lean ====
/-
  What one point of the grid computes, in the words of the arrays it reads: the scores and the gradients of the
  probabilities of its two heads' queries, and what it adds into each gradient.
-/
module

public import proofs.«01_k».proof.Proof.Store

@[expose] public section

set_option maxRecDepth 16384

noncomputable section

open Idealize.ShloMosaic Idealize.ShloMosaic.TcCoe Idealize.SL.Sem

namespace Cert.KernelIdeal.Pass

open Cert.KernelIdeal Cert.KernelIdeal.Gen Cert.KernelIdeal.Block Cert.KernelIdeal.Store Cert.Rows

variable (Z : S2x2048x4096.Idx → EReal) (M : S16x256x768.Idx → EReal) (D : S2x2048x2048.Idx → EReal)

/-! ## The arrays' side -/

/-- Key `j` of query block `i`'s band, as a row of the padded keys. -/
abbrev band (i : Fin 8) (j : Fin 768) : Fin 2560 := ⟨256 * i.val + j.val, by omega⟩

/-- The padded keys and values of one head. -/
def key (b : Fin 2) (H : Fin 16) (x : Fin 2560) (d : Fin 64) : EReal :=
  if h : 512 ≤ x.val then Z (ix3 b ⟨x.val - 512, by omega⟩ (kcol H d)) else 0
def val (b : Fin 2) (H : Fin 16) (x : Fin 2560) (d : Fin 64) : EReal :=
  if h : 512 ≤ x.val then Z (ix3 b ⟨x.val - 512, by omega⟩ (vcol H d)) else 0

/-- The scores of query `r` of block `i` against its band. -/
def S (b : Fin 2) (H : Fin 16) (i : Fin 8) (r : Fin 256) (j : Fin 768) : EReal :=
  (∑ d, (Z (ix3 b (pos i r) (qcol H d)) * eighth) * key Z b H (band i j) d) + M (ix3 H r j)
    + if 512 ≤ 256 * i.val + j.val then 0 else ⊥

/-- The gradients of its probabilities. -/
def G (b : Fin 2) (H : Fin 16) (i : Fin 8) (r : Fin 256) (j : Fin 768) : EReal :=
  ∑ d, D (ix3 b (pos i r) (gcol H d)) * val Z b H (band i j) d

/-- The gradients of its scores, and its probabilities. -/
def dsc (b : Fin 2) (H : Fin 16) (i : Fin 8) (r : Fin 256) (j : Fin 768) : EReal := ds (S Z M b H i r) (G Z D b H i r) j
def prb (b : Fin 2) (H : Fin 16) (i : Fin 8) (r : Fin 256) (j : Fin 768) : EReal := pr (S Z M b H i r) j

/-- The queries' gradient. -/
def dqv (b : Fin 2) (H : Fin 16) (i : Fin 8) (r : Fin 256) (d : Fin 64) : EReal :=
  (∑ j, dsc Z M D b H i r j * key Z b H (band i j) d) * eighth

/-- What query block `i` adds into the gradient of padded key, or value, `x`. -/
def dkx (b : Fin 2) (H : Fin 16) (d : Fin 64) (x : Fin 2560) (i : Fin 8) : EReal :=
  if h : 256 * i.val ≤ x.val ∧ x.val - 256 * i.val < 768 then
    ∑ r, (Z (ix3 b (pos i r) (qcol H d)) * eighth) * dsc Z M D b H i r ⟨x.val - 256 * i.val, h.2⟩ else 0
def dvx (b : Fin 2) (H : Fin 16) (d : Fin 64) (x : Fin 2560) (i : Fin 8) : EReal :=
  if h : 256 * i.val ≤ x.val ∧ x.val - 256 * i.val < 768 then
    ∑ r, D (ix3 b (pos i r) (gcol H d)) * prb Z M b H i r ⟨x.val - 256 * i.val, h.2⟩ else 0

/-- What point `p` of a pair's sixteen adds into the gradient of the bias. -/
def dbx (H : Fin 16) (r : Fin 256) (j : Fin 768) (p : Fin 16) : EReal :=
  dsc Z M D ⟨p.val / 8, by omega⟩ H ⟨p.val % 8, by omega⟩ r j

/-- The first terms of a sum, through the `n`th. -/
def upto {N : ℕ} (f : Fin N → EReal) (n : ℕ) : EReal := ∑ i : Fin N, if i.val ≤ n then f i else 0

theorem upto_zero {N : ℕ} (f : Fin N → EReal) (i : Fin N) (h : i.val = 0) : upto f i.val = f i := by
  unfold upto
  rw [Finset.sum_eq_single i]
  · simp
  · intro k _ hk
    have : ¬ k.val ≤ i.val := fun hle => hk (Fin.ext (by omega))
    rw [if_neg this]
  · intro hni; exact absurd (Finset.mem_univ _) hni

theorem upto_succ {N : ℕ} (f : Fin N → EReal) (i : Fin N) (h : i.val ≠ 0) : upto f i.val = upto f (i.val - 1) + f i := by
  unfold upto
  have e : f i = ∑ k : Fin N, if k = i then f k else 0 := by simp
  rw [e, ← Finset.sum_add_distrib]
  refine Finset.sum_congr rfl fun k _ => ?_
  by_cases hk : k = i
  · subst hk
    have : ¬ k.val ≤ k.val - 1 := by omega
    simp [this]
  · have hne : k.val ≠ i.val := fun e => hk (Fin.ext e)
    have : (k.val ≤ i.val) ↔ k.val ≤ i.val - 1 := by omega
    simp [hk, this]

theorem upto_last {N : ℕ} (f : Fin N → EReal) (n : ℕ) (h : N ≤ n + 1) : upto f n = ∑ i, f i := by
  unfold upto
  exact Finset.sum_congr rfl fun k _ => if_pos (by omega)

/-! ## The points' blocks -/

theorem idx : ∀ t : Fin cfg0.N, win0_0.index t = ![t.val / 8 % 2, t.val % 8, t.val / 16] ∧ win0_1.index t = ![t.val / 8 % 2, 0, 8 + t.val / 16]
   ∧ win0_2.index t = ![t.val / 8 % 2, 0, 16 + t.val / 16] ∧ win0_3.index t = ![t.val / 16, 0, 0] ∧ win0_4.index t = ![t.val / 8 % 2, t.val % 8, t.val / 16]
   ∧ win0_5.index t = ![t.val / 8 % 2, t.val % 8, t.val / 16] ∧ win0_6.index t = ![t.val / 8 % 2, 0, t.val / 16] ∧ win0_7.index t = ![t.val / 8 % 2, 0, t.val / 16]
   ∧ win0_8.index t = ![t.val / 16, 0, 0] :=
  (by decide +kernel : ∀ t : Fin grid0.N, _)

theorem pt_lt (t : Fin cfg0.N) : t.val < 128 := lt_of_lt_of_eq t.isLt N_0

/-- A point's head, batch entry and query block. -/
abbrev hd (t : Fin cfg0.N) (h : Fin 2) : Fin 16 := ⟨2 * (t.val / 16) + h.val, by have := pt_lt t; omega⟩
abbrev bt (t : Fin cfg0.N) : Fin 2 := ⟨t.val / 8 % 2, by omega⟩
abbrev it (t : Fin cfg0.N) : Fin 8 := ⟨t.val % 8, by omega⟩

theorem q_block (t : Fin cfg0.N) (h : Fin 2) (r : Fin 256) (d : Fin 64) :
    ((cfg0.win 0).blk t).view.read (Elt Ideal) Z (ix3 0 r (lane h d)) = Z (ix3 (bt t) (pos (it t) r) (qcol (hd t h) d)) := by
  blk_ext [idx t]

theorem k_block (t : Fin cfg0.N) (k : Fin 2048) (l : Fin 128) :
    ((cfg0.win 1).blk t).view.read (Elt Ideal) Z (ix3 0 k l)
      = Z (ix3 (bt t) k ⟨1024 + (128 * (t.val / 16) + l.val), by have := pt_lt t; omega⟩) := by
  blk_ext [idx t]

theorem v_block (t : Fin cfg0.N) (k : Fin 2048) (l : Fin 128) :
    ((cfg0.win 2).blk t).view.read (Elt Ideal) Z (ix3 0 k l)
      = Z (ix3 (bt t) k ⟨2048 + (128 * (t.val / 16) + l.val), by have := pt_lt t; omega⟩) := by
  blk_ext [idx t]

theorem b_block (t : Fin cfg0.N) (h : Fin 2) (r : Fin 256) (j : Fin 768) :
    ((cfg0.win 3).blk t).view.read (Elt Ideal) M (ix3 h r j) = M (ix3 (hd t h) r j) := by
  blk_ext [idx t]

theorem g_block (t : Fin cfg0.N) (h : Fin 2) (r : Fin 256) (d : Fin 64) :
    ((cfg0.win 4).blk t).view.read (Elt Ideal) D (ix3 0 r (lane h d)) = D (ix3 (bt t) (pos (it t) r) (gcol (hd t h) d)) := by
  blk_ext [idx t]

/-! ## The padded keys and values in scratch -/

def padK (t : Fin cfg0.N) (x : Fin 2560) (l : Fin 128) : EReal :=
  if h : 512 ≤ x.val then Z (ix3 (bt t) ⟨x.val - 512, by omega⟩ ⟨1024 + (128 * (t.val / 16) + l.val), by have := pt_lt t; omega⟩) else 0
def padV (t : Fin cfg0.N) (x : Fin 2560) (l : Fin 128) : EReal :=
  if h : 512 ≤ x.val then Z (ix3 (bt t) ⟨x.val - 512, by omega⟩ ⟨2048 + (128 * (t.val / 16) + l.val), by have := pt_lt t; omega⟩) else 0

theorem padK_lane (t : Fin cfg0.N) (x : Fin 2560) (h : Fin 2) (d : Fin 64) : padK Z t x (lane h d) = key Z (bt t) (hd t h) x d := by
  unfold padK key
  split_ifs with hx
  · refine congrArg Z (congrArg (ix3 _ _) (Fin.ext ?_))
    show 1024 + (128 * (t.val / 16) + (64 * h.val + d.val)) = 1024 + ((2 * (t.val / 16) + h.val) * 64 + d.val); omega
  · rfl

theorem padV_lane (t : Fin cfg0.N) (x : Fin 2560) (h : Fin 2) (d : Fin 64) : padV Z t x (lane h d) = val Z (bt t) (hd t h) x d := by
  unfold padV val
  split_ifs with hx
  · refine congrArg Z (congrArg (ix3 _ _) (Fin.ext ?_))
    show 2048 + (128 * (t.val / 16) + (64 * h.val + d.val)) = 2048 + ((2 * (t.val / 16) + h.val) * 64 + d.val); omega
  · rfl

/-! ## The point -/

section Point

variable {Z M D} {t : Fin cfg0.N} {kb vb : FVec Ideal S768x128 .bf16} {q : FVec Ideal S1x256x128 .f32} {g : FVec Ideal S1x256x128 .bf16}
  {bias : FVec Ideal S2x256x768 .f32}
  (hk : ∀ j l, kb (ix2 j l) = padK Z t (band (it t) j) l) (hv : ∀ j l, vb (ix2 j l) = padV Z t (band (it t) j) l)
  (hq : ∀ h r d, q (ix3 0 r (lane h d)) = Z (ix3 (bt t) (pos (it t) r) (qcol (hd t h) d)))
  (hg : ∀ h r d, g (ix3 0 r (lane h d)) = D (ix3 (bt t) (pos (it t) r) (gcol (hd t h) d)))
  (hb : ∀ h r j, bias (ix3 h r j) = M (ix3 (hd t h) r j))

include hk hq hb in
theorem sc_point (h : Fin 2) (r : Fin 256) : sc kb q bias (k0_pay16 (grid0.coords t)) h r = S Z M (bt t) (hd t h) (it t) r := by
  funext j
  unfold sc S
  rw [left_apply, hb]
  simp only [hk, padK_lane, hq]

include hv hg in
theorem gp_point (h : Fin 2) (r : Fin 256) : gp vb g h r = G Z D (bt t) (hd t h) (it t) r := by
  funext j
  unfold gp G
  simp only [hv, padV_lane, hg]

include hk hv hq hg hb in
theorem db_point (old : FVec Ideal S2x256x768 .f32) (h : Fin 2) (r : Fin 256) (j : Fin 768) :
    k0_pay21 (F := Ideal) kb vb (k0_pay13 q) (k0_pay14 g) k0_pay15 (k0_pay16 (grid0.coords t)) bias old (ix3 h r j)
      = old (ix3 h r j) + dsc Z M D (bt t) (hd t h) (it t) r j := by
  rw [db_apply, sc_point hk hq hb, gp_point hv hg]; rfl

include hk hv hq hg hb in
theorem dq_point (h : Fin 2) (r : Fin 256) (d : Fin 64) :
    k0_pay1 (F := Ideal) k0_pay15 (k0_pay23 kb vb (k0_pay13 q) (k0_pay14 g) k0_pay15 (k0_pay16 (grid0.coords t)) bias)
        (k0_pay24 kb vb (k0_pay13 q) (k0_pay14 g) k0_pay15 (k0_pay16 (grid0.coords t)) bias) (ix3 0 r (lane h d))
      = dqv Z M D (bt t) (hd t h) (it t) r d := by
  rw [dq_apply, sc_point hk hq hb, gp_point hv hg]
  simp only [hk, padK_lane]; rfl

include hk hv hq hg hb in
theorem dk_point (old : FVec Ideal S128x768 .f32) (h : Fin 2) (d : Fin 64) (x : Fin 2560) (hx : 256 * (t.val % 8) ≤ x.val ∧ x.val - 256 * (t.val % 8) < 768) :
    k0_pay2 (F := Ideal) (k0_pay17 (k0_pay13 q) k0_pay15)
        (k0_pay22 kb vb (k0_pay13 q) (k0_pay14 g) k0_pay15 (k0_pay16 (grid0.coords t)) bias) old
        (ix2 (lane h d) ⟨x.val - 256 * (t.val % 8), hx.2⟩)
      = old (ix2 (lane h d) ⟨x.val - 256 * (t.val % 8), hx.2⟩) + dkx Z M D (bt t) (hd t h) d x (it t) := by
  rw [dk_apply]
  unfold dkx
  rw [dif_pos hx]
  refine congrArg _ (Finset.sum_congr rfl fun r _ => ?_)
  rw [sc_point hk hq hb, gp_point hv hg, hq]; rfl

include hk hq hg hb in
theorem dv_point (old : FVec Ideal S128x768 .f32) (h : Fin 2) (d : Fin 64) (x : Fin 2560) (hx : 256 * (t.val % 8) ≤ x.val ∧ x.val - 256 * (t.val % 8) < 768) :
    k0_pay3 (F := Ideal) (k0_pay18 (k0_pay14 g) k0_pay15)
        (k0_pay19 kb (k0_pay13 q) k0_pay15 (k0_pay16 (grid0.coords t)) bias) old
        (ix2 (lane h d) ⟨x.val - 256 * (t.val % 8), hx.2⟩)
      = old (ix2 (lane h d) ⟨x.val - 256 * (t.val % 8), hx.2⟩) + dvx Z M D (bt t) (hd t h) d x (it t) := by
  rw [dv_apply]
  unfold dvx
  rw [dif_pos hx]
  refine congrArg _ (Finset.sum_congr rfl fun r _ => ?_)
  rw [sc_point hk hq hb, hg]; rfl

end Point

end Cert.KernelIdeal.Pass

end
-- ==== Proof.Equation.lean ====
/-
  The equation: over the extended reals, what the kernel's arrays hold is what the reference's gradient is, when the
  queries, the keys and the table are finite.
-/
module

public import proofs.«01_k».proof.Proof.Softmax
public import proofs.«01_k».proof.Proof.Pass
public import proofs.«01_k».proof.Proof.Ref

@[expose] public section

set_option maxRecDepth 16384

noncomputable section

open Idealize.ShloMosaic

namespace Cert.Equation

open Cert.Rows Cert.KernelIdeal.Pass Cert.ReferenceIdeal.Ref
open Cert.ReferenceIdeal (S2x2048x4096 S16x257 S2x2048x2048 S16x256x768)
open Cert.ReferenceIdeal.Read

variable {Z : FVec Ideal S2x2048x4096 .f32} {T : FVec Ideal S16x257 .f32} {D : FVec Ideal S2x2048x2048 .bf16} {M : S16x256x768.Idx → EReal}

/-- The bias tile is the gathered table where the key's chunk is one the query sees, -inf elsewhere. -/
def Tile (M : S16x256x768.Idx → EReal) (T : FVec Ideal S16x257 .f32) : Prop :=
  ∀ (H : Fin 16) (r : Fin 256) (j : Fin 768), M (ix3 H r j)
    = if r.val / 64 ≤ j.val / 64 ∧ j.val / 64 ≤ r.val / 64 + 8 then val_main_v26 (F := Ideal) T (ix3 H r j) else (⊥ : EReal)

/-- Queries and keys, and the table, are finite. -/
structure Finite (Z : FVec Ideal S2x2048x4096 .f32) (T : FVec Ideal S16x257 .f32) : Prop where
  columns : ∀ (b : Fin 2) (n : Fin 2048) (x : Fin 4096), x.val < 2048 → ∃ y : ℝ, Z (ix3 b n x) = (y : EReal)
  table : ∀ y, ∃ t : ℝ, T y = (t : EReal)

/-! ## The scores -/

theorem band_seen (i : Fin 8) (r : Fin 256) (j : Fin 768) (h : 512 ≤ 256 * i.val + j.val) :
    (r.val / 64 ≤ j.val / 64 ∧ j.val / 64 ≤ r.val / 64 + 8) ↔ seen (pos i r) (keyAt i j h) := by
  unfold seen
  show _ ↔ (256 * i.val + j.val - 512) / 64 ≤ (256 * i.val + r.val) / 64 ∧ (256 * i.val + r.val) / 64 ≤ (256 * i.val + j.val - 512) / 64 + 8
  omega

theorem out_unseen (i : Fin 8) (r : Fin 256) (k : Fin 2048) (h : ¬ inBand i k) : ¬ seen (pos i r) k := by
  unfold seen
  intro hs
  apply h
  change k.val / 64 ≤ (256 * i.val + r.val) / 64 ∧ (256 * i.val + r.val) / 64 ≤ k.val / 64 + 8 at hs
  have := r.isLt
  constructor <;> omega

theorem key_at (b : Fin 2) (H : Fin 16) (i : Fin 8) (j : Fin 768) (h : 512 ≤ 256 * i.val + j.val) (d : Fin 64) :
    key Z b H (band i j) d = Z (ix3 b (keyAt i j h) (kcol H d)) := by
  unfold key
  rw [dif_pos h]

theorem val_at (b : Fin 2) (H : Fin 16) (i : Fin 8) (j : Fin 768) (h : 512 ≤ 256 * i.val + j.val) (d : Fin 64) :
    val Z b H (band i j) d = Z (ix3 b (keyAt i j h) (vcol H d)) := by
  unfold val
  rw [dif_pos h]

theorem eighth_mul {ι : Type} (u : Finset ι) (f : ι → EReal) : ∑ x ∈ u, f x * eighth = (∑ x ∈ u, f x) * eighth := by
  rw [eighth_eq]
  exact sum_mul_real u _ (by norm_num) f

theorem scores_band (hM : Tile M T) (b : Fin 2) (H : Fin 16) (i : Fin 8) (r : Fin 256) :
    OnBand i ⊥ (S Z M b H i r) (sc Z T b H (pos i r)) where
  at_key j h := by
    unfold S sc
    rw [if_pos h, add_zero, hM, bias_apply, ← laid_some T (256 * i.val) H r (keyAt i j h) j (by simp only; omega)]
    by_cases hs : seen (pos i r) (keyAt i j h)
    · rw [if_pos hs, if_pos ((band_seen i r j h).2 hs), ← eighth_mul]
      refine congrArg (· + _) (Finset.sum_congr rfl fun d _ => ?_)
      rw [key_at b H i j h]
      exact mul_right_comm _ _ _
    · rw [if_neg hs, if_neg (fun hc => hs ((band_seen i r j h).1 hc)), EReal.add_bot]
  before j h := by
    unfold S
    rw [if_neg h, EReal.add_bot]
  outside k h := by
    unfold sc
    rw [if_neg (out_unseen i r k h)]

theorem gprobs_band (b : Fin 2) (H : Fin 16) (i : Fin 8) (r : Fin 256) (j : Fin 768) (h : 512 ≤ 256 * i.val + j.val) :
    G Z D b H i r j = gp Z D b H (pos i r) (keyAt i j h) := by
  unfold G gp
  exact Finset.sum_congr rfl fun d _ => by rw [val_at b H i j h]

theorem dsc_band (hM : Tile M T) (b : Fin 2) (H : Fin 16) (i : Fin 8) (r : Fin 256) :
    OnBand i 0 (dsc Z M D b H i r) (ds (sc Z T b H (pos i r)) (gp Z D b H (pos i r))) :=
  (scores_band hM b H i r).ds fun j h => gprobs_band b H i r j h

theorem prb_band (hM : Tile M T) (b : Fin 2) (H : Fin 16) (i : Fin 8) (r : Fin 256) :
    OnBand i 0 (prb Z M b H i r) (pr (sc Z T b H (pos i r))) :=
  (scores_band hM b H i r).pr

/-! ## The reference's softmax and its gradient -/

theorem sum_finite {ι : Type} (u : Finset ι) (f : ι → EReal) (hf : ∀ x ∈ u, ∃ y : ℝ, f x = (y : EReal)) :
    ∃ y : ℝ, ∑ x ∈ u, f x = (y : EReal) := by
  classical
  induction u using Finset.induction_on with
  | empty => exact ⟨0, by simp⟩
  | insert a u ha ih =>
    obtain ⟨y, hy⟩ := ih fun x hx => hf x (Finset.mem_insert_of_mem hx)
    obtain ⟨w, hw⟩ := hf a (Finset.mem_insert_self _ _)
    exact ⟨w + y, by rw [Finset.sum_insert ha, hy, hw, EReal.coe_add]⟩

theorem laid_finite (hF : Finite Z T) (o : ℕ) (H : Fin 16) (r : Fin 256) (k : Fin 2048) : ∃ y : ℝ, laid T o H r k = (y : EReal) := by
  unfold laid
  split
  · exact hF.table _
  · exact ⟨0, rfl⟩

theorem sc_finite (hF : Finite Z T) (b : Fin 2) (H : Fin 16) (i : Fin 8) (r : Fin 256) (k : Fin 2048) (hs : seen (pos i r) k) :
    ∃ y : ℝ, sc Z T b H (pos i r) k = (y : EReal) := by
  unfold sc
  rw [if_pos hs, bias_apply]
  obtain ⟨u, hu⟩ := sum_finite Finset.univ (fun d => Z (ix3 b (pos i r) (qcol H d)) * Z (ix3 b k (kcol H d))) fun d _ => by
    obtain ⟨x, hx⟩ := hF.columns b (pos i r) (qcol H d) (by simp only; omega)
    obtain ⟨y, hy⟩ := hF.columns b k (kcol H d) (by simp only; omega)
    exact ⟨x * y, by rw [hx, hy, EReal.coe_mul]⟩
  obtain ⟨v, hv⟩ := laid_finite hF (256 * i.val) H r k
  exact ⟨u * (1 / 8) + v, by rw [hu, hv, eighth_eq, EReal.coe_add, EReal.coe_mul]⟩

theorem den_pos (hF : Finite Z T) (b : Fin 2) (H : Fin 16) (i : Fin 8) (r : Fin 256) :
    ∃ d : ℝ, 0 < d ∧ den (sc Z T b H (pos i r)) = (d : EReal) := by
  refine den_real _ (fun k => ?_) (pos i r) ?_
  · by_cases hs : seen (pos i r) k
    · obtain ⟨y, hy⟩ := sc_finite hF b H i r k hs
      rw [hy]; exact EReal.coe_ne_top _
    · unfold sc
      rw [if_neg hs]; exact bot_ne_top
  · obtain ⟨y, hy⟩ := sc_finite hF b H i r (pos i r) ⟨le_rfl, by omega⟩
    rw [hy]; exact EReal.coe_ne_bot _

theorem dscores_eq (hF : Finite Z T) (b : Fin 2) (H : Fin 16) (i : Fin 8) (r : Fin 256) (k : Fin 2048) :
    val_main_v146 (F := Ideal) Z T D (ix4 b H (pos i r) k) = ds (sc Z T b H (pos i r)) (gp Z D b H (pos i r)) k := by
  obtain ⟨d, hd, hden⟩ := den_pos hF b H i r
  rw [dscores]
  by_cases hs : seen (pos i r) k
  · rw [if_pos hs]
    exact ds_quot _ _ d hd hden k
  · have h0 : sc Z T b H (pos i r) k = ⊥ := by unfold sc; rw [if_neg hs]
    rw [if_neg hs]
    unfold ds pr
    rw [wt_bot _ k h0, zero_mul, zero_mul]

theorem probs_eq (hF : Finite Z T) (b : Fin 2) (H : Fin 16) (i : Fin 8) (r : Fin 256) (k : Fin 2048) :
    val_main_v122 (F := Ideal) Z T (ix4 b H (pos i r) k) = pr (sc Z T b H (pos i r)) k := by
  obtain ⟨d, hd, hden⟩ := den_pos hF b H i r
  rw [probs]
  exact pr_quot _ d hd hden k

/-! ## The four results -/

theorem dq_eq (hF : Finite Z T) (hM : Tile M T) (b : Fin 2) (H : Fin 16) (i : Fin 8) (r : Fin 256) (d : Fin 64) :
    dqv Z M D b H i r d = val_main_v205 (F := Ideal) Z T D (ix3 b (pos i r) (qcol H d)) := by
  unfold dqv
  rw [dq_apply, ((dsc_band hM b H i r).mul_right (g := fun j => key Z b H (band i j) d) (G := fun k => Z (ix3 b k (kcol H d)))
    fun j h => key_at b H i j h d).sum, ← eighth_mul]
  refine Finset.sum_congr rfl fun k _ => ?_
  rw [dscores_eq hF]
  exact mul_right_comm _ _ _

/-- A key's sum over all queries, block by block. -/
theorem sum_blocks (f : Fin 2048 → EReal) : ∑ n, f n = ∑ i : Fin 8, ∑ r : Fin 256, f (pos i r) := by
  rw [Fin.sum_univ_tiles 8 256 rfl f]
  exact Finset.sum_congr rfl fun i _ => Finset.sum_congr rfl fun r _ => congrArg f (Fin.ext (by simp only; omega))

theorem dk_eq (hF : Finite Z T) (hM : Tile M T) (b : Fin 2) (H : Fin 16) (k : Fin 2048) (d : Fin 64) :
    ∑ i, dkx Z M D b H d ⟨512 + k.val, by omega⟩ i = val_main_v207 (F := Ideal) Z T D (ix3 b k (col H d)) := by
  rw [dk_apply, sum_blocks]
  refine Finset.sum_congr rfl fun i _ => ?_
  unfold dkx
  by_cases hb : 256 * i.val ≤ 512 + k.val ∧ 512 + k.val - 256 * i.val < 768
  · have hk : inBand i k := by unfold inBand; omega
    rw [dif_pos hb]
    refine Finset.sum_congr rfl fun r _ => ?_
    have e : (⟨512 + k.val - 256 * i.val, hb.2⟩ : Fin 768) = ⟨k.val + 512 - 256 * i.val, hk.2⟩ := Fin.ext (by simp only; omega)
    have hx : k = keyAt i ⟨k.val + 512 - 256 * i.val, hk.2⟩ (by simp only; omega) := Fin.ext (by simp only; omega)
    rw [dscores_eq hF, e, (dsc_band hM b H i r).at_key _ (by simp only; omega), ← hx, mul_right_comm, mul_comm]
    ac_rfl
  · have hk : ¬ inBand i k := by unfold inBand; omega
    rw [dif_neg hb]
    refine (Finset.sum_eq_zero fun r _ => ?_).symm
    rw [dscores_eq hF, (dsc_band (D := D) hM b H i r).outside k hk, zero_mul, zero_mul]

theorem dv_eq (hF : Finite Z T) (hM : Tile M T) (b : Fin 2) (H : Fin 16) (k : Fin 2048) (d : Fin 64) :
    ∑ i, dvx Z M D b H d ⟨512 + k.val, by omega⟩ i = val_main_v209 (F := Ideal) Z T D (ix3 b k (col H d)) := by
  rw [dv_apply, sum_blocks]
  refine Finset.sum_congr rfl fun i _ => ?_
  unfold dvx
  by_cases hb : 256 * i.val ≤ 512 + k.val ∧ 512 + k.val - 256 * i.val < 768
  · have hk : inBand i k := by unfold inBand; omega
    rw [dif_pos hb]
    refine Finset.sum_congr rfl fun r _ => ?_
    have e : (⟨512 + k.val - 256 * i.val, hb.2⟩ : Fin 768) = ⟨k.val + 512 - 256 * i.val, hk.2⟩ := Fin.ext (by simp only; omega)
    have hx : k = keyAt i ⟨k.val + 512 - 256 * i.val, hk.2⟩ (by simp only; omega) := Fin.ext (by simp only; omega)
    rw [probs_eq hF, e, (prb_band hM b H i r).at_key _ (by simp only; omega), ← hx]
  · have hk : ¬ inBand i k := by unfold inBand; omega
    rw [dif_neg hb]
    refine (Finset.sum_eq_zero fun r _ => ?_).symm
    rw [probs_eq hF, (prb_band hM b H i r).outside k hk, mul_zero]

theorem db_eq (hF : Finite Z T) (hM : Tile M T) (H : Fin 16) (r : Fin 256) (j : Fin 768) :
    ∑ p, dbx Z M D H r j p = val_main_v202 (F := Ideal) Z T D (ix3 H r j) := by
  rw [dtile_apply, Fin.sum_univ_tiles 2 8 rfl (dbx Z M D H r j), Finset.sum_comm]
  refine Finset.sum_congr rfl fun i _ => ?_
  have e : ∀ b : Fin 2, dbx Z M D H r j ⟨b.val * 8 + i.val, by omega⟩ = dsc Z M D b H i r j := by
    intro b
    unfold dbx
    have hb : (⟨(b.val * 8 + i.val) / 8, by omega⟩ : Fin 2) = b := Fin.ext (by simp only; omega)
    have hi : (⟨(b.val * 8 + i.val) % 8, by omega⟩ : Fin 8) = i := Fin.ext (by simp only; omega)
    rw [hb, hi]
  rw [Finset.sum_congr rfl fun b _ => e b]
  unfold Cert.ReferenceIdeal.Ref.piece
  by_cases h : 512 ≤ 256 * i.val + j.val
  · rw [dif_pos h]
    exact Finset.sum_congr rfl fun b _ => by rw [(dsc_band hM b H i r).at_key j h, dscores_eq hF]
  · rw [dif_neg h]
    exact Finset.sum_eq_zero fun b _ => (dsc_band hM b H i r).before j h

end Cert.Equation

end
-- ==== Proof.Pre.lean ====
/-
  What the claim's predicates say: the precondition that queries, keys and the table are finite; the mask that the columns
  of the first result are those below 1024.
-/
module

public import proofs.«01_k».proof.Defs
public import proofs.«01_k».proof.Proof.Equation
public import proofs.«01_k».proof.Proof.Gen.KernelIdeal
public import Idealize.ShloMosaic.Lib.ReduceAll

@[expose] public section

set_option maxRecDepth 16384

noncomputable section

open Idealize.ShloMosaic

namespace Cert.Pre

open Cert.Equation Cert.Rows

theorem pre_facts : Cert.Pre_finite.Facts where
  slices_S2x2048x4096_S2x2048x2048_0_0_0 := by decide
  bcast_S_S2x2048x2048 := by decide
  reducesTo_S2x2048x2048_S_d0_1_2 := by decide
  h_S_ := by decide
  bcast_S_S16x257 := by decide
  reducesTo_S16x257_S_d0_1 := by decide

theorem on_facts : Cert.On_dq_columns.Facts where
  bcast_S_S2x2048x4096 := by decide
  bcast_S_S2x2048x1024 := by decide
  bcast_S_S16x256x768 := by decide

theorem ofBits_top : Ideal.ofBits .f32 0x7F800000#32 = (⊤ : EReal) := by
  simp [Ideal.ofBits, Ideal.ieee, -EReal.coe_mul]

theorem hostAbsf_eq (x : EReal) : FloatOps.hostAbsf (F := Ideal) (φ := .f32) x = max x (-x) := rfl
theorem cmp_eq (x y : EReal) : FloatOps.cmpf (F := Ideal) (φ := .f32) CmpFPredicate.olt x y = Ideal.cmp CmpFPredicate.olt x y := rfl

/-- A number whose absolute value is below +inf is real. -/
theorem real_of_abs (x : EReal) (h : FloatOps.cmpf (F := Ideal) (φ := .f32) CmpFPredicate.olt (FloatOps.hostAbsf (φ := .f32) x) (Ideal.ofBits .f32 0x7F800000#32) = 1#1) :
    ∃ y : ℝ, x = (y : EReal) := by
  induction x with
  | bot => rw [hostAbsf_eq, cmp_eq, ofBits_top] at h; simp [Ideal.cmp] at h
  | top => rw [hostAbsf_eq, cmp_eq, ofBits_top] at h; simp [Ideal.cmp] at h
  | coe y => exact ⟨y, rfl⟩

theorem finite_of_pre [Cert.Pre_finite.Facts] (x0 : FVec Ideal Cert.Pre_finite.S2x2048x4096 .f32) (x1 : FVec Ideal Cert.Pre_finite.S16x257 .f32)
    (x2 : FVec Ideal Cert.Pre_finite.S2x2048x2048 .bf16) (h : Cert.Pre_finite.fn (F := Ideal) x0 x1 x2 = fun _ => 1#1) : Finite x0 x1 := by
  have h0 := congrFun h ix0
  obtain ⟨ha, hb⟩ := IntOp.andi_eq_one.1 h0
  constructor
  · intro b n x hx
    have e := Host.reduce_andi_all _ _ _ _ _ ha (ix3 b n ⟨x.val, hx⟩)
    pointwise at e
    exact real_of_abs _ e
  · intro y
    have e := Host.reduce_andi_all _ _ _ _ _ hb y
    pointwise at e
    exact real_of_abs _ e

theorem column_of_mask [Cert.On_dq_columns.Facts] (x0 : FVec Ideal Cert.Pre_finite.S2x2048x4096 .f32) (x1 : FVec Ideal Cert.Pre_finite.S16x257 .f32)
    (x2 : FVec Ideal Cert.Pre_finite.S2x2048x2048 .bf16) (i : Cert.On_dq_columns.S2x2048x4096.Idx)
    (h : (Cert.On_dq_columns.fn (F := Ideal) x0 x1 x2).1 i = 1#1) : (i 2).val < 1024 := by
  have e : IntOp.cmpi CmpIPredicate.slt (BitVec.ofNat 32 (i 2).val) 1024#32 = 1#1 := h
  have hi : (i 2).val < 4096 := (i 2).isLt
  have key : ∀ x : Fin 4096, IntOp.cmpi CmpIPredicate.slt (BitVec.ofNat 32 x.val) 1024#32 = 1#1 → x.val < 1024 := by decide +kernel
  exact key ⟨_, hi⟩ e

end Cert.Pre

end
-- ==== Proof.State.lean ====
/-
  What scratch and the output blocks hold after each point of the grid: the padded keys and values of the batch entry, the
  sums over the query blocks so far, the queries' gradient of the point's own block.
-/
module

public import proofs.«01_k».proof.Proof.Pass

@[expose] public section

set_option maxRecDepth 16384

noncomputable section

open Idealize.ShloMosaic Idealize.ShloMosaic.TcCoe Idealize.SL.Sem

namespace Cert.KernelIdeal.State

open Cert.KernelIdeal Cert.KernelIdeal.Gen Cert.KernelIdeal.Block Cert.KernelIdeal.Store Cert.KernelIdeal.Pass Cert.Rows

variable (m : (ℓ : Loc nD τ sig) → Buf (Elt Ideal) ℓ) (c : Dev nD)

/-- The arrays as the region finds them. -/
def zA : S2x2048x4096.Idx → EReal := V m c (Pipeline.arrRef spec0 0)
def bA : S16x256x768.Idx → EReal := V m c (Pipeline.arrRef spec0 3)
def gA : S2x2048x2048.Idx → EReal := V m c (Pipeline.arrRef spec0 4)

variable (t : Fin cfg0.N)

theorem hq (h : Fin 2) (r : Fin 256) (d : Fin 64) : (iblk m c 0 t (ix3 0 r (lane h d)) : EReal) = zA m c (ix3 (bt t) (pos (it t) r) (qcol (hd t h) d)) :=
  q_block (zA m c) t h r d
theorem hg (h : Fin 2) (r : Fin 256) (d : Fin 64) : (iblk m c 4 t (ix3 0 r (lane h d)) : EReal) = gA m c (ix3 (bt t) (pos (it t) r) (gcol (hd t h) d)) :=
  g_block (gA m c) t h r d
theorem hb (h : Fin 2) (r : Fin 256) (j : Fin 768) : (iblk m c 3 t (ix3 h r j) : EReal) = bA m c (ix3 (hd t h) r j) :=
  b_block (bA m c) t h r j

/-- The padded keys, filled at this point. -/
theorem fillK (i1 i0) (x : Fin 2560) (l : Fin 128) :
    View.canon (Val := Elt Ideal) (s := S2560x128) (e := .bf16)
        [⟨Rect.unit (s := S2560x128) ![512, 0] ![2048, 128] i1, k0_pay7 (F := Ideal) (iblk m c 1 t)⟩,
          ⟨Rect.unit (s := S2560x128) ![0, 0] ![512, 128] i0, k0_pay6 (F := Ideal)⟩] (ix2 x l) = padK (zA m c) t x l := by
  rw [canon_fill]
  unfold padK
  split_ifs with hx
  · rw [pay7_apply]; exact k_block (zA m c) t _ l
  · exact pay6_apply _ _

theorem fillV (i1 i0) (x : Fin 2560) (l : Fin 128) :
    View.canon (Val := Elt Ideal) (s := S2560x128) (e := .bf16)
        [⟨Rect.unit (s := S2560x128) ![512, 0] ![2048, 128] i1, k0_pay9 (F := Ideal) (iblk m c 2 t)⟩,
          ⟨Rect.unit (s := S2560x128) ![0, 0] ![512, 128] i0, k0_pay8 (F := Ideal)⟩] (ix2 x l) = padV (zA m c) t x l := by
  rw [canon_fill]
  unfold padV
  split_ifs with hx
  · rw [pay9_apply]; exact v_block (zA m c) t _ l
  · exact pay8_apply _ _

/-- The point before, within the same batch entry of the same pair. -/
abbrev before (h0 : ¬ t.val % 8 = 0) : Fin cfg0.N := ⟨t.val - 1, by have := t.isLt; omega⟩

theorem pad_before (Z : S2x2048x4096.Idx → EReal) (h0 : ¬ t.val % 8 = 0) (x : Fin 2560) (l : Fin 128) :
    padK Z (before t h0) x l = padK Z t x l ∧ padV Z (before t h0) x l = padV Z t x l := by
  have e1 : (t.val - 1) / 8 % 2 = t.val / 8 % 2 := by omega
  have e2 : (t.val - 1) / 16 = t.val / 16 := by omega
  unfold padK padV
  simp only [bt, e1, e2, and_self]

theorem kv_eq : ∀ n (hn : n < cfg0.N) (x : Fin 2560) (l : Fin 128),
    (outsAt0 m c n hn).2.2.2.2.1 (ix2 x l) = padK (zA m c) ⟨n, hn⟩ x l
    ∧ (outsAt0 m c n hn).2.2.2.2.2.1 (ix2 x l) = padV (zA m c) ⟨n, hn⟩ x l := by
  intro n
  induction n using Nat.strong_induction_on with
  | _ n ih =>
  intro hn x l
  by_cases h0 : n % 8 = 0
  · have key : (outsAt0 m c n hn).2.2.2.2.1 (ix2 x l) = padK (zA m c) ⟨n, hn⟩ x l
        ∧ (outsAt0 m c n hn).2.2.2.2.2.1 (ix2 x l) = padV (zA m c) ⟨n, hn⟩ x l := by
      by_cases h1 : n % 16 = 0
      · rw [outsAt0_A m c ⟨n, hn⟩ h0 h1 (by show ¬ n % 8 = 7; omega)]
        constructor
        · frame_out; exact fillK m c ⟨n, hn⟩ _ _ x l
        · frame_out; exact fillV m c ⟨n, hn⟩ _ _ x l
      · rw [outsAt0_D m c ⟨n, hn⟩ h0 h1 (by show ¬ n % 8 = 7; omega)]
        constructor
        · frame_out; exact fillK m c ⟨n, hn⟩ _ _ x l
        · frame_out; exact fillV m c ⟨n, hn⟩ _ _ x l
    exact key
  · have p := ih (n - 1) (by omega) (by omega) x l
    have q := pad_before ⟨n, hn⟩ (zA m c) h0 x l
    rw [← q.1, ← q.2]
    by_cases h2 : n % 8 = 7
    · rw [outsAt0_C m c ⟨n, hn⟩ h0 (by show ¬ n % 16 = 0; omega) h2]; exact p
    · rw [outsAt0_B m c ⟨n, hn⟩ h0 (by show ¬ n % 16 = 0; omega) h2]; exact p

end Cert.KernelIdeal.State

end
-- ==== Proof.Bias.lean ====
/-
  The bias the kernel's host program makes: the gathered table where the key's chunk is the query's or one of the eight
  before, -inf elsewhere. The gathered table is the reference's own.
-/
module

public import proofs.«01_k».proof.Proof.State
public import proofs.«01_k».proof.Proof.Gen.ReferenceIdeal.Read
public import Idealize.ShloMosaic.Lib.Claim

@[expose] public section

set_option maxRecDepth 16384

noncomputable section

open Idealize.ShloMosaic Idealize.ShloMosaic.TcCoe Idealize.SL.Sem

namespace Cert.KernelIdeal.Bias

open Cert.KernelIdeal Cert.KernelIdeal.Gen Cert.KernelIdeal.State Cert.Rows

variable (m : (ℓ : Loc nD τ sig) → Buf (Elt Ideal) ℓ) (c : Dev nD)

/-- Division by 64 rounding down, as the host program divides. -/
def chunks {s : Shape} (b : S_.BroadcastsInDim s ![]) (x : IVec s 32) : IVec s 32 :=
  select (andi (cmpi .ne (signi x) (broadcastInDim s ![] b (signi (constantI S_ 32 64#32))))
      (cmpi .ne (Host.remsi x (broadcastInDim s ![] b (constantI S_ 32 64#32))) (broadcastInDim s ![] b (constantI S_ 32 0#32))))
    (subi (Host.divsi x (broadcastInDim s ![] b (constantI S_ 32 64#32))) (broadcastInDim s ![] b (constantI S_ 32 1#32)))
    (Host.divsi x (broadcastInDim s ![] b (constantI S_ 32 64#32)))

/-- The chunks of the queries of a block, and of the keys of its band. -/
def cq : IVec S256x1 32 := chunks bcast_S_S256x1 (broadcastInDim S256x1 ![0] bcast_S256_S256x1_0 (iotaInDim S256 32 0))
def ck : IVec S1x768 32 := chunks bcast_S_S1x768 (broadcastInDim S1x768 ![1] bcast_S768_S1x768_1 (iotaInDim S768 32 0))

/-- Which keys of the band a query sees. -/
def mask : IVec S256x768 1 :=
  andi (cmpi .sge (broadcastInDim S256x768 ![0, 1] bcast_S1x768_S256x768_0_1 ck) (broadcastInDim S256x768 ![0, 1] bcast_S256x1_S256x768_0_1 cq))
    (cmpi .sle (broadcastInDim S256x768 ![0, 1] bcast_S1x768_S256x768_0_1 ck)
      (broadcastInDim S256x768 ![0, 1] bcast_S256x1_S256x768_0_1 (addi cq (broadcastInDim S256x1 ![] bcast_S_S256x1 (constantI S_ 32 8#32)))))

theorem bias_eq : (V m c main_v34 : S16x256x768.Idx → EReal)
    = select (broadcastInDim S16x256x768 ![0, 1, 2] bcast_S1x256x768_S16x256x768_0_1_2 (broadcastInDim S1x256x768 ![1, 2] bcast_S256x768_S1x256x768_1_2 mask))
        (Cert.ReferenceIdeal.Read.val_main_v26 (F := Ideal) (m ((c : Thread nD τ).loc main_arg1)))
        (broadcastInDim S16x256x768 ![] bcast_S_S16x256x768 (constant (F := Ideal) S_ .f32 0xFF800000#32)) := by
  unfold V
  simp only [hostOps0, hostOps0_1, hostOps0_2, hostOps0_3, hostOps0_4, hostOps0_5, hostOps0_6, hostOps0_7, List.flatten_cons, List.flatten_nil, List.append_nil, List.cons_append, List.nil_append]
  entry_read
  rfl

theorem cq_apply (r : Fin 256) : cq (ix2 r 0) = BitVec.ofNat 32 (r.val / 64) := by
  pointwise [cq, chunks]
  revert r
  decide +kernel

theorem ck_apply (j : Fin 768) : ck (ix2 0 j) = BitVec.ofNat 32 (j.val / 64) := by
  pointwise [ck, chunks]
  revert j
  decide +kernel

theorem mask_word : ∀ a : Fin 4, ∀ b : Fin 12,
    IntOp.andi (IntOp.cmpi CmpIPredicate.sge (BitVec.ofNat 32 b.val) (BitVec.ofNat 32 a.val))
      (IntOp.cmpi CmpIPredicate.sle (BitVec.ofNat 32 b.val) (IntOp.addi (BitVec.ofNat 32 a.val) 8#32))
      = if a.val ≤ b.val ∧ b.val ≤ a.val + 8 then 1#1 else 0#1 := by
  decide +kernel

theorem mask_apply (r : Fin 256) (j : Fin 768) :
    mask (ix2 r j) = if r.val / 64 ≤ j.val / 64 ∧ j.val / 64 ≤ r.val / 64 + 8 then 1#1 else 0#1 := by
  pointwise [mask]
  rw [cq_apply, ck_apply]
  exact mask_word ⟨r.val / 64, by omega⟩ ⟨j.val / 64, by omega⟩

theorem bias_apply (H : Fin 16) (r : Fin 256) (j : Fin 768) : bA m c (ix3 H r j)
    = if r.val / 64 ≤ j.val / 64 ∧ j.val / 64 ≤ r.val / 64 + 8 then
        Cert.ReferenceIdeal.Read.val_main_v26 (F := Ideal) (m ((c : Thread nD τ).loc main_arg1)) (ix3 H r j) else (⊥ : EReal) := by
  show (V m c main_v34 : S16x256x768.Idx → EReal) (ix3 H r j) = _
  rw [bias_eq]
  pointwise
  rw [mask_apply]
  split_ifs <;> simp [Scalar.select, ofBits_bot]

end Cert.KernelIdeal.Bias
end
-- ==== Proof.Step.lean ====
/-
  One point's step: what it leaves in each accumulator and output block, from what the point before left.
-/
module

public import proofs.«01_k».proof.Proof.State

@[expose] public section

set_option maxRecDepth 16384

noncomputable section

open Idealize.ShloMosaic Idealize.ShloMosaic.TcCoe Idealize.SL.Sem

namespace Cert.KernelIdeal.Step

open Cert.KernelIdeal Cert.KernelIdeal.Gen Cert.KernelIdeal.Block Cert.KernelIdeal.Store Cert.KernelIdeal.Pass Cert.KernelIdeal.State Cert.Rows

variable (m : (ℓ : Loc nD τ sig) → Buf (Elt Ideal) ℓ) (c : Dev nD) (t : Fin cfg0.N)

/-- The band of keys a point that fills the scratch reads, and its band of values. -/
theorem bandK_fill (i1 i0) (inb) (j : Fin 768) (l : Fin 128) :
    View.ld (Val := Elt Ideal) (View.canon (Val := Elt Ideal) (s := S2560x128) (e := .bf16)
        [⟨Rect.unit (s := S2560x128) ![512, 0] ![2048, 128] i1, k0_pay7 (F := Ideal) (iblk m c 1 t)⟩,
          ⟨Rect.unit (s := S2560x128) ![0, 0] ![512, 128] i0, k0_pay6 (F := Ideal)⟩])
        (Rect.unit (s := S2560x128) (k0_off1 (grid0.coords t)) ![768, 128] inb) (ix2 j l) = padK (zA m c) t (band (it t) j) l := by
  rw [ld_rows, fillK]

theorem bandV_fill (i1 i0) (inb) (j : Fin 768) (l : Fin 128) :
    View.ld (Val := Elt Ideal) (View.canon (Val := Elt Ideal) (s := S2560x128) (e := .bf16)
        [⟨Rect.unit (s := S2560x128) ![512, 0] ![2048, 128] i1, k0_pay9 (F := Ideal) (iblk m c 2 t)⟩,
          ⟨Rect.unit (s := S2560x128) ![0, 0] ![512, 128] i0, k0_pay8 (F := Ideal)⟩])
        (Rect.unit (s := S2560x128) (k0_off1 (grid0.coords t)) ![768, 128] inb) (ix2 j l) = padV (zA m c) t (band (it t) j) l := by
  rw [ld_rows, fillV]

/-- The bands read by a point that finds the scratch filled. -/
theorem bandK_keep (h0 : ¬ t.val % 8 = 0) (hw : (Memref.whole cc0_scratch0).IsWhole) (p) (inb) (j : Fin 768) (l : Fin 128) :
    View.ld (Val := Elt Ideal) (View.read (Elt Ideal) (View.whole cc0_scratch0) (hw.unread (outsAt0 m c (t.val - 1) p).2.2.2.2.1))
        (Rect.unit (s := S2560x128) (k0_off1 (grid0.coords t)) ![768, 128] inb) (ix2 j l) = padK (zA m c) t (band (it t) j) l := by
  rw [read_unread_whole]
  refine (ld_rows t _ inb j l).trans ?_
  rw [(kv_eq m c (t.val - 1) p _ l).1]
  exact (pad_before t (zA m c) h0 _ l).1

theorem bandV_keep (h0 : ¬ t.val % 8 = 0) (hw : (Memref.whole cc0_scratch1).IsWhole) (p) (inb) (j : Fin 768) (l : Fin 128) :
    View.ld (Val := Elt Ideal) (View.read (Elt Ideal) (View.whole cc0_scratch1) (hw.unread (outsAt0 m c (t.val - 1) p).2.2.2.2.2.1))
        (Rect.unit (s := S2560x128) (k0_off1 (grid0.coords t)) ![768, 128] inb) (ix2 j l) = padV (zA m c) t (band (it t) j) l := by
  rw [read_unread_whole]
  refine (ld_rows t _ inb j l).trans ?_
  rw [(kv_eq m c (t.val - 1) p _ l).2]
  exact (pad_before t (zA m c) h0 _ l).2

variable (h : Fin 2) (d : Fin 64) (r : Fin 256) (j : Fin 768) (x : Fin 2560)

/-- The queries' gradient. -/
theorem dq_step : (outsAt0 m c t.val t.isLt).1 (ix3 0 r (lane h d)) = dqv (zA m c) (bA m c) (gA m c) (bt t) (hd t h) (it t) r d := by
  by_cases h0 : t.val % 8 = 0
  · by_cases h1 : t.val % 16 = 0
    · rw [outsAt0_A m c t h0 h1 (by omega)]; frame_out
      exact dq_point (bandK_fill m c t _ _ _) (bandV_fill m c t _ _ _) (hq m c t) (hg m c t) (hb m c t) h r d
    · rw [outsAt0_D m c t h0 h1 (by omega)]; frame_out
      exact dq_point (bandK_fill m c t _ _ _) (bandV_fill m c t _ _ _) (hq m c t) (hg m c t) (hb m c t) h r d
  · by_cases h2 : t.val % 8 = 7
    · rw [outsAt0_C m c t h0 (by omega) h2]; frame_out
      exact dq_point (bandK_keep m c t h0 _ _ _) (bandV_keep m c t h0 _ _ _) (hq m c t) (hg m c t) (hb m c t) h r d
    · rw [outsAt0_B m c t h0 (by omega) h2]; frame_out
      exact dq_point (bandK_keep m c t h0 _ _ _) (bandV_keep m c t h0 _ _ _) (hq m c t) (hg m c t) (hb m c t) h r d

/-- The bias's gradient, first point of a pair's sixteen and the others. -/
theorem db_first (h1 : t.val % 16 = 0) :
    (outsAt0 m c t.val t.isLt).2.2.2.1 (ix3 h r j) = dsc (zA m c) (bA m c) (gA m c) (bt t) (hd t h) (it t) r j := by
  rw [outsAt0_A m c t (by omega) h1 (by omega)]; frame_out
  refine (db_point (bandK_fill m c t _ _ _) (bandV_fill m c t _ _ _) (hq m c t) (hg m c t) (hb m c t) _ h r j).trans ?_
  rw [pay12_apply, zero_add]

theorem db_next (h1 : ¬ t.val % 16 = 0) :
    (outsAt0 m c t.val t.isLt).2.2.2.1 (ix3 h r j)
      = (outsAt0 m c (t.val - 1) (by have := t.isLt; omega)).2.2.2.1 (ix3 h r j)
        + dsc (zA m c) (bA m c) (gA m c) (bt t) (hd t h) (it t) r j := by
  by_cases h0 : t.val % 8 = 0
  · rw [outsAt0_D m c t h0 h1 (by omega)]; frame_out
    exact db_point (bandK_fill m c t _ _ _) (bandV_fill m c t _ _ _) (hq m c t) (hg m c t) (hb m c t) _ h r j
  · by_cases h2 : t.val % 8 = 7
    · rw [outsAt0_C m c t h0 h1 h2]; frame_out
      exact db_point (bandK_keep m c t h0 _ _ _) (bandV_keep m c t h0 _ _ _) (hq m c t) (hg m c t) (hb m c t) _ h r j
    · rw [outsAt0_B m c t h0 h1 h2]; frame_out
      exact db_point (bandK_keep m c t h0 _ _ _) (bandV_keep m c t h0 _ _ _) (hq m c t) (hg m c t) (hb m c t) _ h r j

/-- The keys' gradient, first point of a batch entry's eight and the others. -/
theorem dk_first (h0 : t.val % 8 = 0) :
    (outsAt0 m c t.val t.isLt).2.2.2.2.2.2.1 (ix2 (lane h d) x) = dkx (zA m c) (bA m c) (gA m c) (bt t) (hd t h) d x (it t) := by
  by_cases h1 : t.val % 16 = 0
  · rw [outsAt0_A m c t h0 h1 (by omega)]; frame_out
    rw [canon_cols]
    split_ifs with hx
    · refine (dk_point (bandK_fill m c t _ _ _) (bandV_fill m c t _ _ _) (hq m c t) (hg m c t) (hb m c t) _ h d x hx).trans ?_
      rw [ld_cols, pay10_apply, zero_add]
    · unfold dkx; rw [dif_neg hx]; exact pay10_apply _ _
  · rw [outsAt0_D m c t h0 h1 (by omega)]; frame_out
    rw [canon_cols]
    split_ifs with hx
    · refine (dk_point (bandK_fill m c t _ _ _) (bandV_fill m c t _ _ _) (hq m c t) (hg m c t) (hb m c t) _ h d x hx).trans ?_
      rw [ld_cols, pay10_apply, zero_add]
    · unfold dkx; rw [dif_neg hx]; exact pay10_apply _ _

/-- A band put over what the point before left. -/
theorem band_at (hx : 256 * (t.val % 8) ≤ x.val ∧ x.val - 256 * (t.val % 8) < 768) (p) :
    (⟨256 * (t.val % 8) + (⟨x.val - 256 * (t.val % 8), hx.2⟩ : Fin 768).val, p⟩ : Fin 2560) = x := Fin.ext (by show 256 * (t.val % 8) + (x.val - 256 * (t.val % 8)) = x.val; omega)

theorem dk_next (h0 : ¬ t.val % 8 = 0) :
    (outsAt0 m c t.val t.isLt).2.2.2.2.2.2.1 (ix2 (lane h d) x)
      = (outsAt0 m c (t.val - 1) (by have := t.isLt; omega)).2.2.2.2.2.2.1 (ix2 (lane h d) x)
        + dkx (zA m c) (bA m c) (gA m c) (bt t) (hd t h) d x (it t) := by
  by_cases h2 : t.val % 8 = 7
  · rw [outsAt0_C m c t h0 (by omega) h2]; frame_out
    refine (put_cols t _ _ _ _ _ _ _).trans ?_
    split_ifs with hx
    · refine (dk_point (bandK_keep m c t h0 _ _ _) (bandV_keep m c t h0 _ _ _) (hq m c t) (hg m c t) (hb m c t) _ h d x hx).trans ?_
      rw [read_unread_whole]
      refine congrArg (· + _) ((ld_cols t _ _ _ _).trans ?_)
      rw [band_at t x hx]
    · unfold dkx; rw [dif_neg hx, add_zero]; exact congrFun (read_unread_whole _ _ _) _
  · rw [outsAt0_B m c t h0 (by omega) h2]; frame_out
    refine (put_cols t _ _ _ _ _ _ _).trans ?_
    split_ifs with hx
    · refine (dk_point (bandK_keep m c t h0 _ _ _) (bandV_keep m c t h0 _ _ _) (hq m c t) (hg m c t) (hb m c t) _ h d x hx).trans ?_
      rw [read_unread_whole]
      refine congrArg (· + _) ((ld_cols t _ _ _ _).trans ?_)
      rw [band_at t x hx]
    · unfold dkx; rw [dif_neg hx, add_zero]; exact congrFun (read_unread_whole _ _ _) _

/-- The values' gradient. -/
theorem dv_first (h0 : t.val % 8 = 0) :
    (outsAt0 m c t.val t.isLt).2.2.2.2.2.2.2 (ix2 (lane h d) x) = dvx (zA m c) (bA m c) (gA m c) (bt t) (hd t h) d x (it t) := by
  by_cases h1 : t.val % 16 = 0
  · rw [outsAt0_A m c t h0 h1 (by omega)]; frame_out
    rw [canon_cols]
    split_ifs with hx
    · refine (dv_point (bandK_fill m c t _ _ _) (hq m c t) (hg m c t) (hb m c t) _ h d x hx).trans ?_
      rw [ld_cols, pay11_apply, zero_add]
    · unfold dvx; rw [dif_neg hx]; exact pay11_apply _ _
  · rw [outsAt0_D m c t h0 h1 (by omega)]; frame_out
    rw [canon_cols]
    split_ifs with hx
    · refine (dv_point (bandK_fill m c t _ _ _) (hq m c t) (hg m c t) (hb m c t) _ h d x hx).trans ?_
      rw [ld_cols, pay11_apply, zero_add]
    · unfold dvx; rw [dif_neg hx]; exact pay11_apply _ _

theorem dv_next (h0 : ¬ t.val % 8 = 0) :
    (outsAt0 m c t.val t.isLt).2.2.2.2.2.2.2 (ix2 (lane h d) x)
      = (outsAt0 m c (t.val - 1) (by have := t.isLt; omega)).2.2.2.2.2.2.2 (ix2 (lane h d) x)
        + dvx (zA m c) (bA m c) (gA m c) (bt t) (hd t h) d x (it t) := by
  by_cases h2 : t.val % 8 = 7
  · rw [outsAt0_C m c t h0 (by omega) h2]; frame_out
    refine (put_cols t _ _ _ _ _ _ _).trans ?_
    split_ifs with hx
    · refine (dv_point (bandK_keep m c t h0 _ _ _) (hq m c t) (hg m c t) (hb m c t) _ h d x hx).trans ?_
      rw [read_unread_whole]
      refine congrArg (· + _) ((ld_cols t _ _ _ _).trans ?_)
      rw [band_at t x hx]
    · unfold dvx; rw [dif_neg hx, add_zero]; exact congrFun (read_unread_whole _ _ _) _
  · rw [outsAt0_B m c t h0 (by omega) h2]; frame_out
    refine (put_cols t _ _ _ _ _ _ _).trans ?_
    split_ifs with hx
    · refine (dv_point (bandK_keep m c t h0 _ _ _) (hq m c t) (hg m c t) (hb m c t) _ h d x hx).trans ?_
      rw [read_unread_whole]
      refine congrArg (· + _) ((ld_cols t _ _ _ _).trans ?_)
      rw [band_at t x hx]
    · unfold dvx; rw [dif_neg hx, add_zero]; exact congrFun (read_unread_whole _ _ _) _

/-- The last point of a batch entry's eight writes the accumulators out, transposed, without the 512 padded rows. -/
theorem out_last (h2 : t.val % 8 = 7) (k : Fin 2048) (l : Fin 128) :
    (outsAt0 m c t.val t.isLt).2.1 (ix3 0 k l) = (outsAt0 m c t.val t.isLt).2.2.2.2.2.2.1 (ix2 l ⟨512 + k.val, by omega⟩)
    ∧ (outsAt0 m c t.val t.isLt).2.2.1 (ix3 0 k l) = (outsAt0 m c t.val t.isLt).2.2.2.2.2.2.2 (ix2 l ⟨512 + k.val, by omega⟩) := by
  rw [outsAt0_C m c t (by omega) (by omega) h2]
  constructor
  · frame_out
    refine (out_apply _ k l).1.trans ?_
    refine (View.ld_unit_apply_of _ _ _ _ _ _ fun a => ?_)
    match a with
    | ⟨0, _⟩ => exact (Nat.zero_add _).symm
    | ⟨1, _⟩ => rfl
  · frame_out
    refine (out_apply _ k l).2.trans ?_
    refine (View.ld_unit_apply_of _ _ _ _ _ _ fun a => ?_)
    match a with
    | ⟨0, _⟩ => exact (Nat.zero_add _).symm
    | ⟨1, _⟩ => rfl

end Cert.KernelIdeal.Step

end
-- ==== Proof.Arrays.lean ====
/-
  The kernel's four arrays, when the grid is done.
-/
module

public import proofs.«01_k».proof.Proof.Step

@[expose] public section

set_option maxRecDepth 16384

noncomputable section

open Idealize.ShloMosaic Idealize.ShloMosaic.TcCoe Idealize.SL.Sem

namespace Cert.KernelIdeal.Arrays

open Cert.KernelIdeal Cert.KernelIdeal.Gen Cert.KernelIdeal.Block Cert.KernelIdeal.Store Cert.KernelIdeal.Pass Cert.KernelIdeal.State Cert.KernelIdeal.Step Cert.Rows

variable (m : (ℓ : Loc nD τ sig) → Buf (Elt Ideal) ℓ) (c : Dev nD)

/-! ## The accumulators after each point -/

theorem dk_sum : ∀ n (hn : n < cfg0.N) (h : Fin 2) (d : Fin 64) (x : Fin 2560),
    (outsAt0 m c n hn).2.2.2.2.2.2.1 (ix2 (lane h d) x)
      = upto (dkx (zA m c) (bA m c) (gA m c) (bt ⟨n, hn⟩) (hd ⟨n, hn⟩ h) d x) (n % 8) := by
  intro n
  induction n using Nat.strong_induction_on with
  | _ n ih =>
  intro hn h d x
  by_cases h0 : n % 8 = 0
  · exact (dk_first m c ⟨n, hn⟩ h d x h0).trans (upto_zero _ (it ⟨n, hn⟩) h0).symm
  · refine (dk_next m c ⟨n, hn⟩ h d x h0).trans ?_
    refine Eq.trans ?_ (upto_succ _ (it ⟨n, hn⟩) h0).symm
    refine congrArg (· + _) ((ih (n - 1) (by omega) (by omega) h d x).trans ?_)
    have e1 : (n - 1) / 8 % 2 = n / 8 % 2 := by omega
    have e2 : (n - 1) / 16 = n / 16 := by omega
    have e3 : (n - 1) % 8 = n % 8 - 1 := by omega
    simp only [bt, hd, it, e1, e2, e3]

theorem dv_sum : ∀ n (hn : n < cfg0.N) (h : Fin 2) (d : Fin 64) (x : Fin 2560),
    (outsAt0 m c n hn).2.2.2.2.2.2.2 (ix2 (lane h d) x)
      = upto (dvx (zA m c) (bA m c) (gA m c) (bt ⟨n, hn⟩) (hd ⟨n, hn⟩ h) d x) (n % 8) := by
  intro n
  induction n using Nat.strong_induction_on with
  | _ n ih =>
  intro hn h d x
  by_cases h0 : n % 8 = 0
  · exact (dv_first m c ⟨n, hn⟩ h d x h0).trans (upto_zero _ (it ⟨n, hn⟩) h0).symm
  · refine (dv_next m c ⟨n, hn⟩ h d x h0).trans ?_
    refine Eq.trans ?_ (upto_succ _ (it ⟨n, hn⟩) h0).symm
    refine congrArg (· + _) ((ih (n - 1) (by omega) (by omega) h d x).trans ?_)
    have e1 : (n - 1) / 8 % 2 = n / 8 % 2 := by omega
    have e2 : (n - 1) / 16 = n / 16 := by omega
    have e3 : (n - 1) % 8 = n % 8 - 1 := by omega
    simp only [bt, hd, it, e1, e2, e3]

theorem db_sum : ∀ n (hn : n < cfg0.N) (h : Fin 2) (r : Fin 256) (j : Fin 768),
    (outsAt0 m c n hn).2.2.2.1 (ix3 h r j) = upto (dbx (zA m c) (bA m c) (gA m c) (hd ⟨n, hn⟩ h) r j) (n % 16) := by
  intro n
  induction n using Nat.strong_induction_on with
  | _ n ih =>
  intro hn h r j
  have ep : dbx (zA m c) (bA m c) (gA m c) (hd ⟨n, hn⟩ h) r j ⟨n % 16, by omega⟩
      = dsc (zA m c) (bA m c) (gA m c) (bt ⟨n, hn⟩) (hd ⟨n, hn⟩ h) (it ⟨n, hn⟩) r j := by
    have e1 : n % 16 / 8 = n / 8 % 2 := by omega
    have e2 : n % 16 % 8 = n % 8 := by omega
    unfold dbx
    simp only [bt, it, e1, e2]
  by_cases h0 : n % 16 = 0
  · exact (db_first m c ⟨n, hn⟩ h r j h0).trans (ep.symm.trans (upto_zero _ (⟨n % 16, by omega⟩ : Fin 16) h0).symm)
  · refine (db_next m c ⟨n, hn⟩ h r j h0).trans ?_
    refine Eq.trans ?_ (upto_succ _ (⟨n % 16, by omega⟩ : Fin 16) h0).symm
    rw [ep]
    refine congrArg (· + _) ((ih (n - 1) (by omega) (by omega) h r j).trans ?_)
    have e2 : (n - 1) / 16 = n / 16 := by omega
    have e3 : (n - 1) % 16 = n % 16 - 1 := by omega
    simp only [hd, e2, e3]

/-! ## The arrays -/

/-- Of a column of 1024 or more, its head and the column within it. -/
abbrev hdOf (n : ℕ) (h : n < 1024) : Fin 16 := ⟨n / 64, by omega⟩
abbrev dimOf (n : ℕ) : Fin 64 := ⟨n % 64, by omega⟩

def dkArr (j : S2x2048x1024.Idx) : EReal :=
  ∑ i, dkx (zA m c) (bA m c) (gA m c) (j 0) (hdOf (j 2).val (j 2).isLt) (dimOf (j 2).val) ⟨512 + (j 1).val, by have : (j 1).val < 2048 := (j 1).isLt; omega⟩ i

def dvArr (j : S2x2048x1024.Idx) : EReal :=
  ∑ i, dvx (zA m c) (bA m c) (gA m c) (j 0) (hdOf (j 2).val (j 2).isLt) (dimOf (j 2).val) ⟨512 + (j 1).val, by have : (j 1).val < 2048 := (j 1).isLt; omega⟩ i

def dbArr (j : S16x256x768.Idx) : EReal := ∑ p, dbx (zA m c) (bA m c) (gA m c) (j 0) (j 1) (j 2) p

def dqArr (j : S2x2048x4096.Idx) : EReal :=
  if h : (j 2).val < 1024 then
    dqv (zA m c) (bA m c) (gA m c) (j 0) (hdOf (j 2).val h) ⟨(j 1).val / 256, by have : (j 1).val < 2048 := (j 1).isLt; omega⟩ ⟨(j 1).val % 256, by omega⟩ (dimOf (j 2).val)
  else 0

/-- Where the points' blocks lie. -/
theorem emb6 (t : Fin cfg0.N) (k : Fin 2048) (l : Fin 128) :
    (win0_6.blk t).view.emb (ix3 0 k l) = (ix3 (bt t) k ⟨128 * (t.val / 16) + l.val, by have := pt_lt t; omega⟩ : S2x2048x1024.Idx) := by
  funext a
  apply Fin.ext
  match a with
  | ⟨0, _⟩ => show win0_6.index t 0 * 1 + 1 * 0 = t.val / 8 % 2; rw [(idx t).2.2.2.2.2.2.1]; show t.val / 8 % 2 * 1 + 1 * 0 = _; omega
  | ⟨1, _⟩ => show win0_6.index t 1 * 2048 + 1 * k.val = k.val; rw [(idx t).2.2.2.2.2.2.1]; show 0 * 2048 + 1 * k.val = _; omega
  | ⟨2, _⟩ => show win0_6.index t 2 * 128 + 1 * l.val = 128 * (t.val / 16) + l.val; rw [(idx t).2.2.2.2.2.2.1]; show t.val / 16 * 128 + 1 * l.val = _; omega

theorem emb7 (t : Fin cfg0.N) (k : Fin 2048) (l : Fin 128) :
    (win0_7.blk t).view.emb (ix3 0 k l) = (ix3 (bt t) k ⟨128 * (t.val / 16) + l.val, by have := pt_lt t; omega⟩ : S2x2048x1024.Idx) := by
  funext a
  apply Fin.ext
  match a with
  | ⟨0, _⟩ => show win0_7.index t 0 * 1 + 1 * 0 = t.val / 8 % 2; rw [(idx t).2.2.2.2.2.2.2.1]; show t.val / 8 % 2 * 1 + 1 * 0 = _; omega
  | ⟨1, _⟩ => show win0_7.index t 1 * 2048 + 1 * k.val = k.val; rw [(idx t).2.2.2.2.2.2.2.1]; show 0 * 2048 + 1 * k.val = _; omega
  | ⟨2, _⟩ => show win0_7.index t 2 * 128 + 1 * l.val = 128 * (t.val / 16) + l.val; rw [(idx t).2.2.2.2.2.2.2.1]; show t.val / 16 * 128 + 1 * l.val = _; omega

theorem emb8 (t : Fin cfg0.N) (h : Fin 2) (r : Fin 256) (j : Fin 768) :
    (win0_8.blk t).view.emb (ix3 h r j) = (ix3 (hd t h) r j : S16x256x768.Idx) := by
  funext a
  apply Fin.ext
  match a with
  | ⟨0, _⟩ => show win0_8.index t 0 * 2 + 1 * h.val = 2 * (t.val / 16) + h.val; rw [(idx t).2.2.2.2.2.2.2.2]; show t.val / 16 * 2 + 1 * h.val = _; omega
  | ⟨1, _⟩ => show win0_8.index t 1 * 256 + 1 * r.val = r.val; rw [(idx t).2.2.2.2.2.2.2.2]; show 0 * 256 + 1 * r.val = _; omega
  | ⟨2, _⟩ => show win0_8.index t 2 * 768 + 1 * j.val = j.val; rw [(idx t).2.2.2.2.2.2.2.2]; show 0 * 768 + 1 * j.val = _; omega

theorem emb5 (t : Fin cfg0.N) (r : Fin 256) (l : Fin 128) :
    (win0_5.blk t).view.emb (ix3 0 r l) = (ix3 (bt t) (pos (it t) r) ⟨128 * (t.val / 16) + l.val, by have := pt_lt t; omega⟩ : S2x2048x4096.Idx) := by
  funext a
  apply Fin.ext
  match a with
  | ⟨0, _⟩ => show win0_5.index t 0 * 1 + 1 * 0 = t.val / 8 % 2; rw [(idx t).2.2.2.2.2.1]; show t.val / 8 % 2 * 1 + 1 * 0 = _; omega
  | ⟨1, _⟩ => show win0_5.index t 1 * 256 + 1 * r.val = 256 * (t.val % 8) + r.val; rw [(idx t).2.2.2.2.2.1]; show t.val % 8 * 256 + 1 * r.val = _; omega
  | ⟨2, _⟩ => show win0_5.index t 2 * 128 + 1 * l.val = 128 * (t.val / 16) + l.val; rw [(idx t).2.2.2.2.2.1]; show t.val / 16 * 128 + 1 * l.val = _; omega

/-- A lane of the pair is a head and a column within it. -/
theorem lane_of (l : Fin 128) : ∃ h d, l = lane h d :=
  ⟨⟨l.val / 64, by omega⟩, ⟨l.val % 64, by omega⟩, Fin.ext (by show l.val = 64 * (l.val / 64) + l.val % 64; omega)⟩

theorem hd_of (t : Fin cfg0.N) (h : Fin 2) (d : Fin 64) (p) :
    hdOf (128 * (t.val / 16) + (64 * h.val + d.val)) p = hd t h ∧ dimOf (128 * (t.val / 16) + (64 * h.val + d.val)) = d :=
  ⟨Fin.ext (by show (128 * (t.val / 16) + (64 * h.val + d.val)) / 64 = 2 * (t.val / 16) + h.val; omega),
    Fin.ext (by show (128 * (t.val / 16) + (64 * h.val + d.val)) % 64 = d.val; omega)⟩

theorem arr6 : (dats m 0 c).arrAt 6 cfg0.N = dkArr m c := by
  refine (dats m 0 c).arrAt_eq_of_covers 6 _ (by decide +kernel) fun t hf y => ?_
  blk_simp
  rw [after0_6]
  have h2 : t.val % 8 = 7 := (flush0_6 t).mp hf
  obtain ⟨z, k, l, rfl⟩ : ∃ z k l, y = (ix3 z k l : S1x2048x128.Idx) := ⟨y 0, y 1, y 2, eq_ix3 y⟩
  obtain ⟨h, d, rfl⟩ := lane_of l
  have hz : z = 0 := Subsingleton.elim _ _
  subst hz
  rw [emb6]
  refine (out_last m c t h2 k (lane h d)).1.trans ((dk_sum m c t.val t.isLt h d _).trans ?_)
  rw [h2, upto_last _ 7 (by omega)]
  unfold dkArr
  show _ = ∑ i, dkx _ _ _ (bt t) (hdOf (128 * (t.val / 16) + (64 * h.val + d.val)) _) (dimOf (128 * (t.val / 16) + (64 * h.val + d.val))) ⟨512 + k.val, _⟩ i
  have hlt : 128 * (t.val / 16) + (64 * h.val + d.val) < 1024 := by have := pt_lt t; omega
  rw [(hd_of t h d hlt).1, (hd_of t h d hlt).2]

theorem arr7 : (dats m 0 c).arrAt 7 cfg0.N = dvArr m c := by
  refine (dats m 0 c).arrAt_eq_of_covers 7 _ (by decide +kernel) fun t hf y => ?_
  blk_simp
  rw [after0_7]
  have h2 : t.val % 8 = 7 := (flush0_7 t).mp hf
  obtain ⟨z, k, l, rfl⟩ : ∃ z k l, y = (ix3 z k l : S1x2048x128.Idx) := ⟨y 0, y 1, y 2, eq_ix3 y⟩
  obtain ⟨h, d, rfl⟩ := lane_of l
  have hz : z = 0 := Subsingleton.elim _ _
  subst hz
  rw [emb7]
  refine (out_last m c t h2 k (lane h d)).2.trans ((dv_sum m c t.val t.isLt h d _).trans ?_)
  rw [h2, upto_last _ 7 (by omega)]
  unfold dvArr
  show _ = ∑ i, dvx _ _ _ (bt t) (hdOf (128 * (t.val / 16) + (64 * h.val + d.val)) _) (dimOf (128 * (t.val / 16) + (64 * h.val + d.val))) ⟨512 + k.val, _⟩ i
  have hlt : 128 * (t.val / 16) + (64 * h.val + d.val) < 1024 := by have := pt_lt t; omega
  rw [(hd_of t h d hlt).1, (hd_of t h d hlt).2]

theorem arr8 : (dats m 0 c).arrAt 8 cfg0.N = dbArr m c := by
  refine (dats m 0 c).arrAt_eq_of_covers 8 _ (by decide +kernel) fun t hf y => ?_
  blk_simp
  rw [after0_8]
  have h2 : t.val % 16 = 15 := (flush0_8 t).mp hf
  obtain ⟨h, r, j, rfl⟩ : ∃ h r j, y = (ix3 h r j : S2x256x768.Idx) := ⟨y 0, y 1, y 2, eq_ix3 y⟩
  rw [emb8]
  refine (db_sum m c t.val t.isLt h r j).trans ?_
  rw [h2, upto_last _ 15 (by omega)]
  rfl

theorem arr5 (i : S2x2048x4096.Idx) (hi : (i 2).val < 1024) : (dats m 0 c).arrAt 5 cfg0.N i = dqArr m c i := by
  refine ((dats m 0 c).arrAt_apply_of_coversWhere 5 (dqArr m c) (P := fun i => (i 2).val < 1024) (fun β => β 2 < 8) (by decide +kernel) (fun t hf y => ?_)
    (fun j => by blk_simp [Pipeline.Window.cell_apply]; omega) i).trans (if_pos hi)
  blk_simp
  rw [after0_5]
  obtain ⟨z, r, l, rfl⟩ : ∃ z r l, y = (ix3 z r l : S1x256x128.Idx) := ⟨y 0, y 1, y 2, eq_ix3 y⟩
  obtain ⟨h, d, rfl⟩ := lane_of l
  have hz : z = 0 := Subsingleton.elim _ _
  subst hz
  rw [emb5]
  refine (dq_step m c t h d r).trans ?_
  unfold dqArr
  have ht := pt_lt t
  have hlt : 128 * (t.val / 16) + (64 * h.val + d.val) < 1024 := by omega
  refine Eq.trans ?_ (dif_pos hlt).symm
  have e1 : ∀ p, (⟨(256 * (t.val % 8) + r.val) / 256, p⟩ : Fin 8) = it t := fun p => Fin.ext (by show (256 * (t.val % 8) + r.val) / 256 = t.val % 8; omega)
  have e2 : ∀ p, (⟨(256 * (t.val % 8) + r.val) % 256, p⟩ : Fin 256) = r := fun p => Fin.ext (by show (256 * (t.val % 8) + r.val) % 256 = r.val; omega)
  show _ = dqv _ _ _ (bt t) (hdOf (128 * (t.val / 16) + (64 * h.val + d.val)) _) ⟨(256 * (t.val % 8) + r.val) / 256, _⟩ ⟨(256 * (t.val % 8) + r.val) % 256, _⟩
    (dimOf (128 * (t.val / 16) + (64 * h.val + d.val)))
  rw [(hd_of t h d hlt).1, (hd_of t h d hlt).2]
  exact (congrArg₂ (fun a b => dqv (zA m c) (bA m c) (gA m c) (bt t) (hd t h) a b d) (e1 (by omega)) (e2 (by omega))).symm

end Cert.KernelIdeal.Arrays

end
-- ==== Proof.Result.lean ====
/-
  The kernel's four result arrays are the reference's, read at an index.
-/
module

public import proofs.«01_k».proof.Proof.Pre
public import proofs.«01_k».proof.Proof.Bias
public import proofs.«01_k».proof.Proof.Arrays

@[expose] public section

set_option maxRecDepth 16384

noncomputable section

open Idealize.ShloMosaic Idealize.ShloMosaic.TcCoe

namespace Cert.KernelIdeal.Result

open Cert.KernelIdeal Cert.KernelIdeal.Gen Cert.KernelIdeal.State Cert.KernelIdeal.Arrays Cert.Rows Cert.Equation
open Cert.ReferenceIdeal.Read

variable (m : (ℓ : Loc nD τ sig) → Buf (Elt Ideal) ℓ) (c : Dev nD)

/-- The three arguments on one device. -/
abbrev argZ : FVec Ideal S2x2048x4096 .f32 := m ((c : Thread nD τ).loc main_arg0)
abbrev argT : FVec Ideal S16x257 .f32 := m ((c : Thread nD τ).loc main_arg1)
abbrev argD : FVec Ideal S2x2048x2048 .bf16 := m ((c : Thread nD τ).loc main_arg2)

theorem zA_eq : zA m c = argZ m c := V_main_arg0 m c
theorem gA_eq : gA m c = argD m c := V_main_arg2 m c
theorem tile : Tile (bA m c) (argT m c) := fun H r j => Bias.bias_apply m c H r j

/-- Column `n` of 1024 is column `n % 64` of head `n / 64`. -/
theorem col_split (n : Fin 1024) : col (hdOf n.val n.isLt) (dimOf n.val) = n := Fin.ext (by show n.val / 64 * 64 + n.val % 64 = n.val; omega)

variable {m c} (hF : Finite (argZ m c) (argT m c))
include hF

theorem dk_result : (dats m 0 c).arrAt 6 cfg0.N = val_main_v207 (F := Ideal) (argZ m c) (argT m c) (argD m c) := by
  rw [arr6]
  funext j
  obtain ⟨b, k, n, rfl⟩ : ∃ b k n, j = (ix3 b k n : S2x2048x1024.Idx) := ⟨j 0, j 1, j 2, eq_ix3 j⟩
  unfold dkArr
  rw [zA_eq, gA_eq]
  refine (dk_eq hF (tile m c) b (hdOf n.val n.isLt) k (dimOf n.val)).trans ?_
  rw [col_split]

theorem dv_result : (dats m 0 c).arrAt 7 cfg0.N = val_main_v209 (F := Ideal) (argZ m c) (argT m c) (argD m c) := by
  rw [arr7]
  funext j
  obtain ⟨b, k, n, rfl⟩ : ∃ b k n, j = (ix3 b k n : S2x2048x1024.Idx) := ⟨j 0, j 1, j 2, eq_ix3 j⟩
  unfold dvArr
  rw [zA_eq, gA_eq]
  refine (dv_eq hF (tile m c) b (hdOf n.val n.isLt) k (dimOf n.val)).trans ?_
  rw [col_split]

theorem db_result : (dats m 0 c).arrAt 8 cfg0.N = val_main_v202 (F := Ideal) (argZ m c) (argT m c) (argD m c) := by
  rw [arr8]
  funext j
  obtain ⟨H, r, k, rfl⟩ : ∃ H r k, j = (ix3 H r k : S16x256x768.Idx) := ⟨j 0, j 1, j 2, eq_ix3 j⟩
  unfold dbArr
  rw [zA_eq, gA_eq]
  exact db_eq hF (tile m c) H r k

theorem dq_result (i : S2x2048x4096.Idx) (hi : (i 2).val < 1024) :
    (dats m 0 c).arrAt 5 cfg0.N i = val_main_v205 (F := Ideal) (argZ m c) (argT m c) (argD m c) i := by
  rw [arr5 m c i hi]
  obtain ⟨b, n, x, rfl⟩ : ∃ b n x, i = (ix3 b n x : S2x2048x4096.Idx) := ⟨i 0, i 1, i 2, eq_ix3 i⟩
  unfold dqArr
  rw [dif_pos hi, zA_eq, gA_eq]
  have hx : x.val < 1024 := hi
  have hn : pos ⟨n.val / 256, by omega⟩ ⟨n.val % 256, by omega⟩ = n := Fin.ext (by show 256 * (n.val / 256) + n.val % 256 = n.val; omega)
  have hc : qcol (hdOf x.val hx) (dimOf x.val) = x := Fin.ext (by show x.val / 64 * 64 + x.val % 64 = x.val; omega)
  refine (dq_eq hF (tile m c) b (hdOf x.val hx) ⟨n.val / 256, by omega⟩ ⟨n.val % 256, by omega⟩ (dimOf x.val)).trans ?_
  rw [hn, hc]

end Cert.KernelIdeal.Result

end
-- ==== Proof.Scale.lean ====
/-
  A real factor moves in and out of a sum of extended reals, as a half does.
-/
module

public import Idealize.ShloMosaic.Lib.Claim
public import Idealize.ShloMosaic.PureOps.Ideal

@[expose] public section

noncomputable section

open Idealize.ShloMosaic

namespace Cert.Scale

theorem mul_sum_real {ι : Type} (u : Finset ι) (c : ℝ) (hc : 0 ≤ c) (f : ι → EReal) :
    ∑ x ∈ u, (c : EReal) * f x = (c : EReal) * ∑ x ∈ u, f x := by
  classical
  induction u using Finset.induction_on with
  | empty => simp
  | insert a u ha ih =>
    rw [Finset.sum_insert ha, Finset.sum_insert ha, ih,
      EReal.left_distrib_of_nonneg_of_ne_top (by exact_mod_cast hc) (EReal.coe_ne_top c)]

theorem sum_mul_real {ι : Type} (u : Finset ι) (c : ℝ) (hc : 0 ≤ c) (f : ι → EReal) :
    ∑ x ∈ u, f x * (c : EReal) = (∑ x ∈ u, f x) * (c : EReal) := by
  rw [mul_comm _ (c : EReal), ← mul_sum_real u c hc f]
  exact Finset.sum_congr rfl fun x _ => mul_comm _ _

theorem ofBits_half : Ideal.ofBits .f32 0x3F000000#32 = ((1 / 2 : ℝ) : EReal) := by
  simp [Ideal.ofBits, Ideal.ieee, -EReal.coe_mul]
  norm_num

/-- Halving every term of a sum of products halves the sum. -/
theorem half_sum {n : ℕ} (a b : Fin n → EReal) :
    ∑ k, (Ideal.ofBits .f32 0x3F000000#32 * a k) * b k = Ideal.ofBits .f32 0x3F000000#32 * ∑ k, a k * b k := by
  rw [ofBits_half, ← mul_sum_real _ _ (by norm_num)]
  exact Finset.sum_congr rfl fun k _ => mul_assoc _ _ _

theorem real_mul {x y : EReal} (hx : ∃ r : ℝ, x = (r : EReal)) (hy : ∃ r : ℝ, y = (r : EReal)) : ∃ r : ℝ, x * y = (r : EReal) := by
  obtain ⟨a, rfl⟩ := hx
  obtain ⟨b, rfl⟩ := hy
  exact ⟨a * b, (EReal.coe_mul a b).symm⟩

/-- A sum of reals is real. -/
theorem real_sum {ι : Type} (u : Finset ι) (f : ι → EReal) (hf : ∀ x, ∃ r : ℝ, f x = (r : EReal)) : ∃ r : ℝ, ∑ x ∈ u, f x = (r : EReal) := by
  classical
  induction u using Finset.induction_on with
  | empty => exact ⟨0, by simp⟩
  | insert a u ha ih =>
    obtain ⟨x, hx⟩ := hf a
    obtain ⟨y, hy⟩ := ih
    exact ⟨x + y, by rw [Finset.sum_insert ha, hx, hy, EReal.coe_add]⟩

end Cert.Scale

end
-- ==== Proof.Dact.lean ====
/-
  The gradients of the gate and of the up projection's output: the call's two arrays are the reference's.
-/
module

public import proofs.«01_k».proof.Proof.Gen.Kernel2Ideal.Value
public import proofs.«01_k».proof.Proof.Gen.Reference2Ideal.Read
public import proofs.«01_k».proof.Proof.Gen.Reference2Ideal.Run
public import proofs.«01_k».proof.Proof.Scale
public import Idealize.ShloMosaic.Lib.Pipeline.ValueKit

@[expose] public section

set_option maxRecDepth 16384

noncomputable section

open Idealize.ShloMosaic Idealize.ShloMosaic.TcCoe Idealize.SL.Sem

namespace Cert.Kernel2Ideal.Result

open Cert.Kernel2Ideal Cert.Kernel2Ideal.Gen Cert.Reference2Ideal.Read Cert.Scale

variable (m : (ℓ : Loc nD τ sig) → Buf (Elt Ideal) ℓ) (c : Dev nD)

/-- The four arguments on one device. -/
abbrev argD : FVec Ideal S4096x2048 .bf16 := m ((c : Thread nD τ).loc main_arg0)
abbrev argW : FVec Ideal S5632x2048 .bf16 := m ((c : Thread nD τ).loc main_arg1)
abbrev argG : FVec Ideal S4096x5632 .bf16 := m ((c : Thread nD τ).loc main_arg2)
abbrev argU : FVec Ideal S4096x5632 .bf16 := m ((c : Thread nD τ).loc main_arg3)

theorem idx : ∀ t : Fin cfg0.N, win0_0.index t = ![t.val / 4, 0] ∧ win0_1.index t = ![t.val % 4, 0] ∧ win0_2.index t = ![t.val / 4, t.val % 4]
    ∧ win0_3.index t = ![t.val / 4, t.val % 4] ∧ win0_4.index t = ![t.val / 4, t.val % 4] ∧ win0_5.index t = ![t.val / 4, t.val % 4] :=
  (by decide +kernel : ∀ t : Fin grid0.N, _)

/-- What the body leaves of the two gradients, from the product `s`, the gate `g` and the up projection `u`. -/
def dgv (s g u : EReal) : EReal := Ideal.ofBits .f32 0x3F000000#32 * s * u * (Ideal.logistic g * (1 + g * (1 - Ideal.logistic g)))
def duv (s g : EReal) : EReal := Ideal.ofBits .f32 0x3F000000#32 * s * (g * Ideal.logistic g)

/-- The derivative of `g · σ(g)` by the product rule is `σ(g) · (1 + g · (1 − σ(g)))`, at every gate, infinite ones too. -/
theorem silu_rule (t : ℝ) (g : EReal) :
    (t : EReal) * (Ideal.logistic g * (1 + g * (1 - Ideal.logistic g)))
      = (t : EReal) * Ideal.logistic g + g * (t : EReal) * (Ideal.logistic g * (1 - Ideal.logistic g)) := by
  induction g with
  | bot => simp
  | top =>
    have e : (1 : EReal) - 1 = 0 := by rw [← EReal.coe_one, ← EReal.coe_sub, sub_self, EReal.coe_zero]
    simp [e]
  | coe r =>
    rw [Ideal.logistic_coe]
    generalize (1 + Real.exp (-r))⁻¹ = w
    rw [← EReal.coe_one]
    simp only [← EReal.coe_mul, ← EReal.coe_add, ← EReal.coe_sub]
    congr 1
    ring

theorem dgv_eq {s u : EReal} (g : EReal) (hs : ∃ r : ℝ, s = (r : EReal)) (hu : ∃ r : ℝ, u = (r : EReal)) :
    dgv s g u = Ideal.ofBits .f32 0x3F000000#32 * s * u * Ideal.logistic g
      + g * (Ideal.ofBits .f32 0x3F000000#32 * s * u) * (Ideal.logistic g * (1 - Ideal.logistic g)) := by
  obtain ⟨t, ht⟩ := real_mul (real_mul ⟨_, ofBits_half⟩ hs) hu
  unfold dgv
  rw [ht]
  exact silu_rule t g

section Body

variable (x0 : FVec Ideal S1024x2048 .bf16) (x1 : FVec Ideal S1408x2048 .bf16) (x2 x3 : FVec Ideal S1024x1408 .bf16)

theorem out4 (y : S1024x1408.Idx) : out0_4 (F := Ideal) x0 x1 x2 x3 y
    = dgv (∑ q : Fin 2048, x0 (ix2 (y 0) q) * x1 (ix2 (y 1) q)) (x2 y) (x3 y) := by
  unfold_out out0_4
  unfold dgv
  canon_tiles x h
  all_goals (open_payloads; pointwise; blk_point [])

theorem out5 (y : S1024x1408.Idx) : out0_5 (F := Ideal) x0 x1 x2 x3 y
    = duv (∑ q : Fin 2048, x0 (ix2 (y 0) q) * x1 (ix2 (y 1) q)) (x2 y) := by
  unfold_out out0_5
  unfold duv
  canon_tiles x h
  all_goals (open_payloads; pointwise; blk_point [])

end Body

section Reference

variable (d : FVec Ideal S4096x2048 .bf16) (w : FVec Ideal S5632x2048 .bf16) (g u : FVec Ideal S4096x5632 .bf16) (j : S4096x5632.Idx)

abbrev prod : EReal := ∑ q : Fin 2048, d (ix2 (j 0) q) * w (ix2 (j 1) q)

theorem ref_prod : val_main_v11 (F := Ideal) d w j = Ideal.ofBits .f32 0x3F000000#32 * prod d w j := by
  unfold prod
  rw [← half_sum]
  pointwise [val_main_v11, val_main_v10, val_main_v9, val_main_cst_0, val_main_v1, val_main_v0]

theorem ref_logistic : val_main_v4_2 (F := Ideal) g j = Ideal.logistic (g j) := by
  pointwise [val_main_v4_2, val_main_call0_v4, val_main_call0_cst_0, val_main_call0_v3, val_main_call0_v2, val_main_call0_cst, val_main_call0_v1, val_main_call0_v0, val_main_v2]
  rfl

theorem ref_du : val_main_v16 (F := Ideal) d w g j = duv (prod d w j) (g j) := by
  have e : val_main_v16 (F := Ideal) d w g j = (g j * val_main_v4_2 (F := Ideal) g j) * val_main_v11 (F := Ideal) d w j := by
    pointwise [val_main_v16, val_main_v12, val_main_v4_0, val_main_v2]
  rw [e, ref_prod, ref_logistic, mul_comm]
  rfl

theorem ref_dg (hs : ∃ r : ℝ, prod d w j = (r : EReal)) (hu : ∃ r : ℝ, u j = (r : EReal)) :
    val_main_v15 (F := Ideal) d w g u j = dgv (prod d w j) (g j) (u j) := by
  have e : val_main_v15 (F := Ideal) d w g u j
      = val_main_v11 (F := Ideal) d w j * u j * val_main_v4_2 (F := Ideal) g j
        + g j * (val_main_v11 (F := Ideal) d w j * u j) * (val_main_v4_2 (F := Ideal) g j * (1 - val_main_v4_2 (F := Ideal) g j)) := by
    pointwise [val_main_v15, val_main_v14, val_main_call1_v2, val_main_call1_v1, val_main_call1_v0, val_main_v13, val_main_v4_1, val_main_call0_v7, val_main_call0_v6, val_main_call0_cst_1, val_main_v3, val_main_v2]
  rw [e, ref_prod, ref_logistic, dgv_eq _ hs hu]

end Reference

/-- What the claim asks of the arguments: all but the gate are finite. -/
structure Finite (d : FVec Ideal S4096x2048 .bf16) (w : FVec Ideal S5632x2048 .bf16) (u : FVec Ideal S4096x5632 .bf16) : Prop where
  d : ∀ i, ∃ r : ℝ, d i = (r : EReal)
  w : ∀ i, ∃ r : ℝ, w i = (r : EReal)
  u : ∀ i, ∃ r : ℝ, u i = (r : EReal)

theorem dg_point (hF : Finite (argD m c) (argW m c) (argU m c)) (t : Fin cfg0.N) (y) : out0_4 (F := Ideal) (iblk m c 0 t) (iblk m c 1 t) (iblk m c 2 t) (iblk m c 3 t) y
    = val_main_v15 (F := Ideal) (argD m c) (argW m c) (argG m c) (argU m c) (((cfg0.win 4).blk t).view.emb y) := by
  rw [ref_dg _ _ _ _ _ (real_sum _ _ fun q => real_mul (hF.d _) (hF.w _)) (hF.u _)]
  refine (out4 _ _ _ _ _).trans ?_
  unfold dgv prod
  blk_point [iblk, V, idx t]

theorem du_point (t : Fin cfg0.N) (y) : out0_5 (F := Ideal) (iblk m c 0 t) (iblk m c 1 t) (iblk m c 2 t) (iblk m c 3 t) y
    = val_main_v16 (F := Ideal) (argD m c) (argW m c) (argG m c) (((cfg0.win 5).blk t).view.emb y) := by
  rw [ref_du]
  refine (out5 _ _ _ _ _).trans ?_
  unfold duv prod
  blk_point [iblk, V, idx t]

theorem dg_result (hF : Finite (argD m c) (argW m c) (argU m c)) : (dats m 0 c).arrAt 4 cfg0.N = val_main_v15 (F := Ideal) (argD m c) (argW m c) (argG m c) (argU m c) := by
  refine (dats m 0 c).arrAt_eq_of_covers 4 _ (by decide +kernel) fun t _ y => ?_
  blk_simp
  rw [after0_4]
  exact dg_point m c hF t y

theorem du_result : (dats m 0 c).arrAt 5 cfg0.N = val_main_v16 (F := Ideal) (argD m c) (argW m c) (argG m c) := by
  refine (dats m 0 c).arrAt_eq_of_covers 5 _ (by decide +kernel) fun t _ y => ?_
  blk_simp
  rw [after0_5]
  exact du_point m c t y

end Cert.Kernel2Ideal.Result

end
-- ==== Proof.Pre2.lean ====
/-
  What the second precondition says: every element of the three arrays is real.
-/
module

public import proofs.«01_k».proof.Defs
public import proofs.«01_k».proof.Proof.Dact
public import proofs.«01_k».proof.Proof.Gen.Kernel2Ideal
public import Idealize.ShloMosaic.Lib.ReduceAll

@[expose] public section

set_option maxRecDepth 16384

noncomputable section

open Idealize.ShloMosaic

namespace Cert.Pre2

open Cert.Scale

theorem pre_facts : Cert.Pre_finite2.Facts where
  bcast_S_S4096x2048 := by decide
  reducesTo_S4096x2048_S_d0_1 := by decide
  h_S_ := by decide
  bcast_S_S5632x2048 := by decide
  reducesTo_S5632x2048_S_d0_1 := by decide
  bcast_S_S4096x5632 := by decide
  reducesTo_S4096x5632_S_d0_1 := by decide

theorem ofBits_top : Ideal.ofBits .bf16 0x7F80#16 = (⊤ : EReal) := by
  simp [Ideal.ofBits, Ideal.ieee, -EReal.coe_mul]

theorem hostAbsf_eq (x : EReal) : FloatOps.hostAbsf (F := Ideal) (φ := .bf16) x = max x (-x) := rfl
theorem cmp_eq (x y : EReal) : FloatOps.cmpf (F := Ideal) (φ := .bf16) CmpFPredicate.olt x y = Ideal.cmp CmpFPredicate.olt x y := rfl

/-- A number whose absolute value is below +inf is real. -/
theorem real_of_abs (x : EReal) (h : FloatOps.cmpf (F := Ideal) (φ := .bf16) CmpFPredicate.olt (FloatOps.hostAbsf (φ := .bf16) x) (Ideal.ofBits .bf16 0x7F80#16) = 1#1) :
    ∃ y : ℝ, x = (y : EReal) := by
  induction x with
  | bot => rw [hostAbsf_eq, cmp_eq, ofBits_top] at h; simp [Ideal.cmp] at h
  | top => rw [hostAbsf_eq, cmp_eq, ofBits_top] at h; simp [Ideal.cmp] at h
  | coe y => exact ⟨y, rfl⟩

theorem finite_of_pre [Cert.Pre_finite2.Facts] (x0 : FVec Ideal Cert.Pre_finite2.S4096x2048 .bf16) (x1 : FVec Ideal Cert.Pre_finite2.S5632x2048 .bf16)
    (x2 x3 : FVec Ideal Cert.Pre_finite2.S4096x5632 .bf16) (h : Cert.Pre_finite2.fn (F := Ideal) x0 x1 x2 x3 = fun _ => 1#1) :
    Cert.Kernel2Ideal.Result.Finite x0 x1 x3 := by
  have h0 := congrFun h ix0
  obtain ⟨hab, hc⟩ := IntOp.andi_eq_one.1 h0
  obtain ⟨ha, hb⟩ := IntOp.andi_eq_one.1 hab
  constructor
  · intro y
    have e := Host.reduce_andi_all _ _ _ _ _ ha y
    pointwise at e
    exact real_of_abs _ e
  · intro y
    have e := Host.reduce_andi_all _ _ _ _ _ hb y
    pointwise at e
    exact real_of_abs _ e
  · intro y
    have e := Host.reduce_andi_all _ _ _ _ _ hc y
    pointwise at e
    exact real_of_abs _ e

end Cert.Pre2

end
-- ==== Proof.Claims2.lean ====
/-
  The claims of the gradients of the two projections' outputs.
-/
module

public import proofs.«01_k».proof.Defs
public import proofs.«01_k».proof.Proof.Gen.Reference2Ideal
public import proofs.«01_k».proof.Proof.Pre2
public import Idealize.ShloMosaic.Lib.Claim
public import Idealize.ShloMosaic.Lib.Quiescent
public import Idealize.ShloMosaic.Adequacy
public import Idealize.ShloMosaic.Init

@[expose] public section

noncomputable section

namespace Cert.Claims2

open Idealize.ShloMosaic Idealize.ShloMosaic.TcCoe Idealize.SL.Sem

theorem reference_frame (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0) :=
  (θ_run Cert.Reference2Ideal.defs _ _).mono (fun r h => ⟨fun c => (h c).2.2, sem_eq_zero_of_no_sems (by decide) _⟩)
    (Cert.Reference2Ideal.Value.run m g)

theorem equal [Cert.Pre_finite2.Facts] : Cert.algebraic_Kernel2Ideal_Reference2Ideal_pre_finite2 := by
  intro m g m' g' hpre hagree
  have hF := fun c => Cert.Pre2.finite_of_pre _ _ _ _ (hpre c)
  refine ⟨fun c => Cert.Reference2Ideal.Read.val_main_v15 (F := Ideal) (Cert.Kernel2Ideal.Result.argD m c) (Cert.Kernel2Ideal.Result.argW m c) (Cert.Kernel2Ideal.Result.argG m c) (Cert.Kernel2Ideal.Result.argU m c),
    fun c => Cert.Reference2Ideal.Read.val_main_v16 (F := Ideal) (Cert.Kernel2Ideal.Result.argD m c) (Cert.Kernel2Ideal.Result.argW m c) (Cert.Kernel2Ideal.Result.argG m c), ?_, ?_⟩
  · refine (θ_run Cert.Kernel2Ideal.defs _ _).mono (fun r h c => ?_) (Cert.Kernel2Ideal.Value.run_blocks m g)
    obtain ⟨h0, h1, ha⟩ := h c
    exact ⟨h0.trans (Cert.Kernel2Ideal.Result.dg_result m c (hF c)), h1.trans (Cert.Kernel2Ideal.Result.du_result m c), ha⟩
  · refine (θ_run Cert.Reference2Ideal.defs _ _).mono (fun r h c => ?_) (Cert.Reference2Ideal.Value.run m' g')
    obtain ⟨h0, h1, ha⟩ := h c
    obtain ⟨e0, e1, e2, e3⟩ := hagree c
    have s0 := h0.trans (Cert.Reference2Ideal.Read.val_main_v15_eq _ _ _ _)
    have s1 := h1.trans (Cert.Reference2Ideal.Read.val_main_v16_eq _ _ _)
    rw [e0, e1, e2, e3] at s0
    rw [e0, e1, e2] at s1
    exact ⟨s0, s1, ha⟩

end Cert.Claims2

end
-- ==== Proof.Down.lean ====
/-
  The gradient of the down projection: the call's array is the reference's, which halves each term of the sum.
-/
module

public import proofs.«01_k».proof.Proof.Gen.Kernel3Ideal.Value
public import proofs.«01_k».proof.Proof.Gen.Reference3Ideal.Read
public import proofs.«01_k».proof.Proof.Gen.Reference3Ideal.Run
public import proofs.«01_k».proof.Proof.Scale
public import Idealize.ShloMosaic.Lib.Pipeline.ValueKit

@[expose] public section

set_option maxRecDepth 16384

noncomputable section

open Idealize.ShloMosaic Idealize.ShloMosaic.TcCoe Idealize.SL.Sem

namespace Cert.Kernel3Ideal.Result

open Cert.Kernel3Ideal Cert.Kernel3Ideal.Gen Cert.Reference3Ideal.Read Cert.Scale

variable (m : (ℓ : Loc nD τ sig) → Buf (Elt Ideal) ℓ) (c : Dev nD)

/-- The two arguments on one device. -/
abbrev argA : FVec Ideal S4096x5632 .bf16 := m ((c : Thread nD τ).loc main_arg0)
abbrev argD : FVec Ideal S4096x2048 .bf16 := m ((c : Thread nD τ).loc main_arg1)

theorem idx : ∀ t : Fin cfg0.N, win0_0.index t = ![0, t.val / 4] ∧ win0_1.index t = ![0, t.val % 4] ∧ win0_2.index t = ![t.val / 4, t.val % 4] :=
  (by decide +kernel : ∀ t : Fin grid0.N, _)

theorem ref_apply (a : FVec Ideal S4096x5632 .bf16) (d : FVec Ideal S4096x2048 .bf16) (j : S5632x2048.Idx) :
    val_main_v10 (F := Ideal) a d j = (∑ k : Fin 4096, a (ix2 k (j 0)) * d (ix2 k (j 1))) * Ideal.ofBits .f32 0x3F000000#32 := by
  refine Eq.trans (b := ∑ k : Fin 4096, (Ideal.ofBits .f32 0x3F000000#32 * d (ix2 k (j 1))) * a (ix2 k (j 0))) ?_ ?_
  · pointwise [val_main_v10, val_main_v9, val_main_v8, val_main_v7, val_main_v6, val_main_cst_1, val_main_v1, val_main_v0]
  · rw [half_sum, mul_comm]
    exact congrArg (· * _) (Finset.sum_congr rfl fun k _ => mul_comm _ _)

theorem point (t : Fin cfg0.N) (y) : k0_pay1 (F := Ideal) (iblk m c 0 t) (iblk m c 1 t) y
    = val_main_v10 (F := Ideal) (argA m c) (argD m c) (((cfg0.win 2).blk t).view.emb y) := by
  rw [ref_apply]
  pointwise [k0_pay1]
  blk_point [iblk, V, idx t]

theorem result : (dats m 0 c).arrAt 2 cfg0.N = val_main_v10 (F := Ideal) (argA m c) (argD m c) := by
  refine (dats m 0 c).arrAt_eq_of_covers 2 _ (by decide +kernel) fun t _ y => ?_
  blk_simp
  rw [after0_2]; frame_out
  exact point m c t y

end Cert.Kernel3Ideal.Result

end
-- ==== Proof.Claims3.lean ====
/-
  The claims of the gradient of the down projection's weights.
-/
module

public import proofs.«01_k».proof.Defs
public import proofs.«01_k».proof.Proof.Gen.Reference3Ideal
public import proofs.«01_k».proof.Proof.Down
public import Idealize.ShloMosaic.Lib.Claim
public import Idealize.ShloMosaic.Lib.Quiescent
public import Idealize.ShloMosaic.Adequacy
public import Idealize.ShloMosaic.Init

@[expose] public section

noncomputable section

namespace Cert.Claims3

open Idealize.ShloMosaic Idealize.ShloMosaic.TcCoe Idealize.SL.Sem

theorem reference_frame (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0) :=
  (θ_run Cert.Reference3Ideal.defs _ _).mono (fun r h => ⟨fun c => (h c).2, sem_eq_zero_of_no_sems (by decide) _⟩)
    (Cert.Reference3Ideal.Value.run m g)

theorem equal : Cert.algebraic_Kernel3Ideal_Reference3Ideal := by
  intro m g m' g' hpre hagree
  refine ⟨fun c => Cert.Reference3Ideal.Read.val_main_v10 (F := Ideal) (Cert.Kernel3Ideal.Result.argA m c) (Cert.Kernel3Ideal.Result.argD m c), ?_, ?_⟩
  · refine (θ_run Cert.Kernel3Ideal.defs _ _).mono (fun r h c => ?_) (Cert.Kernel3Ideal.Value.run_blocks m g)
    obtain ⟨h0, ha⟩ := h c
    exact ⟨h0.trans (Cert.Kernel3Ideal.Result.result m c), ha⟩
  · refine (θ_run Cert.Reference3Ideal.defs _ _).mono (fun r h c => ?_) (Cert.Reference3Ideal.Value.run m' g')
    obtain ⟨h0, ha⟩ := h c
    obtain ⟨e0, e1⟩ := hagree c
    have s0 := h0.trans (Cert.Reference3Ideal.Read.val_main_v10_eq _ _)
    rw [e0, e1] at s0
    exact ⟨s0, ha⟩

end Cert.Claims3

end
-- ==== Proof.Weight.lean ====
/-
  The gradient of the gate's or the up projection's weights: the call's array is the product of the reference.
-/
module

public import proofs.«01_k».proof.Proof.Gen.Kernel4Ideal.Value
public import proofs.«01_k».proof.Proof.Gen.Reference4Ideal.Read
public import proofs.«01_k».proof.Proof.Gen.Reference4Ideal.Run
public import Idealize.ShloMosaic.Lib.Pipeline.ValueKit

@[expose] public section

set_option maxRecDepth 16384

noncomputable section

open Idealize.ShloMosaic Idealize.ShloMosaic.TcCoe Idealize.SL.Sem

namespace Cert.Kernel4Ideal.Result

open Cert.Kernel4Ideal Cert.Kernel4Ideal.Gen Cert.Reference4Ideal.Read

variable (m : (ℓ : Loc nD τ sig) → Buf (Elt Ideal) ℓ) (c : Dev nD)

/-- The two arguments on one device. -/
abbrev argA : FVec Ideal S4096x5632 .bf16 := m ((c : Thread nD τ).loc main_arg0)
abbrev argD : FVec Ideal S4096x2048 .bf16 := m ((c : Thread nD τ).loc main_arg1)

theorem idx : ∀ t : Fin cfg0.N, win0_0.index t = ![0, t.val / 4] ∧ win0_1.index t = ![0, t.val % 4] ∧ win0_2.index t = ![t.val / 4, t.val % 4] :=
  (by decide +kernel : ∀ t : Fin grid0.N, _)

theorem point (t : Fin cfg0.N) (y) : k0_pay1 (F := Ideal) (iblk m c 0 t) (iblk m c 1 t) y
    = val_main_v8 (F := Ideal) (argA m c) (argD m c) (((cfg0.win 2).blk t).view.emb y) := by
  pointwise [k0_pay1, val_main_v8, val_main_v7, val_main_v6, val_main_v5, val_main_v1, val_main_v0]
  blk_point [iblk, V, idx t]

theorem result : (dats m 0 c).arrAt 2 cfg0.N = val_main_v8 (F := Ideal) (argA m c) (argD m c) := by
  refine (dats m 0 c).arrAt_eq_of_covers 2 _ (by decide +kernel) fun t _ y => ?_
  blk_simp
  rw [after0_2]; frame_out
  exact point m c t y

end Cert.Kernel4Ideal.Result

end
-- ==== Proof.Claims4.lean ====
/-
  The claims of the gradient of the gate's or the up projection's weights.
-/
module

public import proofs.«01_k».proof.Defs
public import proofs.«01_k».proof.Proof.Gen.Reference4Ideal
public import proofs.«01_k».proof.Proof.Weight
public import Idealize.ShloMosaic.Lib.Claim
public import Idealize.ShloMosaic.Lib.Quiescent
public import Idealize.ShloMosaic.Adequacy
public import Idealize.ShloMosaic.Init

@[expose] public section

noncomputable section

namespace Cert.Claims4

open Idealize.ShloMosaic Idealize.ShloMosaic.TcCoe Idealize.SL.Sem

theorem reference_frame (m : (ℓ : Loc Cert.Reference4Ideal.nD Cert.Reference4Ideal.τ Cert.Reference4Ideal.sig) → Buf (Elt Ideal) ℓ) (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0) :=
  (θ_run Cert.Reference4Ideal.defs _ _).mono (fun r h => ⟨fun c => (h c).2, sem_eq_zero_of_no_sems (by decide) _⟩)
    (Cert.Reference4Ideal.Value.run m g)

theorem equal : Cert.algebraic_Kernel4Ideal_Reference4Ideal := by
  intro m g m' g' hpre hagree
  refine ⟨fun c => Cert.Reference4Ideal.Read.val_main_v8 (F := Ideal) (Cert.Kernel4Ideal.Result.argA m c) (Cert.Kernel4Ideal.Result.argD m c), ?_, ?_⟩
  · refine (θ_run Cert.Kernel4Ideal.defs _ _).mono (fun r h c => ?_) (Cert.Kernel4Ideal.Value.run_blocks m g)
    obtain ⟨h0, ha⟩ := h c
    exact ⟨h0.trans (Cert.Kernel4Ideal.Result.result m c), ha⟩
  · refine (θ_run Cert.Reference4Ideal.defs _ _).mono (fun r h c => ?_) (Cert.Reference4Ideal.Value.run m' g')
    obtain ⟨h0, ha⟩ := h c
    obtain ⟨e0, e1⟩ := hagree c
    have s0 := h0.trans (Cert.Reference4Ideal.Read.val_main_v8_eq _ _)
    rw [e0, e1] at s0
    exact ⟨s0, ha⟩

end Cert.Claims4

end
-- ==== Proof.Back.lean ====
/-
  The gradient of the normalised input through one projection: the call's array is the product of the reference.
-/
module

public import proofs.«01_k».proof.Proof.Gen.Kernel5Ideal.Value
public import proofs.«01_k».proof.Proof.Gen.Reference5Ideal.Read
public import proofs.«01_k».proof.Proof.Gen.Reference5Ideal.Run
public import Idealize.ShloMosaic.Lib.Pipeline.ValueKit

@[expose] public section

set_option maxRecDepth 16384

noncomputable section

open Idealize.ShloMosaic Idealize.ShloMosaic.TcCoe Idealize.SL.Sem

namespace Cert.Kernel5Ideal.Result

open Cert.Kernel5Ideal Cert.Kernel5Ideal.Gen Cert.Reference5Ideal.Read

variable (m : (ℓ : Loc nD τ sig) → Buf (Elt Ideal) ℓ) (c : Dev nD)

/-- The two arguments on one device. -/
abbrev argA : FVec Ideal S4096x5632 .bf16 := m ((c : Thread nD τ).loc main_arg0)
abbrev argW : FVec Ideal S5632x2048 .bf16 := m ((c : Thread nD τ).loc main_arg1)

theorem idx : ∀ t : Fin cfg0.N, win0_0.index t = ![t.val / 4, 0] ∧ win0_1.index t = ![0, t.val % 4] ∧ win0_2.index t = ![t.val / 4, t.val % 4] :=
  (by decide +kernel : ∀ t : Fin grid0.N, _)

theorem point (t : Fin cfg0.N) (y) : k0_pay1 (F := Ideal) (iblk m c 0 t) (iblk m c 1 t) y
    = val_main_v5 (F := Ideal) (argA m c) (argW m c) (((cfg0.win 2).blk t).view.emb y) := by
  rw [val_main_v5_apply]
  pointwise [k0_pay1, val_main_v0, val_main_v3, val_main_v1]
  blk_point [iblk, V, idx t]

theorem result : (dats m 0 c).arrAt 2 cfg0.N = val_main_v5 (F := Ideal) (argA m c) (argW m c) := by
  refine (dats m 0 c).arrAt_eq_of_covers 2 _ (by decide +kernel) fun t _ y => ?_
  blk_simp
  rw [after0_2]; frame_out
  exact point m c t y

end Cert.Kernel5Ideal.Result

end
-- ==== Proof.Claims5.lean ====
/-
  The claims of the gradient through one projection.
-/
module

public import proofs.«01_k».proof.Defs
public import proofs.«01_k».proof.Proof.Gen.Reference5Ideal
public import proofs.«01_k».proof.Proof.Back
public import Idealize.ShloMosaic.Lib.Claim
public import Idealize.ShloMosaic.Lib.Quiescent
public import Idealize.ShloMosaic.Adequacy
public import Idealize.ShloMosaic.Init

@[expose] public section

noncomputable section

namespace Cert.Claims5

open Idealize.ShloMosaic Idealize.ShloMosaic.TcCoe Idealize.SL.Sem

theorem reference_frame (m : (ℓ : Loc Cert.Reference5Ideal.nD Cert.Reference5Ideal.τ Cert.Reference5Ideal.sig) → Buf (Elt Ideal) ℓ) (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0) :=
  (θ_run Cert.Reference5Ideal.defs _ _).mono (fun r h => ⟨fun c => (h c).2, sem_eq_zero_of_no_sems (by decide) _⟩)
    (Cert.Reference5Ideal.Value.run m g)

theorem equal : Cert.algebraic_Kernel5Ideal_Reference5Ideal := by
  intro m g m' g' hpre hagree
  refine ⟨fun c => Cert.Reference5Ideal.Read.val_main_v5 (F := Ideal) (Cert.Kernel5Ideal.Result.argA m c) (Cert.Kernel5Ideal.Result.argW m c), ?_, ?_⟩
  · refine (θ_run Cert.Kernel5Ideal.defs _ _).mono (fun r h c => ?_) (Cert.Kernel5Ideal.Value.run_blocks m g)
    obtain ⟨h0, ha⟩ := h c
    exact ⟨h0.trans (Cert.Kernel5Ideal.Result.result m c), ha⟩
  · refine (θ_run Cert.Reference5Ideal.defs _ _).mono (fun r h c => ?_) (Cert.Reference5Ideal.Value.run m' g')
    obtain ⟨h0, ha⟩ := h c
    obtain ⟨e0, e1⟩ := hagree c
    have s0 := h0.trans (Cert.Reference5Ideal.Read.val_main_v5_eq _ _)
    rw [e0, e1] at s0
    exact ⟨s0, ha⟩

end Cert.Claims5

end
-- ==== Proof.BackRes.lean ====
/-
  The gradient of the normalised input through the second projection, added to that through the first.
-/
module

public import proofs.«01_k».proof.Proof.Gen.Kernel6Ideal.Value
public import proofs.«01_k».proof.Proof.Gen.Reference6Ideal.Read
public import proofs.«01_k».proof.Proof.Gen.Reference6Ideal.Run
public import Idealize.ShloMosaic.Lib.Pipeline.ValueKit

@[expose] public section

set_option maxRecDepth 16384

noncomputable section

open Idealize.ShloMosaic Idealize.ShloMosaic.TcCoe Idealize.SL.Sem

namespace Cert.Kernel6Ideal.Result

open Cert.Kernel6Ideal Cert.Kernel6Ideal.Gen Cert.Reference6Ideal.Read

variable (m : (ℓ : Loc nD τ sig) → Buf (Elt Ideal) ℓ) (c : Dev nD)

/-- The three arguments on one device. -/
abbrev argA : FVec Ideal S4096x5632 .bf16 := m ((c : Thread nD τ).loc main_arg0)
abbrev argW : FVec Ideal S5632x2048 .bf16 := m ((c : Thread nD τ).loc main_arg1)
abbrev argR : FVec Ideal S4096x2048 .f32 := m ((c : Thread nD τ).loc main_arg2)

theorem idx : ∀ t : Fin cfg0.N, win0_0.index t = ![t.val / 4, 0] ∧ win0_1.index t = ![0, t.val % 4] ∧ win0_2.index t = ![t.val / 4, t.val % 4]
    ∧ win0_3.index t = ![t.val / 4, t.val % 4] :=
  (by decide +kernel : ∀ t : Fin grid0.N, _)

theorem point (t : Fin cfg0.N) (y) : k0_pay1 (F := Ideal) (iblk m c 0 t) (iblk m c 1 t) (iblk m c 2 t) y
    = val_main_v7 (F := Ideal) (argA m c) (argW m c) (argR m c) (((cfg0.win 3).blk t).view.emb y) := by
  pointwise [k0_pay1, val_main_v7, val_main_v6, val_main_v5, val_main_v0, val_main_v3, val_main_v1]
  blk_point [iblk, V, idx t]

theorem result : (dats m 0 c).arrAt 3 cfg0.N = val_main_v7 (F := Ideal) (argA m c) (argW m c) (argR m c) := by
  refine (dats m 0 c).arrAt_eq_of_covers 3 _ (by decide +kernel) fun t _ y => ?_
  blk_simp
  rw [after0_3]; frame_out
  exact point m c t y

end Cert.Kernel6Ideal.Result

end
-- ==== Proof.Claims6.lean ====
/-
  The claims of the gradient through the other projection, added to the first.
-/
module

public import proofs.«01_k».proof.Defs
public import proofs.«01_k».proof.Proof.Gen.Reference6Ideal
public import proofs.«01_k».proof.Proof.BackRes
public import Idealize.ShloMosaic.Lib.Claim
public import Idealize.ShloMosaic.Lib.Quiescent
public import Idealize.ShloMosaic.Adequacy
public import Idealize.ShloMosaic.Init

@[expose] public section

noncomputable section

namespace Cert.Claims6

open Idealize.ShloMosaic Idealize.ShloMosaic.TcCoe Idealize.SL.Sem

theorem reference_frame (m : (ℓ : Loc Cert.Reference6Ideal.nD Cert.Reference6Ideal.τ Cert.Reference6Ideal.sig) → Buf (Elt Ideal) ℓ) (g : Dev Cert.Reference6Ideal.nD → PrngReg) :
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0) :=
  (θ_run Cert.Reference6Ideal.defs _ _).mono (fun r h => ⟨fun c => (h c).2, sem_eq_zero_of_no_sems (by decide) _⟩)
    (Cert.Reference6Ideal.Value.run m g)

theorem equal : Cert.algebraic_Kernel6Ideal_Reference6Ideal := by
  intro m g m' g' hpre hagree
  refine ⟨fun c => Cert.Reference6Ideal.Read.val_main_v7 (F := Ideal) (Cert.Kernel6Ideal.Result.argA m c) (Cert.Kernel6Ideal.Result.argW m c) (Cert.Kernel6Ideal.Result.argR m c), ?_, ?_⟩
  · refine (θ_run Cert.Kernel6Ideal.defs _ _).mono (fun r h c => ?_) (Cert.Kernel6Ideal.Value.run_blocks m g)
    obtain ⟨h0, ha⟩ := h c
    exact ⟨h0.trans (Cert.Kernel6Ideal.Result.result m c), ha⟩
  · refine (θ_run Cert.Reference6Ideal.defs _ _).mono (fun r h c => ?_) (Cert.Reference6Ideal.Value.run m' g')
    obtain ⟨h0, ha⟩ := h c
    obtain ⟨e0, e1, e2⟩ := hagree c
    have s0 := h0.trans (Cert.Reference6Ideal.Read.val_main_v7_eq _ _ _)
    rw [e0, e1, e2] at s0
    exact ⟨s0, ha⟩

end Cert.Claims6

end
-- ==== Proof.DownRes.lean ====
/-
  The down projection of the second half, halved and added to the stream.
-/
module

public import proofs.«01_k».proof.Proof.Gen.Kernel7Ideal.Value
public import proofs.«01_k».proof.Proof.Gen.Reference7Ideal.Read
public import proofs.«01_k».proof.Proof.Gen.Reference7Ideal.Run
public import Idealize.ShloMosaic.Lib.Pipeline.ValueKit

@[expose] public section

set_option maxRecDepth 16384

noncomputable section

open Idealize.ShloMosaic Idealize.ShloMosaic.TcCoe Idealize.SL.Sem

namespace Cert.Kernel7Ideal.Result

open Cert.Kernel7Ideal Cert.Kernel7Ideal.Gen Cert.Reference7Ideal.Read

variable (m : (ℓ : Loc nD τ sig) → Buf (Elt Ideal) ℓ) (c : Dev nD)

/-- The arguments on one device. -/
abbrev argA : FVec Ideal S4096x5632 .bf16 := m ((c : Thread nD τ).loc main_arg0)
abbrev argW : FVec Ideal S5632x2048 .bf16 := m ((c : Thread nD τ).loc main_arg1)
abbrev argR : FVec Ideal S4096x2048 .f32 := m ((c : Thread nD τ).loc main_arg2)

theorem idx : ∀ t : Fin cfg0.N, win0_0.index t = ![t.val / 4, 0] ∧ win0_1.index t = ![0, t.val % 4] ∧ win0_2.index t = ![t.val / 4, t.val % 4] ∧ win0_3.index t = ![t.val / 4, t.val % 4] :=
  (by decide +kernel : ∀ t : Fin grid0.N, _)

theorem point (t : Fin cfg0.N) (y) : k0_pay1 (F := Ideal) (iblk m c 0 t) (iblk m c 1 t) (iblk m c 2 t) y
    = val_main_v5 (F := Ideal) (argA m c) (argW m c) (argR m c) (((cfg0.win 3).blk t).view.emb y) := by
  pointwise [k0_pay1, val_main_v5, val_main_v4, val_main_v3, val_main_cst, val_main_v2, val_main_v1, val_main_v0]
  blk_point [iblk, V, idx t]

theorem result : (dats m 0 c).arrAt 3 cfg0.N = val_main_v5 (F := Ideal) (argA m c) (argW m c) (argR m c) := by
  refine (dats m 0 c).arrAt_eq_of_covers 3 _ (by decide +kernel) fun t _ y => ?_
  blk_simp
  rw [after0_3]; frame_out
  exact point m c t y

end Cert.Kernel7Ideal.Result

end
-- ==== Proof.Claims7.lean ====
/-
  The claims of the down projection of the second half.
-/
module

public import proofs.«01_k».proof.Defs
public import proofs.«01_k».proof.Proof.Gen.Reference7Ideal
public import proofs.«01_k».proof.Proof.DownRes
public import Idealize.ShloMosaic.Lib.Claim
public import Idealize.ShloMosaic.Lib.Quiescent
public import Idealize.ShloMosaic.Adequacy
public import Idealize.ShloMosaic.Init

@[expose] public section

noncomputable section

namespace Cert.Claims7

open Idealize.ShloMosaic Idealize.ShloMosaic.TcCoe Idealize.SL.Sem

theorem reference_frame (m : (ℓ : Loc Cert.Reference7Ideal.nD Cert.Reference7Ideal.τ Cert.Reference7Ideal.sig) → Buf (Elt Ideal) ℓ) (g : Dev Cert.Reference7Ideal.nD → PrngReg) :
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0) :=
  (θ_run Cert.Reference7Ideal.defs _ _).mono (fun r h => ⟨fun c => (h c).2, sem_eq_zero_of_no_sems (by decide) _⟩)
    (Cert.Reference7Ideal.Value.run m g)

theorem equal : Cert.algebraic_Kernel7Ideal_Reference7Ideal := by
  intro m g m' g' hpre hagree
  refine ⟨fun c => Cert.Reference7Ideal.Read.val_main_v5 (F := Ideal) (Cert.Kernel7Ideal.Result.argA m c) (Cert.Kernel7Ideal.Result.argW m c) (Cert.Kernel7Ideal.Result.argR m c), ?_, ?_⟩
  · refine (θ_run Cert.Kernel7Ideal.defs _ _).mono (fun r h c => ?_) (Cert.Kernel7Ideal.Value.run_blocks m g)
    obtain ⟨h0, ha⟩ := h c
    exact ⟨h0.trans (Cert.Kernel7Ideal.Result.result m c), ha⟩
  · refine (θ_run Cert.Reference7Ideal.defs _ _).mono (fun r h c => ?_) (Cert.Reference7Ideal.Value.run m' g')
    obtain ⟨h0, ha⟩ := h c
    obtain ⟨e0, e1, e2⟩ := hagree c
    have s0 := h0.trans (Cert.Reference7Ideal.Read.val_main_v5_eq _ _ _)
    rw [e0, e1, e2] at s0
    exact ⟨s0, ha⟩

end Cert.Claims7

end
-- ==== Proof.Gate.lean ====
/-
  The gate of the first half.
-/
module

public import proofs.«01_k».proof.Proof.Gen.Kernel8Ideal.Value
public import proofs.«01_k».proof.Proof.Gen.Reference8Ideal.Read
public import proofs.«01_k».proof.Proof.Gen.Reference8Ideal.Run
public import Idealize.ShloMosaic.Lib.Pipeline.ValueKit

@[expose] public section

set_option maxRecDepth 16384

noncomputable section

open Idealize.ShloMosaic Idealize.ShloMosaic.TcCoe Idealize.SL.Sem

namespace Cert.Kernel8Ideal.Result

open Cert.Kernel8Ideal Cert.Kernel8Ideal.Gen Cert.Reference8Ideal.Read

variable (m : (ℓ : Loc nD τ sig) → Buf (Elt Ideal) ℓ) (c : Dev nD)

/-- The arguments on one device. -/
abbrev argH : FVec Ideal S4096x2048 .bf16 := m ((c : Thread nD τ).loc main_arg0)
abbrev argW : FVec Ideal S5632x2048 .bf16 := m ((c : Thread nD τ).loc main_arg1)

theorem idx : ∀ t : Fin cfg0.N, win0_0.index t = ![t.val / 4, 0] ∧ win0_1.index t = ![t.val % 4, 0] ∧ win0_2.index t = ![t.val / 4, t.val % 4] :=
  (by decide +kernel : ∀ t : Fin grid0.N, _)

theorem point (t : Fin cfg0.N) (y) : k0_pay1 (F := Ideal) (iblk m c 0 t) (iblk m c 1 t) y
    = val_main_v4 (F := Ideal) (argH m c) (argW m c) (((cfg0.win 2).blk t).view.emb y) := by
  pointwise [k0_pay1, val_main_v4, val_main_v3, val_main_v2, val_main_v1, val_main_v0]
  blk_point [iblk, V, idx t]

theorem result : (dats m 0 c).arrAt 2 cfg0.N = val_main_v4 (F := Ideal) (argH m c) (argW m c) := by
  refine (dats m 0 c).arrAt_eq_of_covers 2 _ (by decide +kernel) fun t _ y => ?_
  blk_simp
  rw [after0_2]; frame_out
  exact point m c t y

end Cert.Kernel8Ideal.Result

end
-- ==== Proof.Claims8.lean ====
/-
  The claims of the gate of the first half.
-/
module

public import proofs.«01_k».proof.Defs
public import proofs.«01_k».proof.Proof.Gen.Reference8Ideal
public import proofs.«01_k».proof.Proof.Gate
public import Idealize.ShloMosaic.Lib.Claim
public import Idealize.ShloMosaic.Lib.Quiescent
public import Idealize.ShloMosaic.Adequacy
public import Idealize.ShloMosaic.Init

@[expose] public section

noncomputable section

namespace Cert.Claims8

open Idealize.ShloMosaic Idealize.ShloMosaic.TcCoe Idealize.SL.Sem

theorem reference_frame (m : (ℓ : Loc Cert.Reference8Ideal.nD Cert.Reference8Ideal.τ Cert.Reference8Ideal.sig) → Buf (Elt Ideal) ℓ) (g : Dev Cert.Reference8Ideal.nD → PrngReg) :
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0) :=
  (θ_run Cert.Reference8Ideal.defs _ _).mono (fun r h => ⟨fun c => (h c).2, sem_eq_zero_of_no_sems (by decide) _⟩)
    (Cert.Reference8Ideal.Value.run m g)

theorem equal : Cert.algebraic_Kernel8Ideal_Reference8Ideal := by
  intro m g m' g' hpre hagree
  refine ⟨fun c => Cert.Reference8Ideal.Read.val_main_v4 (F := Ideal) (Cert.Kernel8Ideal.Result.argH m c) (Cert.Kernel8Ideal.Result.argW m c), ?_, ?_⟩
  · refine (θ_run Cert.Kernel8Ideal.defs _ _).mono (fun r h c => ?_) (Cert.Kernel8Ideal.Value.run_blocks m g)
    obtain ⟨h0, ha⟩ := h c
    exact ⟨h0.trans (Cert.Kernel8Ideal.Result.result m c), ha⟩
  · refine (θ_run Cert.Reference8Ideal.defs _ _).mono (fun r h c => ?_) (Cert.Reference8Ideal.Value.run m' g')
    obtain ⟨h0, ha⟩ := h c
    obtain ⟨e0, e1⟩ := hagree c
    have s0 := h0.trans (Cert.Reference8Ideal.Read.val_main_v4_eq _ _)
    rw [e0, e1] at s0
    exact ⟨s0, ha⟩

end Cert.Claims8

end
-- ==== Proof.Up.lean ====
/-
  The up projection of the first half, and its product with the activated gate.
-/
module

public import proofs.«01_k».proof.Proof.Gen.Kernel9Ideal.Value
public import proofs.«01_k».proof.Proof.Gen.Reference9Ideal.Read
public import proofs.«01_k».proof.Proof.Gen.Reference9Ideal.Run
public import Idealize.ShloMosaic.Lib.Pipeline.ValueKit

@[expose] public section

set_option maxRecDepth 16384

noncomputable section

open Idealize.ShloMosaic Idealize.ShloMosaic.TcCoe Idealize.SL.Sem

namespace Cert.Kernel9Ideal.Result

open Cert.Kernel9Ideal Cert.Kernel9Ideal.Gen Cert.Reference9Ideal.Read

variable (m : (ℓ : Loc nD τ sig) → Buf (Elt Ideal) ℓ) (c : Dev nD)

/-- The arguments on one device. -/
abbrev argH : FVec Ideal S4096x2048 .bf16 := m ((c : Thread nD τ).loc main_arg0)
abbrev argW : FVec Ideal S5632x2048 .bf16 := m ((c : Thread nD τ).loc main_arg1)
abbrev argG : FVec Ideal S4096x5632 .bf16 := m ((c : Thread nD τ).loc main_arg2)

theorem idx : ∀ t : Fin cfg0.N, win0_0.index t = ![t.val / 4, 0] ∧ win0_1.index t = ![t.val % 4, 0] ∧ win0_2.index t = ![t.val / 4, t.val % 4] ∧ win0_3.index t = ![t.val / 4, t.val % 4] ∧ win0_4.index t = ![t.val / 4, t.val % 4] :=
  (by decide +kernel : ∀ t : Fin grid0.N, _)

section Reference

variable (h : FVec Ideal S4096x2048 .bf16) (w : FVec Ideal S5632x2048 .bf16) (g : FVec Ideal S4096x5632 .bf16) (j : S4096x5632.Idx)

theorem ref_logistic : val_main_call0_v5 (F := Ideal) g j = Ideal.logistic (g j) := by
  pointwise [val_main_call0_v5, val_main_call0_v4, val_main_call0_cst_0, val_main_call0_v3, val_main_call0_v2, val_main_call0_cst, val_main_call0_v1, val_main_call0_v0, val_main_v5]
  rfl

theorem ref_act : val_main_v8 (F := Ideal) h w g j = g j * Ideal.logistic (g j) * val_main_v3 (F := Ideal) h w j := by
  rw [← ref_logistic]
  pointwise [val_main_v8, val_main_v7, val_main_v6, val_main_v5]

end Reference

theorem u_point (t : Fin cfg0.N) (y) : k0_pay2 (F := Ideal) (iblk m c 0 t) (iblk m c 1 t) y
    = val_main_v4 (F := Ideal) (argH m c) (argW m c) (((cfg0.win 3).blk t).view.emb y) := by
  pointwise [k0_pay2, k0_pay1, val_main_v4, val_main_v3, val_main_v2, val_main_v1, val_main_v0]
  blk_point [iblk, V, idx t]

theorem a_point (t : Fin cfg0.N) (y) : k0_pay3 (F := Ideal) (iblk m c 0 t) (iblk m c 1 t) (iblk m c 2 t) y
    = val_main_v8 (F := Ideal) (argH m c) (argW m c) (argG m c) (((cfg0.win 4).blk t).view.emb y) := by
  rw [ref_act]
  pointwise [k0_pay3, k0_pay1, val_main_v3, val_main_v2, val_main_v1, val_main_v0]
  blk_point [iblk, V, idx t]

theorem u_result : (dats m 0 c).arrAt 3 cfg0.N = val_main_v4 (F := Ideal) (argH m c) (argW m c) := by
  refine (dats m 0 c).arrAt_eq_of_covers 3 _ (by decide +kernel) fun t _ y => ?_
  blk_simp
  rw [after0_3]; frame_out
  exact u_point m c t y

theorem a_result : (dats m 0 c).arrAt 4 cfg0.N = val_main_v8 (F := Ideal) (argH m c) (argW m c) (argG m c) := by
  refine (dats m 0 c).arrAt_eq_of_covers 4 _ (by decide +kernel) fun t _ y => ?_
  blk_simp
  rw [after0_4]; frame_out
  exact a_point m c t y

end Cert.Kernel9Ideal.Result

end
-- ==== Proof.Claims9.lean ====
/-
  The claims of the up projection of the first half.
-/
module

public import proofs.«01_k».proof.Defs
public import proofs.«01_k».proof.Proof.Gen.Reference9Ideal
public import proofs.«01_k».proof.Proof.Up
public import Idealize.ShloMosaic.Lib.Claim
public import Idealize.ShloMosaic.Lib.Quiescent
public import Idealize.ShloMosaic.Adequacy
public import Idealize.ShloMosaic.Init

@[expose] public section

noncomputable section

namespace Cert.Claims9

open Idealize.ShloMosaic Idealize.ShloMosaic.TcCoe Idealize.SL.Sem

theorem reference_frame (m : (ℓ : Loc Cert.Reference9Ideal.nD Cert.Reference9Ideal.τ Cert.Reference9Ideal.sig) → Buf (Elt Ideal) ℓ) (g : Dev Cert.Reference9Ideal.nD → PrngReg) :
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0) :=
  (θ_run Cert.Reference9Ideal.defs _ _).mono (fun r h => ⟨fun c => (h c).2.2, sem_eq_zero_of_no_sems (by decide) _⟩)
    (Cert.Reference9Ideal.Value.run m g)

theorem equal : Cert.algebraic_Kernel9Ideal_Reference9Ideal := by
  intro m g m' g' hpre hagree
  refine ⟨fun c => Cert.Reference9Ideal.Read.val_main_v4 (F := Ideal) (Cert.Kernel9Ideal.Result.argH m c) (Cert.Kernel9Ideal.Result.argW m c),
    fun c => Cert.Reference9Ideal.Read.val_main_v8 (F := Ideal) (Cert.Kernel9Ideal.Result.argH m c) (Cert.Kernel9Ideal.Result.argW m c) (Cert.Kernel9Ideal.Result.argG m c), ?_, ?_⟩
  · refine (θ_run Cert.Kernel9Ideal.defs _ _).mono (fun r h c => ?_) (Cert.Kernel9Ideal.Value.run_blocks m g)
    obtain ⟨h0, h1, ha⟩ := h c
    exact ⟨h0.trans (Cert.Kernel9Ideal.Result.u_result m c), h1.trans (Cert.Kernel9Ideal.Result.a_result m c), ha⟩
  · refine (θ_run Cert.Reference9Ideal.defs _ _).mono (fun r h c => ?_) (Cert.Reference9Ideal.Value.run m' g')
    obtain ⟨h0, h1, ha⟩ := h c
    obtain ⟨e0, e1, e2⟩ := hagree c
    have s0 := h0.trans (Cert.Reference9Ideal.Read.val_main_v4_eq _ _)
    have s1 := h1.trans (Cert.Reference9Ideal.Read.val_main_v8_eq _ _ _)
    rw [e0, e1] at s0
    rw [e0, e1, e2] at s1
    exact ⟨s0, s1, ha⟩

end Cert.Claims9

end
-- ==== Proof.InProj.lean ====
/-
  The projection into the attention's inputs: column (n, w) of the result is column w of the n-th part of the weights.
-/
module

public import proofs.«01_k».proof.Proof.Gen.Kernel11Ideal.Value
public import proofs.«01_k».proof.Proof.Gen.Reference11Ideal.Read
public import proofs.«01_k».proof.Proof.Gen.Reference11Ideal.Run
public import Idealize.ShloMosaic.Lib.Pipeline.ValueKit

@[expose] public section

set_option maxRecDepth 16384

noncomputable section

open Idealize.ShloMosaic Idealize.ShloMosaic.TcCoe Idealize.SL.Sem

namespace Cert.Kernel11Ideal.Result

open Cert.Kernel11Ideal Cert.Kernel11Ideal.Gen Cert.Reference11Ideal.Read

variable (m : (ℓ : Loc nD τ sig) → Buf (Elt Ideal) ℓ) (c : Dev nD)

/-- The arguments on one device. -/
abbrev argH : FVec Ideal S4096x2048 .bf16 := m ((c : Thread nD τ).loc main_arg0)
abbrev argW : FVec Ideal S8x2048x512 .bf16 := m ((c : Thread nD τ).loc main_arg1)

theorem idx : ∀ t : Fin cfg0.N, win0_0.index t = ![t.val / 8, 0] ∧ win0_1.index t = ![t.val % 8, 0, 0] ∧ win0_2.index t = ![t.val / 8, t.val % 8] :=
  (by decide +kernel : ∀ t : Fin grid0.N, _)

theorem point (t : Fin cfg0.N) (y) : k0_pay1 (F := Ideal) (iblk m c 0 t) (iblk m c 1 t) y
    = val_main_v3 (F := Ideal) (argH m c) (argW m c) (((cfg0.win 2).blk t).view.emb y) := by
  pointwise [k0_pay1, val_main_v3, val_main_v2, val_main_v1, val_main_v0]
  blk_point [iblk, V, idx t]

theorem result : (dats m 0 c).arrAt 2 cfg0.N = val_main_v3 (F := Ideal) (argH m c) (argW m c) := by
  refine (dats m 0 c).arrAt_eq_of_covers 2 _ (by decide +kernel) fun t _ y => ?_
  blk_simp
  rw [after0_2]; frame_out
  exact point m c t y

end Cert.Kernel11Ideal.Result

end
-- ==== Proof.Claims11.lean ====
/-
  The claims of the projection into the attention's inputs.
-/
module

public import proofs.«01_k».proof.Defs
public import proofs.«01_k».proof.Proof.Gen.Reference11Ideal
public import proofs.«01_k».proof.Proof.InProj
public import Idealize.ShloMosaic.Lib.Claim
public import Idealize.ShloMosaic.Lib.Quiescent
public import Idealize.ShloMosaic.Adequacy
public import Idealize.ShloMosaic.Init

@[expose] public section

noncomputable section

namespace Cert.Claims11

open Idealize.ShloMosaic Idealize.ShloMosaic.TcCoe Idealize.SL.Sem

theorem reference_frame (m : (ℓ : Loc Cert.Reference11Ideal.nD Cert.Reference11Ideal.τ Cert.Reference11Ideal.sig) → Buf (Elt Ideal) ℓ) (g : Dev Cert.Reference11Ideal.nD → PrngReg) :
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0) :=
  (θ_run Cert.Reference11Ideal.defs _ _).mono (fun r h => ⟨fun c => (h c).2, sem_eq_zero_of_no_sems (by decide) _⟩)
    (Cert.Reference11Ideal.Value.run m g)

theorem equal : Cert.algebraic_Kernel11Ideal_Reference11Ideal := by
  intro m g m' g' hpre hagree
  refine ⟨fun c => Cert.Reference11Ideal.Read.val_main_v3 (F := Ideal) (Cert.Kernel11Ideal.Result.argH m c) (Cert.Kernel11Ideal.Result.argW m c), ?_, ?_⟩
  · refine (θ_run Cert.Kernel11Ideal.defs _ _).mono (fun r h c => ?_) (Cert.Kernel11Ideal.Value.run_blocks m g)
    obtain ⟨h0, ha⟩ := h c
    exact ⟨h0.trans (Cert.Kernel11Ideal.Result.result m c), ha⟩
  · refine (θ_run Cert.Reference11Ideal.defs _ _).mono (fun r h c => ?_) (Cert.Reference11Ideal.Value.run m' g')
    obtain ⟨h0, ha⟩ := h c
    obtain ⟨e0, e1⟩ := hagree c
    have s0 := h0.trans (Cert.Reference11Ideal.Read.val_main_v3_eq _ _)
    rw [e0, e1] at s0
    exact ⟨s0, ha⟩

end Cert.Claims11

end
-- ==== Proof.InWeight.lean ====
/-
  The gradient of the weights of the projection into the attention's inputs.
-/
module

public import proofs.«01_k».proof.Proof.Gen.Kernel12Ideal.Value
public import proofs.«01_k».proof.Proof.Gen.Reference12Ideal.Read
public import proofs.«01_k».proof.Proof.Gen.Reference12Ideal.Run
public import Idealize.ShloMosaic.Lib.Pipeline.ValueKit

@[expose] public section

set_option maxRecDepth 16384

noncomputable section

open Idealize.ShloMosaic Idealize.ShloMosaic.TcCoe Idealize.SL.Sem

namespace Cert.Kernel12Ideal.Result

open Cert.Kernel12Ideal Cert.Kernel12Ideal.Gen Cert.Reference12Ideal.Read

variable (m : (ℓ : Loc nD τ sig) → Buf (Elt Ideal) ℓ) (c : Dev nD)

/-- The arguments on one device. -/
abbrev argH : FVec Ideal S4096x2048 .bf16 := m ((c : Thread nD τ).loc main_arg0)
abbrev argD : FVec Ideal S4096x4096 .bf16 := m ((c : Thread nD τ).loc main_arg1)

theorem idx : ∀ t : Fin cfg0.N, win0_0.index t = ![0, t.val / 8] ∧ win0_1.index t = ![0, t.val % 8] ∧ win0_2.index t = ![t.val % 8, t.val / 8, 0] :=
  (by decide +kernel : ∀ t : Fin grid0.N, _)

/-- Column `k` of part `n`. -/
def col (n : Fin 8) (k : Fin 512) : Fin 4096 := ⟨n.val * 512 + k.val, by omega⟩

theorem ref_apply (h : FVec Ideal S4096x2048 .bf16) (d : FVec Ideal S4096x4096 .bf16) (j : S8x2048x512.Idx) :
    val_main_v8 (F := Ideal) h d j = ∑ k : Fin 4096, h (ix2 k (j 1)) * d (ix2 k (col (j 0) (j 2))) := by
  refine Eq.trans (b := ∑ k : Fin 4096, d (ix2 k (col (j 0) (j 2))) * h (ix2 k (j 1))) ?_ (Finset.sum_congr rfl fun k _ => mul_comm _ _)
  unfold col
  pointwise [val_main_v8, val_main_v7, val_main_v6, val_main_v5, val_main_v1, val_main_v0]

theorem point (t : Fin cfg0.N) (y) : k0_pay1 (F := Ideal) (iblk m c 0 t) (iblk m c 1 t) y
    = val_main_v8 (F := Ideal) (argH m c) (argD m c) (((cfg0.win 2).blk t).view.emb y) := by
  rw [ref_apply]
  unfold col
  pointwise [k0_pay1]
  blk_point [iblk, V, idx t]

theorem result : (dats m 0 c).arrAt 2 cfg0.N = val_main_v8 (F := Ideal) (argH m c) (argD m c) := by
  refine (dats m 0 c).arrAt_eq_of_covers 2 _ (by decide +kernel) fun t _ y => ?_
  blk_simp
  rw [after0_2]; frame_out
  exact point m c t y

end Cert.Kernel12Ideal.Result

end
-- ==== Proof.Claims12.lean ====
/-
  The claims of the gradient of its weights.
-/
module

public import proofs.«01_k».proof.Defs
public import proofs.«01_k».proof.Proof.Gen.Reference12Ideal
public import proofs.«01_k».proof.Proof.InWeight
public import Idealize.ShloMosaic.Lib.Claim
public import Idealize.ShloMosaic.Lib.Quiescent
public import Idealize.ShloMosaic.Adequacy
public import Idealize.ShloMosaic.Init

@[expose] public section

noncomputable section

namespace Cert.Claims12

open Idealize.ShloMosaic Idealize.ShloMosaic.TcCoe Idealize.SL.Sem

theorem reference_frame (m : (ℓ : Loc Cert.Reference12Ideal.nD Cert.Reference12Ideal.τ Cert.Reference12Ideal.sig) → Buf (Elt Ideal) ℓ) (g : Dev Cert.Reference12Ideal.nD → PrngReg) :
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0) :=
  (θ_run Cert.Reference12Ideal.defs _ _).mono (fun r h => ⟨fun c => (h c).2, sem_eq_zero_of_no_sems (by decide) _⟩)
    (Cert.Reference12Ideal.Value.run m g)

theorem equal : Cert.algebraic_Kernel12Ideal_Reference12Ideal := by
  intro m g m' g' hpre hagree
  refine ⟨fun c => Cert.Reference12Ideal.Read.val_main_v8 (F := Ideal) (Cert.Kernel12Ideal.Result.argH m c) (Cert.Kernel12Ideal.Result.argD m c), ?_, ?_⟩
  · refine (θ_run Cert.Kernel12Ideal.defs _ _).mono (fun r h c => ?_) (Cert.Kernel12Ideal.Value.run_blocks m g)
    obtain ⟨h0, ha⟩ := h c
    exact ⟨h0.trans (Cert.Kernel12Ideal.Result.result m c), ha⟩
  · refine (θ_run Cert.Reference12Ideal.defs _ _).mono (fun r h c => ?_) (Cert.Reference12Ideal.Value.run m' g')
    obtain ⟨h0, ha⟩ := h c
    obtain ⟨e0, e1⟩ := hagree c
    have s0 := h0.trans (Cert.Reference12Ideal.Read.val_main_v8_eq _ _)
    rw [e0, e1] at s0
    exact ⟨s0, ha⟩

end Cert.Claims12

end
-- ==== Proof.InBack.lean ====
/-
  The gradient through the projection into the attention's inputs: the reference contracts the part and the column together, the body part by part.
-/
module

public import proofs.«01_k».proof.Proof.Gen.Kernel13Ideal.Value
public import proofs.«01_k».proof.Proof.Gen.Reference13Ideal.Read
public import proofs.«01_k».proof.Proof.Gen.Reference13Ideal.Run
public import Idealize.ShloMosaic.Lib.Pipeline.ValueKit
public import Idealize.ShloMosaic.Lib.TwoAxisContraction

@[expose] public section

set_option maxRecDepth 16384

noncomputable section

open Idealize.ShloMosaic Idealize.ShloMosaic.TcCoe Idealize.SL.Sem

namespace Cert.Kernel13Ideal.Result

open Cert.Kernel13Ideal Cert.Kernel13Ideal.Gen Cert.Reference13Ideal.Read

variable (m : (ℓ : Loc nD τ sig) → Buf (Elt Ideal) ℓ) (c : Dev nD)

/-- The arguments on one device. -/
abbrev argD : FVec Ideal S4096x4096 .bf16 := m ((c : Thread nD τ).loc main_arg0)
abbrev argW : FVec Ideal S8x2048x512 .bf16 := m ((c : Thread nD τ).loc main_arg1)

theorem idx : ∀ t : Fin cfg0.N, win0_0.index t = ![t.val / 4, 0] ∧ win0_1.index t = ![0, t.val % 4, 0] ∧ win0_2.index t = ![t.val / 4, t.val % 4] :=
  (by decide +kernel : ∀ t : Fin grid0.N, _)

/-- Column `k` of part `n`. -/
def col (n : Fin 8) (k : Fin 512) : Fin 4096 := ⟨n.val * 512 + k.val, by omega⟩

section Reference

variable (d : FVec Ideal S4096x4096 .bf16) (w : FVec Ideal S8x2048x512 .bf16)

theorem parts (i : Cert.Reference13Ideal.S4096x8x512.Idx) : val_main_v5 (F := Ideal) d i = d (ix2 (i 0) (col (i 1) (i 2))) := by
  rw [val_main_v5_apply]
  show d _ = d _
  refine congrArg d (funext fun a => Fin.ext ?_)
  have h1 : (i 1).val < 8 := (i 1).isLt
  have h2 : (i 2).val < 512 := (i 2).isLt
  match a with
  | ⟨0, _⟩ => show (((i 0).val * 8 + (i 1).val) * 512 + (i 2).val) / 4096 = (i 0).val; omega
  | ⟨1, _⟩ => show (((i 0).val * 8 + (i 1).val) * 512 + (i 2).val) % 4096 = (i 1).val * 512 + (i 2).val; omega

theorem ref_apply (j : S4096x2048.Idx) :
    val_main_v7 (F := Ideal) d w j = ∑ n : Fin 8, ∑ k : Fin 512, d (ix2 (j 0) (col n k)) * w (ix3 n (j 1) k) := by
  show val_main_v6 (F := Ideal) d w j = _
  unfold val_main_v6
  have el (i : Cert.Reference13Ideal.S4096x8x512.Idx) := parts d i
  generalize val_main_v5 (F := Ideal) d = y0 at el ⊢
  simp only [Host.dotGeneral]
  have hr : Cert.Reference13Ideal.dot_S4096x8x512_S8x2048x512_S4096x2048_12_02_0_1_n_n.contr.rank = 2 := rfl
  have c0 : Cert.Reference13Ideal.dot_S4096x8x512_S8x2048x512_S4096x2048_12_02_0_1_n_n.contr.size ⟨0, by rw [hr]; omega⟩ = 8 := rfl
  have c1 : Cert.Reference13Ideal.dot_S4096x8x512_S8x2048x512_S4096x2048_12_02_0_1_n_n.contr.size ⟨1, by rw [hr]; omega⟩ = 512 := rfl
  rw [Ideal.dotGeneral_apply, ← Equiv.sum_comp (ValueIdx.contrEquiv2 Cert.Reference13Ideal.dot_S4096x8x512_S8x2048x512_S4096x2048_12_02_0_1_n_n 8 512 hr c0 c1).symm, Fintype.sum_prod_type]
  refine Finset.sum_congr rfl fun n _ => Finset.sum_congr rfl fun k _ => ?_
  have h0 := ValueIdx.contrEquiv2_symm_val0 Cert.Reference13Ideal.dot_S4096x8x512_S8x2048x512_S4096x2048_12_02_0_1_n_n 8 512 hr c0 c1 (n, k)
  have h1 := ValueIdx.contrEquiv2_symm_val1 Cert.Reference13Ideal.dot_S4096x8x512_S8x2048x512_S4096x2048_12_02_0_1_n_n 8 512 hr c0 c1 (n, k)
  have e1 : Cert.Reference13Ideal.dot_S4096x8x512_S8x2048x512_S4096x2048_12_02_0_1_n_n.lhsIdx j ((ValueIdx.contrEquiv2 Cert.Reference13Ideal.dot_S4096x8x512_S8x2048x512_S4096x2048_12_02_0_1_n_n 8 512 hr c0 c1).symm (n, k)) = ix3 (j 0) n k := by
    funext a; apply Fin.ext
    match a with
    | ⟨0, _⟩ => rfl
    | ⟨1, _⟩ => exact h0
    | ⟨2, _⟩ => exact h1
  have e2 : Cert.Reference13Ideal.dot_S4096x8x512_S8x2048x512_S4096x2048_12_02_0_1_n_n.rhsIdx j ((ValueIdx.contrEquiv2 Cert.Reference13Ideal.dot_S4096x8x512_S8x2048x512_S4096x2048_12_02_0_1_n_n 8 512 hr c0 c1).symm (n, k)) = ix3 n (j 1) k := by
    funext a; apply Fin.ext
    match a with
    | ⟨0, _⟩ => exact h0
    | ⟨1, _⟩ => rfl
    | ⟨2, _⟩ => exact h1
  rw [e1, e2]
  exact congrArg₂ (· * ·) (el (ix3 (j 0) n k)) rfl

end Reference

theorem result : (dats m 0 c).arrAt 2 cfg0.N = val_main_v7 (F := Ideal) (argD m c) (argW m c) := by
  refine (dats m 0 c).arrAt_eq_of_covers 2 _ (by decide +kernel) fun t _ y => ?_
  blk_simp
  rw [after0_2, ref_apply, Fin.sum_univ_eight]; unfold out0_2
  canon_tiles x h
  all_goals (open_payloads; pointwise [k0_pay1, k0_pay2]; unfold col; blk_point [iblk, V, idx t])

end Cert.Kernel13Ideal.Result

end
-- ==== Proof.Claims13.lean ====
/-
  The claims of the gradient through it.
-/
module

public import proofs.«01_k».proof.Defs
public import proofs.«01_k».proof.Proof.Gen.Reference13Ideal
public import proofs.«01_k».proof.Proof.InBack
public import Idealize.ShloMosaic.Lib.Claim
public import Idealize.ShloMosaic.Lib.Quiescent
public import Idealize.ShloMosaic.Adequacy
public import Idealize.ShloMosaic.Init

@[expose] public section

noncomputable section

namespace Cert.Claims13

open Idealize.ShloMosaic Idealize.ShloMosaic.TcCoe Idealize.SL.Sem

theorem reference_frame (m : (ℓ : Loc Cert.Reference13Ideal.nD Cert.Reference13Ideal.τ Cert.Reference13Ideal.sig) → Buf (Elt Ideal) ℓ) (g : Dev Cert.Reference13Ideal.nD → PrngReg) :
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0) :=
  (θ_run Cert.Reference13Ideal.defs _ _).mono (fun r h => ⟨fun c => (h c).2, sem_eq_zero_of_no_sems (by decide) _⟩)
    (Cert.Reference13Ideal.Value.run m g)

theorem equal : Cert.algebraic_Kernel13Ideal_Reference13Ideal := by
  intro m g m' g' hpre hagree
  refine ⟨fun c => Cert.Reference13Ideal.Read.val_main_v7 (F := Ideal) (Cert.Kernel13Ideal.Result.argD m c) (Cert.Kernel13Ideal.Result.argW m c), ?_, ?_⟩
  · refine (θ_run Cert.Kernel13Ideal.defs _ _).mono (fun r h c => ?_) (Cert.Kernel13Ideal.Value.run_blocks m g)
    obtain ⟨h0, ha⟩ := h c
    exact ⟨h0.trans (Cert.Kernel13Ideal.Result.result m c), ha⟩
  · refine (θ_run Cert.Reference13Ideal.defs _ _).mono (fun r h c => ?_) (Cert.Reference13Ideal.Value.run m' g')
    obtain ⟨h0, ha⟩ := h c
    obtain ⟨e0, e1⟩ := hagree c
    have s0 := h0.trans (Cert.Reference13Ideal.Read.val_main_v7_eq _ _)
    rw [e0, e1] at s0
    exact ⟨s0, ha⟩

end Cert.Claims13

end
-- ==== Proof.MixOut.lean ====
/-
  The projection of the attention's output, added to the stream.
-/
module

public import proofs.«01_k».proof.Proof.Gen.Kernel14Ideal.Value
public import proofs.«01_k».proof.Proof.Gen.Reference14Ideal.Read
public import proofs.«01_k».proof.Proof.Gen.Reference14Ideal.Run
public import Idealize.ShloMosaic.Lib.Pipeline.ValueKit

@[expose] public section

set_option maxRecDepth 16384

noncomputable section

open Idealize.ShloMosaic Idealize.ShloMosaic.TcCoe Idealize.SL.Sem

namespace Cert.Kernel14Ideal.Result

open Cert.Kernel14Ideal Cert.Kernel14Ideal.Gen Cert.Reference14Ideal.Read

variable (m : (ℓ : Loc nD τ sig) → Buf (Elt Ideal) ℓ) (c : Dev nD)

/-- The arguments on one device. -/
abbrev argA : FVec Ideal S4096x2048 .bf16 := m ((c : Thread nD τ).loc main_arg0)
abbrev argW : FVec Ideal S2048x2048 .bf16 := m ((c : Thread nD τ).loc main_arg1)
abbrev argR : FVec Ideal S4096x2048 .f32 := m ((c : Thread nD τ).loc main_arg2)

theorem idx : ∀ t : Fin cfg0.N, win0_0.index t = ![t.val / 2, 0] ∧ win0_1.index t = ![0, t.val % 2] ∧ win0_2.index t = ![t.val / 2, t.val % 2] ∧ win0_3.index t = ![t.val / 2, t.val % 2] :=
  (by decide +kernel : ∀ t : Fin grid0.N, _)

theorem point (t : Fin cfg0.N) (y) : k0_pay1 (F := Ideal) (iblk m c 0 t) (iblk m c 1 t) (iblk m c 2 t) y
    = val_main_v3 (F := Ideal) (argA m c) (argW m c) (argR m c) (((cfg0.win 3).blk t).view.emb y) := by
  pointwise [k0_pay1, val_main_v3, val_main_v2, val_main_v1, val_main_v0]
  blk_point [iblk, V, idx t]

theorem result : (dats m 0 c).arrAt 3 cfg0.N = val_main_v3 (F := Ideal) (argA m c) (argW m c) (argR m c) := by
  refine (dats m 0 c).arrAt_eq_of_covers 3 _ (by decide +kernel) fun t _ y => ?_
  blk_simp
  rw [after0_3]; frame_out
  exact point m c t y

end Cert.Kernel14Ideal.Result

end
-- ==== Proof.Claims14.lean ====
/-
  The claims of the projection of the attention's output.
-/
module

public import proofs.«01_k».proof.Defs
public import proofs.«01_k».proof.Proof.Gen.Reference14Ideal
public import proofs.«01_k».proof.Proof.MixOut
public import Idealize.ShloMosaic.Lib.Claim
public import Idealize.ShloMosaic.Lib.Quiescent
public import Idealize.ShloMosaic.Adequacy
public import Idealize.ShloMosaic.Init

@[expose] public section

noncomputable section

namespace Cert.Claims14

open Idealize.ShloMosaic Idealize.ShloMosaic.TcCoe Idealize.SL.Sem

theorem reference_frame (m : (ℓ : Loc Cert.Reference14Ideal.nD Cert.Reference14Ideal.τ Cert.Reference14Ideal.sig) → Buf (Elt Ideal) ℓ) (g : Dev Cert.Reference14Ideal.nD → PrngReg) :
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0) :=
  (θ_run Cert.Reference14Ideal.defs _ _).mono (fun r h => ⟨fun c => (h c).2, sem_eq_zero_of_no_sems (by decide) _⟩)
    (Cert.Reference14Ideal.Value.run m g)

theorem equal : Cert.algebraic_Kernel14Ideal_Reference14Ideal := by
  intro m g m' g' hpre hagree
  refine ⟨fun c => Cert.Reference14Ideal.Read.val_main_v3 (F := Ideal) (Cert.Kernel14Ideal.Result.argA m c) (Cert.Kernel14Ideal.Result.argW m c) (Cert.Kernel14Ideal.Result.argR m c), ?_, ?_⟩
  · refine (θ_run Cert.Kernel14Ideal.defs _ _).mono (fun r h c => ?_) (Cert.Kernel14Ideal.Value.run_blocks m g)
    obtain ⟨h0, ha⟩ := h c
    exact ⟨h0.trans (Cert.Kernel14Ideal.Result.result m c), ha⟩
  · refine (θ_run Cert.Reference14Ideal.defs _ _).mono (fun r h c => ?_) (Cert.Reference14Ideal.Value.run m' g')
    obtain ⟨h0, ha⟩ := h c
    obtain ⟨e0, e1, e2⟩ := hagree c
    have s0 := h0.trans (Cert.Reference14Ideal.Read.val_main_v3_eq _ _ _)
    rw [e0, e1, e2] at s0
    exact ⟨s0, ha⟩

end Cert.Claims14

end
-- ==== Proof.MixBack.lean ====
/-
  The gradient of the attention's output through its projection.
-/
module

public import proofs.«01_k».proof.Proof.Gen.Kernel15Ideal.Value
public import proofs.«01_k».proof.Proof.Gen.Reference15Ideal.Read
public import proofs.«01_k».proof.Proof.Gen.Reference15Ideal.Run
public import Idealize.ShloMosaic.Lib.Pipeline.ValueKit

@[expose] public section

set_option maxRecDepth 16384

noncomputable section

open Idealize.ShloMosaic Idealize.ShloMosaic.TcCoe Idealize.SL.Sem

namespace Cert.Kernel15Ideal.Result

open Cert.Kernel15Ideal Cert.Kernel15Ideal.Gen Cert.Reference15Ideal.Read

variable (m : (ℓ : Loc nD τ sig) → Buf (Elt Ideal) ℓ) (c : Dev nD)

/-- The arguments on one device. -/
abbrev argD : FVec Ideal S4096x2048 .bf16 := m ((c : Thread nD τ).loc main_arg0)
abbrev argW : FVec Ideal S2048x2048 .bf16 := m ((c : Thread nD τ).loc main_arg1)

theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

theorem point (t : Fin cfg0.N) (y) : k0_pay1 (F := Ideal) (iblk m c 0 t) (iblk m c 1 t) y
    = val_main_v5 (F := Ideal) (argD m c) (argW m c) (((cfg0.win 2).blk t).view.emb y) := by
  pointwise [k0_pay1, val_main_v5, val_main_v4, val_main_v1, val_main_v0]
  blk_point [iblk, V, idx t]

theorem result : (dats m 0 c).arrAt 2 cfg0.N = val_main_v5 (F := Ideal) (argD m c) (argW m c) := by
  refine (dats m 0 c).arrAt_eq_of_covers 2 _ (by decide +kernel) fun t _ y => ?_
  blk_simp
  rw [after0_2]; frame_out
  exact point m c t y

end Cert.Kernel15Ideal.Result

end
-- ==== Proof.Claims15.lean ====
/-
  The claims of the gradient through it.
-/
module

public import proofs.«01_k».proof.Defs
public import proofs.«01_k».proof.Proof.Gen.Reference15Ideal
public import proofs.«01_k».proof.Proof.MixBack
public import Idealize.ShloMosaic.Lib.Claim
public import Idealize.ShloMosaic.Lib.Quiescent
public import Idealize.ShloMosaic.Adequacy
public import Idealize.ShloMosaic.Init

@[expose] public section

noncomputable section

namespace Cert.Claims15

open Idealize.ShloMosaic Idealize.ShloMosaic.TcCoe Idealize.SL.Sem

theorem reference_frame (m : (ℓ : Loc Cert.Reference15Ideal.nD Cert.Reference15Ideal.τ Cert.Reference15Ideal.sig) → Buf (Elt Ideal) ℓ) (g : Dev Cert.Reference15Ideal.nD → PrngReg) :
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0) :=
  (θ_run Cert.Reference15Ideal.defs _ _).mono (fun r h => ⟨fun c => (h c).2, sem_eq_zero_of_no_sems (by decide) _⟩)
    (Cert.Reference15Ideal.Value.run m g)

theorem equal : Cert.algebraic_Kernel15Ideal_Reference15Ideal := by
  intro m g m' g' hpre hagree
  refine ⟨fun c => Cert.Reference15Ideal.Read.val_main_v5 (F := Ideal) (Cert.Kernel15Ideal.Result.argD m c) (Cert.Kernel15Ideal.Result.argW m c), ?_, ?_⟩
  · refine (θ_run Cert.Kernel15Ideal.defs _ _).mono (fun r h c => ?_) (Cert.Kernel15Ideal.Value.run_blocks m g)
    obtain ⟨h0, ha⟩ := h c
    exact ⟨h0.trans (Cert.Kernel15Ideal.Result.result m c), ha⟩
  · refine (θ_run Cert.Reference15Ideal.defs _ _).mono (fun r h c => ?_) (Cert.Reference15Ideal.Value.run m' g')
    obtain ⟨h0, ha⟩ := h c
    obtain ⟨e0, e1⟩ := hagree c
    have s0 := h0.trans (Cert.Reference15Ideal.Read.val_main_v5_eq _ _)
    rw [e0, e1] at s0
    exact ⟨s0, ha⟩

end Cert.Claims15

end
-- ==== Proof.MixWeight.lean ====
/-
  The gradient of the weights of the projection of the attention's output.
-/
module

public import proofs.«01_k».proof.Proof.Gen.Kernel16Ideal.Value
public import proofs.«01_k».proof.Proof.Gen.Reference16Ideal.Read
public import proofs.«01_k».proof.Proof.Gen.Reference16Ideal.Run
public import Idealize.ShloMosaic.Lib.Pipeline.ValueKit

@[expose] public section

set_option maxRecDepth 16384

noncomputable section

open Idealize.ShloMosaic Idealize.ShloMosaic.TcCoe Idealize.SL.Sem

namespace Cert.Kernel16Ideal.Result

open Cert.Kernel16Ideal Cert.Kernel16Ideal.Gen Cert.Reference16Ideal.Read

variable (m : (ℓ : Loc nD τ sig) → Buf (Elt Ideal) ℓ) (c : Dev nD)

/-- The arguments on one device. -/
abbrev argA : FVec Ideal S4096x2048 .bf16 := m ((c : Thread nD τ).loc main_arg0)
abbrev argD : FVec Ideal S4096x2048 .bf16 := m ((c : Thread nD τ).loc main_arg1)

theorem idx : ∀ t : Fin cfg0.N, win0_0.index t = ![0, t.val / 2] ∧ win0_1.index t = ![0, t.val % 2] ∧ win0_2.index t = ![t.val / 2, t.val % 2] :=
  (by decide +kernel : ∀ t : Fin grid0.N, _)

theorem ref_apply (a d : FVec Ideal S4096x2048 .bf16) (j : S2048x2048.Idx) :
    val_main_v6 (F := Ideal) a d j = ∑ k : Fin 4096, a (ix2 k (j 0)) * d (ix2 k (j 1)) := by
  refine Eq.trans (b := ∑ k : Fin 4096, d (ix2 k (j 1)) * a (ix2 k (j 0))) ?_ (Finset.sum_congr rfl fun k _ => mul_comm _ _)
  pointwise [val_main_v6, val_main_v5, val_main_v4, val_main_v1, val_main_v0]

theorem point (t : Fin cfg0.N) (y) : k0_pay1 (F := Ideal) (iblk m c 0 t) (iblk m c 1 t) y
    = val_main_v6 (F := Ideal) (argA m c) (argD m c) (((cfg0.win 2).blk t).view.emb y) := by
  rw [ref_apply]
  pointwise [k0_pay1]
  blk_point [iblk, V, idx t]

theorem result : (dats m 0 c).arrAt 2 cfg0.N = val_main_v6 (F := Ideal) (argA m c) (argD m c) := by
  refine (dats m 0 c).arrAt_eq_of_covers 2 _ (by decide +kernel) fun t _ y => ?_
  blk_simp
  rw [after0_2]; frame_out
  exact point m c t y

end Cert.Kernel16Ideal.Result

end
-- ==== Proof.Claims16.lean ====
/-
  The claims of the gradient of its weights.
-/
module

public import proofs.«01_k».proof.Defs
public import proofs.«01_k».proof.Proof.Gen.Reference16Ideal
public import proofs.«01_k».proof.Proof.MixWeight
public import Idealize.ShloMosaic.Lib.Claim
public import Idealize.ShloMosaic.Lib.Quiescent
public import Idealize.ShloMosaic.Adequacy
public import Idealize.ShloMosaic.Init

@[expose] public section

noncomputable section

namespace Cert.Claims16

open Idealize.ShloMosaic Idealize.ShloMosaic.TcCoe Idealize.SL.Sem

theorem reference_frame (m : (ℓ : Loc Cert.Reference16Ideal.nD Cert.Reference16Ideal.τ Cert.Reference16Ideal.sig) → Buf (Elt Ideal) ℓ) (g : Dev Cert.Reference16Ideal.nD → PrngReg) :
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0) :=
  (θ_run Cert.Reference16Ideal.defs _ _).mono (fun r h => ⟨fun c => (h c).2, sem_eq_zero_of_no_sems (by decide) _⟩)
    (Cert.Reference16Ideal.Value.run m g)

theorem equal : Cert.algebraic_Kernel16Ideal_Reference16Ideal := by
  intro m g m' g' hpre hagree
  refine ⟨fun c => Cert.Reference16Ideal.Read.val_main_v6 (F := Ideal) (Cert.Kernel16Ideal.Result.argA m c) (Cert.Kernel16Ideal.Result.argD m c), ?_, ?_⟩
  · refine (θ_run Cert.Kernel16Ideal.defs _ _).mono (fun r h c => ?_) (Cert.Kernel16Ideal.Value.run_blocks m g)
    obtain ⟨h0, ha⟩ := h c
    exact ⟨h0.trans (Cert.Kernel16Ideal.Result.result m c), ha⟩
  · refine (θ_run Cert.Reference16Ideal.defs _ _).mono (fun r h c => ?_) (Cert.Reference16Ideal.Value.run m' g')
    obtain ⟨h0, ha⟩ := h c
    obtain ⟨e0, e1⟩ := hagree c
    have s0 := h0.trans (Cert.Reference16Ideal.Read.val_main_v6_eq _ _)
    rw [e0, e1] at s0
    exact ⟨s0, ha⟩

end Cert.Claims16

end
-- ==== Proof.Adam17.lean ====
/-
  The update of a feed-forward weight: the gradient is the sum of its eight parts, and the rest follows it element by element.
-/
module

public import proofs.«01_k».proof.Proof.Gen.Kernel17Ideal.Value
public import proofs.«01_k».proof.Proof.Gen.Reference17Ideal.Read
public import proofs.«01_k».proof.Proof.Gen.Reference17Ideal.Run
public import Idealize.ShloMosaic.Lib.Pipeline.ValueKit

@[expose] public section

set_option maxRecDepth 16384

noncomputable section

open Idealize.ShloMosaic Idealize.ShloMosaic.TcCoe Idealize.SL.Sem

namespace Cert.Kernel17Ideal.Result

open Cert.Kernel17Ideal Cert.Kernel17Ideal.Gen Cert.Reference17Ideal.Read

variable (m : (ℓ : Loc nD τ sig) → Buf (Elt Ideal) ℓ) (c : Dev nD)

/-- The arguments on one device. -/
abbrev argP : FVec Ideal S8x704x2048 .bf16 := m ((c : Thread nD τ).loc main_arg0)
abbrev argW : FVec Ideal S704x2048 .f32 := m ((c : Thread nD τ).loc main_arg1)
abbrev argM : FVec Ideal S704x2048 .f32 := m ((c : Thread nD τ).loc main_arg2)
abbrev argV : FVec Ideal S704x2048 .f32 := m ((c : Thread nD τ).loc main_arg3)

theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- The reference's sum over the parts, written out. -/
theorem ref_sum (p : FVec Ideal S8x704x2048 .bf16) (j : S704x2048.Idx) : val_main_v1 (F := Ideal) p j
    = p (ix3 0 (j 0) (j 1)) + p (ix3 1 (j 0) (j 1)) + p (ix3 2 (j 0) (j 1)) + p (ix3 3 (j 0) (j 1))
      + p (ix3 4 (j 0) (j 1)) + p (ix3 5 (j 0) (j 1)) + p (ix3 6 (j 0) (j 1)) + p (ix3 7 (j 0) (j 1)) := by
  have e : val_main_v1 (F := Ideal) p j = ∑ k : Fin 8, p (ix3 k (j 0) (j 1)) := by
    pointwise [val_main_v1, val_main_cst, val_main_v0]
  rw [e, Fin.sum_univ_eight]

theorem g_result : (dats m 0 c).arrAt 4 cfg0.N = val_main_v1 (F := Ideal) (argP m c) := by
  refine (dats m 0 c).arrAt_eq_of_covers 4 _ (by decide +kernel) fun t _ y => ?_
  blk_simp
  rw [after0_4]; unfold_out out0_4
  canon_tiles x h
  all_goals (open_payloads; pointwise [k0_pay4]; simp only [ref_sum]; blk_point [iblk, V, idx t])

theorem d_result : (dats m 0 c).arrAt 5 cfg0.N = val_main_v25 (F := Ideal) (argP m c) (argW m c) (argM m c) (argV m c) := by
  refine (dats m 0 c).arrAt_eq_of_covers 5 _ (by decide +kernel) fun t _ y => ?_
  blk_simp
  rw [after0_5]; unfold_out out0_5
  canon_tiles x h
  all_goals (open_payloads; pointwise [k0_pay5, k0_pay4, k0_pay3, k0_pay2, k0_pay1, val_main_v25, val_main_v24, val_main_cst_8, val_main_v23, val_main_v22, val_main_v21, val_main_cst_7, val_main_v20, val_main_v19, val_main_v18, val_main_cst_6, val_main_v17, val_main_v16, val_main_v15, val_main_cst_5, val_main_v14, val_main_v13, val_main_cst_4, val_main_v6, val_main_v5, val_main_v4, val_main_cst_1, val_main_v3, val_main_v2, val_main_cst_0, val_main_v12, val_main_v11, val_main_v10, val_main_cst_3, val_main_v9, val_main_v8, val_main_v7, val_main_cst_2]; simp only [ref_sum]; blk_point [iblk, V, idx t])

theorem mm_result : (dats m 0 c).arrAt 6 cfg0.N = val_main_v6 (F := Ideal) (argP m c) (argM m c) := by
  refine (dats m 0 c).arrAt_eq_of_covers 6 _ (by decide +kernel) fun t _ y => ?_
  blk_simp
  rw [after0_6]; unfold_out out0_6
  canon_tiles x h
  all_goals (open_payloads; pointwise [k0_pay5, k0_pay4, k0_pay1, val_main_v6, val_main_v5, val_main_v4, val_main_cst_1, val_main_v3, val_main_v2, val_main_cst_0]; simp only [ref_sum]; blk_point [iblk, V, idx t])

theorem vv_result : (dats m 0 c).arrAt 7 cfg0.N = val_main_v12 (F := Ideal) (argP m c) (argV m c) := by
  refine (dats m 0 c).arrAt_eq_of_covers 7 _ (by decide +kernel) fun t _ y => ?_
  blk_simp
  rw [after0_7]; unfold_out out0_7
  canon_tiles x h
  all_goals (open_payloads; pointwise [k0_pay5, k0_pay4, k0_pay2, val_main_v12, val_main_v11, val_main_v10, val_main_cst_3, val_main_v9, val_main_v8, val_main_v7, val_main_cst_2]; simp only [ref_sum]; blk_point [iblk, V, idx t])

end Cert.Kernel17Ideal.Result

end
-- ==== Proof.Claims17.lean ====
/-
  The claims of one weight's update.
-/
module

public import proofs.«01_k».proof.Defs
public import proofs.«01_k».proof.Proof.Gen.Reference17Ideal
public import proofs.«01_k».proof.Proof.Adam17
public import Idealize.ShloMosaic.Lib.Claim
public import Idealize.ShloMosaic.Lib.Quiescent
public import Idealize.ShloMosaic.Adequacy
public import Idealize.ShloMosaic.Init

@[expose] public section

noncomputable section

namespace Cert.Claims17

open Idealize.ShloMosaic Idealize.ShloMosaic.TcCoe Idealize.SL.Sem

theorem reference_frame (m : (ℓ : Loc Cert.Reference17Ideal.nD Cert.Reference17Ideal.τ Cert.Reference17Ideal.sig) → Buf (Elt Ideal) ℓ) (g : Dev Cert.Reference17Ideal.nD → PrngReg) :
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0) :=
  (θ_run Cert.Reference17Ideal.defs _ _).mono (fun r h => ⟨fun c => (h c).2.2.2.2, sem_eq_zero_of_no_sems (by decide) _⟩)
    (Cert.Reference17Ideal.Value.run m g)

theorem equal : Cert.algebraic_Kernel17Ideal_Reference17Ideal := by
  intro m g m' g' hpre hagree
  refine ⟨fun c => Cert.Reference17Ideal.Read.val_main_v1 (F := Ideal) (Cert.Kernel17Ideal.Result.argP m c),
    fun c => Cert.Reference17Ideal.Read.val_main_v25 (F := Ideal) (Cert.Kernel17Ideal.Result.argP m c) (Cert.Kernel17Ideal.Result.argW m c) (Cert.Kernel17Ideal.Result.argM m c) (Cert.Kernel17Ideal.Result.argV m c),
    fun c => Cert.Reference17Ideal.Read.val_main_v6 (F := Ideal) (Cert.Kernel17Ideal.Result.argP m c) (Cert.Kernel17Ideal.Result.argM m c),
    fun c => Cert.Reference17Ideal.Read.val_main_v12 (F := Ideal) (Cert.Kernel17Ideal.Result.argP m c) (Cert.Kernel17Ideal.Result.argV m c), ?_, ?_⟩
  · refine (θ_run Cert.Kernel17Ideal.defs _ _).mono (fun r h c => ?_) (Cert.Kernel17Ideal.Value.run_blocks m g)
    obtain ⟨h0, h1, h2, h3, ha⟩ := h c
    exact ⟨h0.trans (Cert.Kernel17Ideal.Result.g_result m c), h1.trans (Cert.Kernel17Ideal.Result.d_result m c), h2.trans (Cert.Kernel17Ideal.Result.mm_result m c), h3.trans (Cert.Kernel17Ideal.Result.vv_result m c), ha⟩
  · refine (θ_run Cert.Reference17Ideal.defs _ _).mono (fun r h c => ?_) (Cert.Reference17Ideal.Value.run m' g')
    obtain ⟨h0, h1, h2, h3, ha⟩ := h c
    obtain ⟨e0, e1, e2, e3⟩ := hagree c
    have s0 := h0.trans (Cert.Reference17Ideal.Read.val_main_v1_eq _)
    have s1 := h1.trans (Cert.Reference17Ideal.Read.val_main_v25_eq _ _ _ _)
    have s2 := h2.trans (Cert.Reference17Ideal.Read.val_main_v6_eq _ _)
    have s3 := h3.trans (Cert.Reference17Ideal.Read.val_main_v12_eq _ _)
    rw [e0] at s0
    rw [e0, e1, e2, e3] at s1
    rw [e0, e2] at s2
    rw [e0, e3] at s3
    exact ⟨s0, s1, s2, s3, ha⟩

end Cert.Claims17

end
-- ==== Proof.Adam18.lean ====
/-
  The update of the projection into the attention's inputs: the gradient is the sum of its eight parts, and the rest follows it element by element.
-/
module

public import proofs.«01_k».proof.Proof.Gen.Kernel18Ideal.Value
public import proofs.«01_k».proof.Proof.Gen.Reference18Ideal.Read
public import proofs.«01_k».proof.Proof.Gen.Reference18Ideal.Run
public import Idealize.ShloMosaic.Lib.Pipeline.ValueKit

@[expose] public section

set_option maxRecDepth 16384

noncomputable section

open Idealize.ShloMosaic Idealize.ShloMosaic.TcCoe Idealize.SL.Sem

namespace Cert.Kernel18Ideal.Result

open Cert.Kernel18Ideal Cert.Kernel18Ideal.Gen Cert.Reference18Ideal.Read

variable (m : (ℓ : Loc nD τ sig) → Buf (Elt Ideal) ℓ) (c : Dev nD)

/-- The arguments on one device. -/
abbrev argP : FVec Ideal S8x2048x512 .bf16 := m ((c : Thread nD τ).loc main_arg0)
abbrev argW : FVec Ideal S2048x512 .f32 := m ((c : Thread nD τ).loc main_arg1)
abbrev argM : FVec Ideal S2048x512 .f32 := m ((c : Thread nD τ).loc main_arg2)
abbrev argV : FVec Ideal S2048x512 .f32 := m ((c : Thread nD τ).loc main_arg3)

theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- The reference's sum over the parts, written out. -/
theorem ref_sum (p : FVec Ideal S8x2048x512 .bf16) (j : S2048x512.Idx) : val_main_v1 (F := Ideal) p j
    = p (ix3 0 (j 0) (j 1)) + p (ix3 1 (j 0) (j 1)) + p (ix3 2 (j 0) (j 1)) + p (ix3 3 (j 0) (j 1))
      + p (ix3 4 (j 0) (j 1)) + p (ix3 5 (j 0) (j 1)) + p (ix3 6 (j 0) (j 1)) + p (ix3 7 (j 0) (j 1)) := by
  have e : val_main_v1 (F := Ideal) p j = ∑ k : Fin 8, p (ix3 k (j 0) (j 1)) := by
    pointwise [val_main_v1, val_main_cst, val_main_v0]
  rw [e, Fin.sum_univ_eight]

theorem g_result : (dats m 0 c).arrAt 4 cfg0.N = val_main_v1 (F := Ideal) (argP m c) := by
  refine (dats m 0 c).arrAt_eq_of_covers 4 _ (by decide +kernel) fun t _ y => ?_
  blk_simp
  rw [after0_4]; unfold_out out0_4
  canon_tiles x h
  all_goals (open_payloads; pointwise [k0_pay4]; simp only [ref_sum]; blk_point [iblk, V, idx t])

theorem d_result : (dats m 0 c).arrAt 5 cfg0.N = val_main_v25 (F := Ideal) (argP m c) (argW m c) (argM m c) (argV m c) := by
  refine (dats m 0 c).arrAt_eq_of_covers 5 _ (by decide +kernel) fun t _ y => ?_
  blk_simp
  rw [after0_5]; unfold_out out0_5
  canon_tiles x h
  all_goals (open_payloads; pointwise [k0_pay5, k0_pay4, k0_pay3, k0_pay2, k0_pay1, val_main_v25, val_main_v24, val_main_cst_8, val_main_v23, val_main_v22, val_main_v21, val_main_cst_7, val_main_v20, val_main_v19, val_main_v18, val_main_cst_6, val_main_v17, val_main_v16, val_main_v15, val_main_cst_5, val_main_v14, val_main_v13, val_main_cst_4, val_main_v6, val_main_v5, val_main_v4, val_main_cst_1, val_main_v3, val_main_v2, val_main_cst_0, val_main_v12, val_main_v11, val_main_v10, val_main_cst_3, val_main_v9, val_main_v8, val_main_v7, val_main_cst_2]; simp only [ref_sum]; blk_point [iblk, V, idx t])

theorem mm_result : (dats m 0 c).arrAt 6 cfg0.N = val_main_v6 (F := Ideal) (argP m c) (argM m c) := by
  refine (dats m 0 c).arrAt_eq_of_covers 6 _ (by decide +kernel) fun t _ y => ?_
  blk_simp
  rw [after0_6]; unfold_out out0_6
  canon_tiles x h
  all_goals (open_payloads; pointwise [k0_pay5, k0_pay4, k0_pay1, val_main_v6, val_main_v5, val_main_v4, val_main_cst_1, val_main_v3, val_main_v2, val_main_cst_0]; simp only [ref_sum]; blk_point [iblk, V, idx t])

theorem vv_result : (dats m 0 c).arrAt 7 cfg0.N = val_main_v12 (F := Ideal) (argP m c) (argV m c) := by
  refine (dats m 0 c).arrAt_eq_of_covers 7 _ (by decide +kernel) fun t _ y => ?_
  blk_simp
  rw [after0_7]; unfold_out out0_7
  canon_tiles x h
  all_goals (open_payloads; pointwise [k0_pay5, k0_pay4, k0_pay2, val_main_v12, val_main_v11, val_main_v10, val_main_cst_3, val_main_v9, val_main_v8, val_main_v7, val_main_cst_2]; simp only [ref_sum]; blk_point [iblk, V, idx t])

end Cert.Kernel18Ideal.Result

end
-- ==== Proof.Claims18.lean ====
/-
  The claims of one weight's update.
-/
module

public import proofs.«01_k».proof.Defs
public import proofs.«01_k».proof.Proof.Gen.Reference18Ideal
public import proofs.«01_k».proof.Proof.Adam18
public import Idealize.ShloMosaic.Lib.Claim
public import Idealize.ShloMosaic.Lib.Quiescent
public import Idealize.ShloMosaic.Adequacy
public import Idealize.ShloMosaic.Init

@[expose] public section

noncomputable section

namespace Cert.Claims18

open Idealize.ShloMosaic Idealize.ShloMosaic.TcCoe Idealize.SL.Sem

theorem reference_frame (m : (ℓ : Loc Cert.Reference18Ideal.nD Cert.Reference18Ideal.τ Cert.Reference18Ideal.sig) → Buf (Elt Ideal) ℓ) (g : Dev Cert.Reference18Ideal.nD → PrngReg) :
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0) :=
  (θ_run Cert.Reference18Ideal.defs _ _).mono (fun r h => ⟨fun c => (h c).2.2.2.2, sem_eq_zero_of_no_sems (by decide) _⟩)
    (Cert.Reference18Ideal.Value.run m g)

theorem equal : Cert.algebraic_Kernel18Ideal_Reference18Ideal := by
  intro m g m' g' hpre hagree
  refine ⟨fun c => Cert.Reference18Ideal.Read.val_main_v1 (F := Ideal) (Cert.Kernel18Ideal.Result.argP m c),
    fun c => Cert.Reference18Ideal.Read.val_main_v25 (F := Ideal) (Cert.Kernel18Ideal.Result.argP m c) (Cert.Kernel18Ideal.Result.argW m c) (Cert.Kernel18Ideal.Result.argM m c) (Cert.Kernel18Ideal.Result.argV m c),
    fun c => Cert.Reference18Ideal.Read.val_main_v6 (F := Ideal) (Cert.Kernel18Ideal.Result.argP m c) (Cert.Kernel18Ideal.Result.argM m c),
    fun c => Cert.Reference18Ideal.Read.val_main_v12 (F := Ideal) (Cert.Kernel18Ideal.Result.argP m c) (Cert.Kernel18Ideal.Result.argV m c), ?_, ?_⟩
  · refine (θ_run Cert.Kernel18Ideal.defs _ _).mono (fun r h c => ?_) (Cert.Kernel18Ideal.Value.run_blocks m g)
    obtain ⟨h0, h1, h2, h3, ha⟩ := h c
    exact ⟨h0.trans (Cert.Kernel18Ideal.Result.g_result m c), h1.trans (Cert.Kernel18Ideal.Result.d_result m c), h2.trans (Cert.Kernel18Ideal.Result.mm_result m c), h3.trans (Cert.Kernel18Ideal.Result.vv_result m c), ha⟩
  · refine (θ_run Cert.Reference18Ideal.defs _ _).mono (fun r h c => ?_) (Cert.Reference18Ideal.Value.run m' g')
    obtain ⟨h0, h1, h2, h3, ha⟩ := h c
    obtain ⟨e0, e1, e2, e3⟩ := hagree c
    have s0 := h0.trans (Cert.Reference18Ideal.Read.val_main_v1_eq _)
    have s1 := h1.trans (Cert.Reference18Ideal.Read.val_main_v25_eq _ _ _ _)
    have s2 := h2.trans (Cert.Reference18Ideal.Read.val_main_v6_eq _ _)
    have s3 := h3.trans (Cert.Reference18Ideal.Read.val_main_v12_eq _ _)
    rw [e0] at s0
    rw [e0, e1, e2, e3] at s1
    rw [e0, e2] at s2
    rw [e0, e3] at s3
    exact ⟨s0, s1, s2, s3, ha⟩

end Cert.Claims18

end
-- ==== Proof.Adam19.lean ====
/-
  The update of the pooling weight: the gradient is the sum of its eight parts, and the rest follows it element by element.
-/
module

public import proofs.«01_k».proof.Proof.Gen.Kernel19Ideal.Value
public import proofs.«01_k».proof.Proof.Gen.Reference19Ideal.Read
public import proofs.«01_k».proof.Proof.Gen.Reference19Ideal.Run
public import Idealize.ShloMosaic.Lib.Pipeline.ValueKit

@[expose] public section

set_option maxRecDepth 16384

noncomputable section

open Idealize.ShloMosaic Idealize.ShloMosaic.TcCoe Idealize.SL.Sem

namespace Cert.Kernel19Ideal.Result

open Cert.Kernel19Ideal Cert.Kernel19Ideal.Gen Cert.Reference19Ideal.Read

variable (m : (ℓ : Loc nD τ sig) → Buf (Elt Ideal) ℓ) (c : Dev nD)

/-- The arguments on one device. -/
abbrev argP : FVec Ideal S8x128x256 .bf16 := m ((c : Thread nD τ).loc main_arg0)
abbrev argW : FVec Ideal S128x256 .f32 := m ((c : Thread nD τ).loc main_arg1)
abbrev argM : FVec Ideal S128x256 .f32 := m ((c : Thread nD τ).loc main_arg2)
abbrev argV : FVec Ideal S128x256 .f32 := m ((c : Thread nD τ).loc main_arg3)

theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- The reference's sum over the parts, written out. -/
theorem ref_sum (p : FVec Ideal S8x128x256 .bf16) (j : S128x256.Idx) : val_main_v1 (F := Ideal) p j
    = p (ix3 0 (j 0) (j 1)) + p (ix3 1 (j 0) (j 1)) + p (ix3 2 (j 0) (j 1)) + p (ix3 3 (j 0) (j 1))
      + p (ix3 4 (j 0) (j 1)) + p (ix3 5 (j 0) (j 1)) + p (ix3 6 (j 0) (j 1)) + p (ix3 7 (j 0) (j 1)) := by
  have e : val_main_v1 (F := Ideal) p j = ∑ k : Fin 8, p (ix3 k (j 0) (j 1)) := by
    pointwise [val_main_v1, val_main_cst, val_main_v0]
  rw [e, Fin.sum_univ_eight]

theorem g_result : (dats m 0 c).arrAt 4 cfg0.N = val_main_v1 (F := Ideal) (argP m c) := by
  refine (dats m 0 c).arrAt_eq_of_covers 4 _ (by decide +kernel) fun t _ y => ?_
  blk_simp
  rw [after0_4]; unfold_out out0_4
  canon_tiles x h
  all_goals (open_payloads; pointwise [k0_pay4]; simp only [ref_sum]; blk_point [iblk, V, idx t])

theorem d_result : (dats m 0 c).arrAt 5 cfg0.N = val_main_v25 (F := Ideal) (argP m c) (argW m c) (argM m c) (argV m c) := by
  refine (dats m 0 c).arrAt_eq_of_covers 5 _ (by decide +kernel) fun t _ y => ?_
  blk_simp
  rw [after0_5]; unfold_out out0_5
  canon_tiles x h
  all_goals (open_payloads; pointwise [k0_pay5, k0_pay4, k0_pay3, k0_pay2, k0_pay1, val_main_v25, val_main_v24, val_main_cst_8, val_main_v23, val_main_v22, val_main_v21, val_main_cst_7, val_main_v20, val_main_v19, val_main_v18, val_main_cst_6, val_main_v17, val_main_v16, val_main_v15, val_main_cst_5, val_main_v14, val_main_v13, val_main_cst_4, val_main_v6, val_main_v5, val_main_v4, val_main_cst_1, val_main_v3, val_main_v2, val_main_cst_0, val_main_v12, val_main_v11, val_main_v10, val_main_cst_3, val_main_v9, val_main_v8, val_main_v7, val_main_cst_2]; simp only [ref_sum]; blk_point [iblk, V, idx t])

theorem mm_result : (dats m 0 c).arrAt 6 cfg0.N = val_main_v6 (F := Ideal) (argP m c) (argM m c) := by
  refine (dats m 0 c).arrAt_eq_of_covers 6 _ (by decide +kernel) fun t _ y => ?_
  blk_simp
  rw [after0_6]; unfold_out out0_6
  canon_tiles x h
  all_goals (open_payloads; pointwise [k0_pay5, k0_pay4, k0_pay1, val_main_v6, val_main_v5, val_main_v4, val_main_cst_1, val_main_v3, val_main_v2, val_main_cst_0]; simp only [ref_sum]; blk_point [iblk, V, idx t])

theorem vv_result : (dats m 0 c).arrAt 7 cfg0.N = val_main_v12 (F := Ideal) (argP m c) (argV m c) := by
  refine (dats m 0 c).arrAt_eq_of_covers 7 _ (by decide +kernel) fun t _ y => ?_
  blk_simp
  rw [after0_7]; unfold_out out0_7
  canon_tiles x h
  all_goals (open_payloads; pointwise [k0_pay5, k0_pay4, k0_pay2, val_main_v12, val_main_v11, val_main_v10, val_main_cst_3, val_main_v9, val_main_v8, val_main_v7, val_main_cst_2]; simp only [ref_sum]; blk_point [iblk, V, idx t])

end Cert.Kernel19Ideal.Result

end
-- ==== Proof.Claims19.lean ====
/-
  The claims of one weight's update.
-/
module

public import proofs.«01_k».proof.Defs
public import proofs.«01_k».proof.Proof.Gen.Reference19Ideal
public import proofs.«01_k».proof.Proof.Adam19
public import Idealize.ShloMosaic.Lib.Claim
public import Idealize.ShloMosaic.Lib.Quiescent
public import Idealize.ShloMosaic.Adequacy
public import Idealize.ShloMosaic.Init

@[expose] public section

noncomputable section

namespace Cert.Claims19

open Idealize.ShloMosaic Idealize.ShloMosaic.TcCoe Idealize.SL.Sem

theorem reference_frame (m : (ℓ : Loc Cert.Reference19Ideal.nD Cert.Reference19Ideal.τ Cert.Reference19Ideal.sig) → Buf (Elt Ideal) ℓ) (g : Dev Cert.Reference19Ideal.nD → PrngReg) :
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0) :=
  (θ_run Cert.Reference19Ideal.defs _ _).mono (fun r h => ⟨fun c => (h c).2.2.2.2, sem_eq_zero_of_no_sems (by decide) _⟩)
    (Cert.Reference19Ideal.Value.run m g)

theorem equal : Cert.algebraic_Kernel19Ideal_Reference19Ideal := by
  intro m g m' g' hpre hagree
  refine ⟨fun c => Cert.Reference19Ideal.Read.val_main_v1 (F := Ideal) (Cert.Kernel19Ideal.Result.argP m c),
    fun c => Cert.Reference19Ideal.Read.val_main_v25 (F := Ideal) (Cert.Kernel19Ideal.Result.argP m c) (Cert.Kernel19Ideal.Result.argW m c) (Cert.Kernel19Ideal.Result.argM m c) (Cert.Kernel19Ideal.Result.argV m c),
    fun c => Cert.Reference19Ideal.Read.val_main_v6 (F := Ideal) (Cert.Kernel19Ideal.Result.argP m c) (Cert.Kernel19Ideal.Result.argM m c),
    fun c => Cert.Reference19Ideal.Read.val_main_v12 (F := Ideal) (Cert.Kernel19Ideal.Result.argP m c) (Cert.Kernel19Ideal.Result.argV m c), ?_, ?_⟩
  · refine (θ_run Cert.Kernel19Ideal.defs _ _).mono (fun r h c => ?_) (Cert.Kernel19Ideal.Value.run_blocks m g)
    obtain ⟨h0, h1, h2, h3, ha⟩ := h c
    exact ⟨h0.trans (Cert.Kernel19Ideal.Result.g_result m c), h1.trans (Cert.Kernel19Ideal.Result.d_result m c), h2.trans (Cert.Kernel19Ideal.Result.mm_result m c), h3.trans (Cert.Kernel19Ideal.Result.vv_result m c), ha⟩
  · refine (θ_run Cert.Reference19Ideal.defs _ _).mono (fun r h c => ?_) (Cert.Reference19Ideal.Value.run m' g')
    obtain ⟨h0, h1, h2, h3, ha⟩ := h c
    obtain ⟨e0, e1, e2, e3⟩ := hagree c
    have s0 := h0.trans (Cert.Reference19Ideal.Read.val_main_v1_eq _)
    have s1 := h1.trans (Cert.Reference19Ideal.Read.val_main_v25_eq _ _ _ _)
    have s2 := h2.trans (Cert.Reference19Ideal.Read.val_main_v6_eq _ _)
    have s3 := h3.trans (Cert.Reference19Ideal.Read.val_main_v12_eq _ _)
    rw [e0] at s0
    rw [e0, e1, e2, e3] at s1
    rw [e0, e2] at s2
    rw [e0, e3] at s3
    exact ⟨s0, s1, s2, s3, ha⟩

end Cert.Claims19

end
-- ==== Proof.Adam20.lean ====
/-
  The update of the projection of the attention's output: the gradient is the sum of its eight parts, and the rest follows it element by element.
-/
module

public import proofs.«01_k».proof.Proof.Gen.Kernel20Ideal.Value
public import proofs.«01_k».proof.Proof.Gen.Reference20Ideal.Read
public import proofs.«01_k».proof.Proof.Gen.Reference20Ideal.Run
public import Idealize.ShloMosaic.Lib.Pipeline.ValueKit

@[expose] public section

set_option maxRecDepth 16384

noncomputable section

open Idealize.ShloMosaic Idealize.ShloMosaic.TcCoe Idealize.SL.Sem

namespace Cert.Kernel20Ideal.Result

open Cert.Kernel20Ideal Cert.Kernel20Ideal.Gen Cert.Reference20Ideal.Read

variable (m : (ℓ : Loc nD τ sig) → Buf (Elt Ideal) ℓ) (c : Dev nD)

/-- The arguments on one device. -/
abbrev argP : FVec Ideal S8x256x2048 .bf16 := m ((c : Thread nD τ).loc main_arg0)
abbrev argW : FVec Ideal S256x2048 .f32 := m ((c : Thread nD τ).loc main_arg1)
abbrev argM : FVec Ideal S256x2048 .f32 := m ((c : Thread nD τ).loc main_arg2)
abbrev argV : FVec Ideal S256x2048 .f32 := m ((c : Thread nD τ).loc main_arg3)

theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- The reference's sum over the parts, written out. -/
theorem ref_sum (p : FVec Ideal S8x256x2048 .bf16) (j : S256x2048.Idx) : val_main_v1 (F := Ideal) p j
    = p (ix3 0 (j 0) (j 1)) + p (ix3 1 (j 0) (j 1)) + p (ix3 2 (j 0) (j 1)) + p (ix3 3 (j 0) (j 1))
      + p (ix3 4 (j 0) (j 1)) + p (ix3 5 (j 0) (j 1)) + p (ix3 6 (j 0) (j 1)) + p (ix3 7 (j 0) (j 1)) := by
  have e : val_main_v1 (F := Ideal) p j = ∑ k : Fin 8, p (ix3 k (j 0) (j 1)) := by
    pointwise [val_main_v1, val_main_cst, val_main_v0]
  rw [e, Fin.sum_univ_eight]

theorem g_result : (dats m 0 c).arrAt 4 cfg0.N = val_main_v1 (F := Ideal) (argP m c) := by
  refine (dats m 0 c).arrAt_eq_of_covers 4 _ (by decide +kernel) fun t _ y => ?_
  blk_simp
  rw [after0_4]; unfold_out out0_4
  canon_tiles x h
  all_goals (open_payloads; pointwise [k0_pay4]; simp only [ref_sum]; blk_point [iblk, V, idx t])

theorem d_result : (dats m 0 c).arrAt 5 cfg0.N = val_main_v25 (F := Ideal) (argP m c) (argW m c) (argM m c) (argV m c) := by
  refine (dats m 0 c).arrAt_eq_of_covers 5 _ (by decide +kernel) fun t _ y => ?_
  blk_simp
  rw [after0_5]; unfold_out out0_5
  canon_tiles x h
  all_goals (open_payloads; pointwise [k0_pay5, k0_pay4, k0_pay3, k0_pay2, k0_pay1, val_main_v25, val_main_v24, val_main_cst_8, val_main_v23, val_main_v22, val_main_v21, val_main_cst_7, val_main_v20, val_main_v19, val_main_v18, val_main_cst_6, val_main_v17, val_main_v16, val_main_v15, val_main_cst_5, val_main_v14, val_main_v13, val_main_cst_4, val_main_v6, val_main_v5, val_main_v4, val_main_cst_1, val_main_v3, val_main_v2, val_main_cst_0, val_main_v12, val_main_v11, val_main_v10, val_main_cst_3, val_main_v9, val_main_v8, val_main_v7, val_main_cst_2]; simp only [ref_sum]; blk_point [iblk, V, idx t])

theorem mm_result : (dats m 0 c).arrAt 6 cfg0.N = val_main_v6 (F := Ideal) (argP m c) (argM m c) := by
  refine (dats m 0 c).arrAt_eq_of_covers 6 _ (by decide +kernel) fun t _ y => ?_
  blk_simp
  rw [after0_6]; unfold_out out0_6
  canon_tiles x h
  all_goals (open_payloads; pointwise [k0_pay5, k0_pay4, k0_pay1, val_main_v6, val_main_v5, val_main_v4, val_main_cst_1, val_main_v3, val_main_v2, val_main_cst_0]; simp only [ref_sum]; blk_point [iblk, V, idx t])

theorem vv_result : (dats m 0 c).arrAt 7 cfg0.N = val_main_v12 (F := Ideal) (argP m c) (argV m c) := by
  refine (dats m 0 c).arrAt_eq_of_covers 7 _ (by decide +kernel) fun t _ y => ?_
  blk_simp
  rw [after0_7]; unfold_out out0_7
  canon_tiles x h
  all_goals (open_payloads; pointwise [k0_pay5, k0_pay4, k0_pay2, val_main_v12, val_main_v11, val_main_v10, val_main_cst_3, val_main_v9, val_main_v8, val_main_v7, val_main_cst_2]; simp only [ref_sum]; blk_point [iblk, V, idx t])

end Cert.Kernel20Ideal.Result

end
-- ==== Proof.Claims20.lean ====
/-
  The claims of one weight's update.
-/
module

public import proofs.«01_k».proof.Defs
public import proofs.«01_k».proof.Proof.Gen.Reference20Ideal
public import proofs.«01_k».proof.Proof.Adam20
public import Idealize.ShloMosaic.Lib.Claim
public import Idealize.ShloMosaic.Lib.Quiescent
public import Idealize.ShloMosaic.Adequacy
public import Idealize.ShloMosaic.Init

@[expose] public section

noncomputable section

namespace Cert.Claims20

open Idealize.ShloMosaic Idealize.ShloMosaic.TcCoe Idealize.SL.Sem

theorem reference_frame (m : (ℓ : Loc Cert.Reference20Ideal.nD Cert.Reference20Ideal.τ Cert.Reference20Ideal.sig) → Buf (Elt Ideal) ℓ) (g : Dev Cert.Reference20Ideal.nD → PrngReg) :
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0) :=
  (θ_run Cert.Reference20Ideal.defs _ _).mono (fun r h => ⟨fun c => (h c).2.2.2.2, sem_eq_zero_of_no_sems (by decide) _⟩)
    (Cert.Reference20Ideal.Value.run m g)

theorem equal : Cert.algebraic_Kernel20Ideal_Reference20Ideal := by
  intro m g m' g' hpre hagree
  refine ⟨fun c => Cert.Reference20Ideal.Read.val_main_v1 (F := Ideal) (Cert.Kernel20Ideal.Result.argP m c),
    fun c => Cert.Reference20Ideal.Read.val_main_v25 (F := Ideal) (Cert.Kernel20Ideal.Result.argP m c) (Cert.Kernel20Ideal.Result.argW m c) (Cert.Kernel20Ideal.Result.argM m c) (Cert.Kernel20Ideal.Result.argV m c),
    fun c => Cert.Reference20Ideal.Read.val_main_v6 (F := Ideal) (Cert.Kernel20Ideal.Result.argP m c) (Cert.Kernel20Ideal.Result.argM m c),
    fun c => Cert.Reference20Ideal.Read.val_main_v12 (F := Ideal) (Cert.Kernel20Ideal.Result.argP m c) (Cert.Kernel20Ideal.Result.argV m c), ?_, ?_⟩
  · refine (θ_run Cert.Kernel20Ideal.defs _ _).mono (fun r h c => ?_) (Cert.Kernel20Ideal.Value.run_blocks m g)
    obtain ⟨h0, h1, h2, h3, ha⟩ := h c
    exact ⟨h0.trans (Cert.Kernel20Ideal.Result.g_result m c), h1.trans (Cert.Kernel20Ideal.Result.d_result m c), h2.trans (Cert.Kernel20Ideal.Result.mm_result m c), h3.trans (Cert.Kernel20Ideal.Result.vv_result m c), ha⟩
  · refine (θ_run Cert.Reference20Ideal.defs _ _).mono (fun r h c => ?_) (Cert.Reference20Ideal.Value.run m' g')
    obtain ⟨h0, h1, h2, h3, ha⟩ := h c
    obtain ⟨e0, e1, e2, e3⟩ := hagree c
    have s0 := h0.trans (Cert.Reference20Ideal.Read.val_main_v1_eq _)
    have s1 := h1.trans (Cert.Reference20Ideal.Read.val_main_v25_eq _ _ _ _)
    have s2 := h2.trans (Cert.Reference20Ideal.Read.val_main_v6_eq _ _)
    have s3 := h3.trans (Cert.Reference20Ideal.Read.val_main_v12_eq _ _)
    rw [e0] at s0
    rw [e0, e1, e2, e3] at s1
    rw [e0, e2] at s2
    rw [e0, e3] at s3
    exact ⟨s0, s1, s2, s3, ha⟩

end Cert.Claims20

end
-- ==== Proof.Adam21.lean ====
/-
  The update of the cross attention's queries: the gradient is the sum of its eight parts, and the rest follows it element by element.
-/
module

public import proofs.«01_k».proof.Proof.Gen.Kernel21Ideal.Value
public import proofs.«01_k».proof.Proof.Gen.Reference21Ideal.Read
public import proofs.«01_k».proof.Proof.Gen.Reference21Ideal.Run
public import Idealize.ShloMosaic.Lib.Pipeline.ValueKit

@[expose] public section

set_option maxRecDepth 16384

noncomputable section

open Idealize.ShloMosaic Idealize.ShloMosaic.TcCoe Idealize.SL.Sem

namespace Cert.Kernel21Ideal.Result

open Cert.Kernel21Ideal Cert.Kernel21Ideal.Gen Cert.Reference21Ideal.Read

variable (m : (ℓ : Loc nD τ sig) → Buf (Elt Ideal) ℓ) (c : Dev nD)

/-- The arguments on one device. -/
abbrev argP : FVec Ideal S8x256x512 .bf16 := m ((c : Thread nD τ).loc main_arg0)
abbrev argW : FVec Ideal S256x512 .f32 := m ((c : Thread nD τ).loc main_arg1)
abbrev argM : FVec Ideal S256x512 .f32 := m ((c : Thread nD τ).loc main_arg2)
abbrev argV : FVec Ideal S256x512 .f32 := m ((c : Thread nD τ).loc main_arg3)

theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- The reference's sum over the parts, written out. -/
theorem ref_sum (p : FVec Ideal S8x256x512 .bf16) (j : S256x512.Idx) : val_main_v1 (F := Ideal) p j
    = p (ix3 0 (j 0) (j 1)) + p (ix3 1 (j 0) (j 1)) + p (ix3 2 (j 0) (j 1)) + p (ix3 3 (j 0) (j 1))
      + p (ix3 4 (j 0) (j 1)) + p (ix3 5 (j 0) (j 1)) + p (ix3 6 (j 0) (j 1)) + p (ix3 7 (j 0) (j 1)) := by
  have e : val_main_v1 (F := Ideal) p j = ∑ k : Fin 8, p (ix3 k (j 0) (j 1)) := by
    pointwise [val_main_v1, val_main_cst, val_main_v0]
  rw [e, Fin.sum_univ_eight]

theorem g_result : (dats m 0 c).arrAt 4 cfg0.N = val_main_v1 (F := Ideal) (argP m c) := by
  refine (dats m 0 c).arrAt_eq_of_covers 4 _ (by decide +kernel) fun t _ y => ?_
  blk_simp
  rw [after0_4]; unfold_out out0_4
  canon_tiles x h
  all_goals (open_payloads; pointwise [k0_pay4]; simp only [ref_sum]; blk_point [iblk, V, idx t])

theorem d_result : (dats m 0 c).arrAt 5 cfg0.N = val_main_v25 (F := Ideal) (argP m c) (argW m c) (argM m c) (argV m c) := by
  refine (dats m 0 c).arrAt_eq_of_covers 5 _ (by decide +kernel) fun t _ y => ?_
  blk_simp
  rw [after0_5]; unfold_out out0_5
  canon_tiles x h
  all_goals (open_payloads; pointwise [k0_pay5, k0_pay4, k0_pay3, k0_pay2, k0_pay1, val_main_v25, val_main_v24, val_main_cst_8, val_main_v23, val_main_v22, val_main_v21, val_main_cst_7, val_main_v20, val_main_v19, val_main_v18, val_main_cst_6, val_main_v17, val_main_v16, val_main_v15, val_main_cst_5, val_main_v14, val_main_v13, val_main_cst_4, val_main_v6, val_main_v5, val_main_v4, val_main_cst_1, val_main_v3, val_main_v2, val_main_cst_0, val_main_v12, val_main_v11, val_main_v10, val_main_cst_3, val_main_v9, val_main_v8, val_main_v7, val_main_cst_2]; simp only [ref_sum]; blk_point [iblk, V, idx t])

theorem mm_result : (dats m 0 c).arrAt 6 cfg0.N = val_main_v6 (F := Ideal) (argP m c) (argM m c) := by
  refine (dats m 0 c).arrAt_eq_of_covers 6 _ (by decide +kernel) fun t _ y => ?_
  blk_simp
  rw [after0_6]; unfold_out out0_6
  canon_tiles x h
  all_goals (open_payloads; pointwise [k0_pay5, k0_pay4, k0_pay1, val_main_v6, val_main_v5, val_main_v4, val_main_cst_1, val_main_v3, val_main_v2, val_main_cst_0]; simp only [ref_sum]; blk_point [iblk, V, idx t])

theorem vv_result : (dats m 0 c).arrAt 7 cfg0.N = val_main_v12 (F := Ideal) (argP m c) (argV m c) := by
  refine (dats m 0 c).arrAt_eq_of_covers 7 _ (by decide +kernel) fun t _ y => ?_
  blk_simp
  rw [after0_7]; unfold_out out0_7
  canon_tiles x h
  all_goals (open_payloads; pointwise [k0_pay5, k0_pay4, k0_pay2, val_main_v12, val_main_v11, val_main_v10, val_main_cst_3, val_main_v9, val_main_v8, val_main_v7, val_main_cst_2]; simp only [ref_sum]; blk_point [iblk, V, idx t])

end Cert.Kernel21Ideal.Result

end
-- ==== Proof.Claims21.lean ====
/-
  The claims of one weight's update.
-/
module

public import proofs.«01_k».proof.Defs
public import proofs.«01_k».proof.Proof.Gen.Reference21Ideal
public import proofs.«01_k».proof.Proof.Adam21
public import Idealize.ShloMosaic.Lib.Claim
public import Idealize.ShloMosaic.Lib.Quiescent
public import Idealize.ShloMosaic.Adequacy
public import Idealize.ShloMosaic.Init

@[expose] public section

noncomputable section

namespace Cert.Claims21

open Idealize.ShloMosaic Idealize.ShloMosaic.TcCoe Idealize.SL.Sem

theorem reference_frame (m : (ℓ : Loc Cert.Reference21Ideal.nD Cert.Reference21Ideal.τ Cert.Reference21Ideal.sig) → Buf (Elt Ideal) ℓ) (g : Dev Cert.Reference21Ideal.nD → PrngReg) :
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0) :=
  (θ_run Cert.Reference21Ideal.defs _ _).mono (fun r h => ⟨fun c => (h c).2.2.2.2, sem_eq_zero_of_no_sems (by decide) _⟩)
    (Cert.Reference21Ideal.Value.run m g)

theorem equal : Cert.algebraic_Kernel21Ideal_Reference21Ideal := by
  intro m g m' g' hpre hagree
  refine ⟨fun c => Cert.Reference21Ideal.Read.val_main_v1 (F := Ideal) (Cert.Kernel21Ideal.Result.argP m c),
    fun c => Cert.Reference21Ideal.Read.val_main_v25 (F := Ideal) (Cert.Kernel21Ideal.Result.argP m c) (Cert.Kernel21Ideal.Result.argW m c) (Cert.Kernel21Ideal.Result.argM m c) (Cert.Kernel21Ideal.Result.argV m c),
    fun c => Cert.Reference21Ideal.Read.val_main_v6 (F := Ideal) (Cert.Kernel21Ideal.Result.argP m c) (Cert.Kernel21Ideal.Result.argM m c),
    fun c => Cert.Reference21Ideal.Read.val_main_v12 (F := Ideal) (Cert.Kernel21Ideal.Result.argP m c) (Cert.Kernel21Ideal.Result.argV m c), ?_, ?_⟩
  · refine (θ_run Cert.Kernel21Ideal.defs _ _).mono (fun r h c => ?_) (Cert.Kernel21Ideal.Value.run_blocks m g)
    obtain ⟨h0, h1, h2, h3, ha⟩ := h c
    exact ⟨h0.trans (Cert.Kernel21Ideal.Result.g_result m c), h1.trans (Cert.Kernel21Ideal.Result.d_result m c), h2.trans (Cert.Kernel21Ideal.Result.mm_result m c), h3.trans (Cert.Kernel21Ideal.Result.vv_result m c), ha⟩
  · refine (θ_run Cert.Reference21Ideal.defs _ _).mono (fun r h c => ?_) (Cert.Reference21Ideal.Value.run m' g')
    obtain ⟨h0, h1, h2, h3, ha⟩ := h c
    obtain ⟨e0, e1, e2, e3⟩ := hagree c
    have s0 := h0.trans (Cert.Reference21Ideal.Read.val_main_v1_eq _)
    have s1 := h1.trans (Cert.Reference21Ideal.Read.val_main_v25_eq _ _ _ _)
    have s2 := h2.trans (Cert.Reference21Ideal.Read.val_main_v6_eq _ _)
    have s3 := h3.trans (Cert.Reference21Ideal.Read.val_main_v12_eq _ _)
    rw [e0] at s0
    rw [e0, e1, e2, e3] at s1
    rw [e0, e2] at s2
    rw [e0, e3] at s3
    exact ⟨s0, s1, s2, s3, ha⟩

end Cert.Claims21

end
-- ==== Proof.Adam22.lean ====
/-
  The update of the cross attention's keys and values: the gradient is the sum of its eight parts, and the rest follows it element by element.
-/
module

public import proofs.«01_k».proof.Proof.Gen.Kernel22Ideal.Value
public import proofs.«01_k».proof.Proof.Gen.Reference22Ideal.Read
public import proofs.«01_k».proof.Proof.Gen.Reference22Ideal.Run
public import Idealize.ShloMosaic.Lib.Pipeline.ValueKit

@[expose] public section

set_option maxRecDepth 16384

noncomputable section

open Idealize.ShloMosaic Idealize.ShloMosaic.TcCoe Idealize.SL.Sem

namespace Cert.Kernel22Ideal.Result

open Cert.Kernel22Ideal Cert.Kernel22Ideal.Gen Cert.Reference22Ideal.Read

variable (m : (ℓ : Loc nD τ sig) → Buf (Elt Ideal) ℓ) (c : Dev nD)

/-- The arguments on one device. -/
abbrev argP : FVec Ideal S8x256x1024 .bf16 := m ((c : Thread nD τ).loc main_arg0)
abbrev argW : FVec Ideal S256x1024 .f32 := m ((c : Thread nD τ).loc main_arg1)
abbrev argM : FVec Ideal S256x1024 .f32 := m ((c : Thread nD τ).loc main_arg2)
abbrev argV : FVec Ideal S256x1024 .f32 := m ((c : Thread nD τ).loc main_arg3)

theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- The reference's sum over the parts, written out. -/
theorem ref_sum (p : FVec Ideal S8x256x1024 .bf16) (j : S256x1024.Idx) : val_main_v1 (F := Ideal) p j
    = p (ix3 0 (j 0) (j 1)) + p (ix3 1 (j 0) (j 1)) + p (ix3 2 (j 0) (j 1)) + p (ix3 3 (j 0) (j 1))
      + p (ix3 4 (j 0) (j 1)) + p (ix3 5 (j 0) (j 1)) + p (ix3 6 (j 0) (j 1)) + p (ix3 7 (j 0) (j 1)) := by
  have e : val_main_v1 (F := Ideal) p j = ∑ k : Fin 8, p (ix3 k (j 0) (j 1)) := by
    pointwise [val_main_v1, val_main_cst, val_main_v0]
  rw [e, Fin.sum_univ_eight]

theorem g_result : (dats m 0 c).arrAt 4 cfg0.N = val_main_v1 (F := Ideal) (argP m c) := by
  refine (dats m 0 c).arrAt_eq_of_covers 4 _ (by decide +kernel) fun t _ y => ?_
  blk_simp
  rw [after0_4]; unfold_out out0_4
  canon_tiles x h
  all_goals (open_payloads; pointwise [k0_pay4]; simp only [ref_sum]; blk_point [iblk, V, idx t])

theorem d_result : (dats m 0 c).arrAt 5 cfg0.N = val_main_v25 (F := Ideal) (argP m c) (argW m c) (argM m c) (argV m c) := by
  refine (dats m 0 c).arrAt_eq_of_covers 5 _ (by decide +kernel) fun t _ y => ?_
  blk_simp
  rw [after0_5]; unfold_out out0_5
  canon_tiles x h
  all_goals (open_payloads; pointwise [k0_pay5, k0_pay4, k0_pay3, k0_pay2, k0_pay1, val_main_v25, val_main_v24, val_main_cst_8, val_main_v23, val_main_v22, val_main_v21, val_main_cst_7, val_main_v20, val_main_v19, val_main_v18, val_main_cst_6, val_main_v17, val_main_v16, val_main_v15, val_main_cst_5, val_main_v14, val_main_v13, val_main_cst_4, val_main_v6, val_main_v5, val_main_v4, val_main_cst_1, val_main_v3, val_main_v2, val_main_cst_0, val_main_v12, val_main_v11, val_main_v10, val_main_cst_3, val_main_v9, val_main_v8, val_main_v7, val_main_cst_2]; simp only [ref_sum]; blk_point [iblk, V, idx t])

theorem mm_result : (dats m 0 c).arrAt 6 cfg0.N = val_main_v6 (F := Ideal) (argP m c) (argM m c) := by
  refine (dats m 0 c).arrAt_eq_of_covers 6 _ (by decide +kernel) fun t _ y => ?_
  blk_simp
  rw [after0_6]; unfold_out out0_6
  canon_tiles x h
  all_goals (open_payloads; pointwise [k0_pay5, k0_pay4, k0_pay1, val_main_v6, val_main_v5, val_main_v4, val_main_cst_1, val_main_v3, val_main_v2, val_main_cst_0]; simp only [ref_sum]; blk_point [iblk, V, idx t])

theorem vv_result : (dats m 0 c).arrAt 7 cfg0.N = val_main_v12 (F := Ideal) (argP m c) (argV m c) := by
  refine (dats m 0 c).arrAt_eq_of_covers 7 _ (by decide +kernel) fun t _ y => ?_
  blk_simp
  rw [after0_7]; unfold_out out0_7
  canon_tiles x h
  all_goals (open_payloads; pointwise [k0_pay5, k0_pay4, k0_pay2, val_main_v12, val_main_v11, val_main_v10, val_main_cst_3, val_main_v9, val_main_v8, val_main_v7, val_main_cst_2]; simp only [ref_sum]; blk_point [iblk, V, idx t])

end Cert.Kernel22Ideal.Result

end
-- ==== Proof.Claims22.lean ====
/-
  The claims of one weight's update.
-/
module

public import proofs.«01_k».proof.Defs
public import proofs.«01_k».proof.Proof.Gen.Reference22Ideal
public import proofs.«01_k».proof.Proof.Adam22
public import Idealize.ShloMosaic.Lib.Claim
public import Idealize.ShloMosaic.Lib.Quiescent
public import Idealize.ShloMosaic.Adequacy
public import Idealize.ShloMosaic.Init

@[expose] public section

noncomputable section

namespace Cert.Claims22

open Idealize.ShloMosaic Idealize.ShloMosaic.TcCoe Idealize.SL.Sem

theorem reference_frame (m : (ℓ : Loc Cert.Reference22Ideal.nD Cert.Reference22Ideal.τ Cert.Reference22Ideal.sig) → Buf (Elt Ideal) ℓ) (g : Dev Cert.Reference22Ideal.nD → PrngReg) :
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0) :=
  (θ_run Cert.Reference22Ideal.defs _ _).mono (fun r h => ⟨fun c => (h c).2.2.2.2, sem_eq_zero_of_no_sems (by decide) _⟩)
    (Cert.Reference22Ideal.Value.run m g)

theorem equal : Cert.algebraic_Kernel22Ideal_Reference22Ideal := by
  intro m g m' g' hpre hagree
  refine ⟨fun c => Cert.Reference22Ideal.Read.val_main_v1 (F := Ideal) (Cert.Kernel22Ideal.Result.argP m c),
    fun c => Cert.Reference22Ideal.Read.val_main_v25 (F := Ideal) (Cert.Kernel22Ideal.Result.argP m c) (Cert.Kernel22Ideal.Result.argW m c) (Cert.Kernel22Ideal.Result.argM m c) (Cert.Kernel22Ideal.Result.argV m c),
    fun c => Cert.Reference22Ideal.Read.val_main_v6 (F := Ideal) (Cert.Kernel22Ideal.Result.argP m c) (Cert.Kernel22Ideal.Result.argM m c),
    fun c => Cert.Reference22Ideal.Read.val_main_v12 (F := Ideal) (Cert.Kernel22Ideal.Result.argP m c) (Cert.Kernel22Ideal.Result.argV m c), ?_, ?_⟩
  · refine (θ_run Cert.Kernel22Ideal.defs _ _).mono (fun r h c => ?_) (Cert.Kernel22Ideal.Value.run_blocks m g)
    obtain ⟨h0, h1, h2, h3, ha⟩ := h c
    exact ⟨h0.trans (Cert.Kernel22Ideal.Result.g_result m c), h1.trans (Cert.Kernel22Ideal.Result.d_result m c), h2.trans (Cert.Kernel22Ideal.Result.mm_result m c), h3.trans (Cert.Kernel22Ideal.Result.vv_result m c), ha⟩
  · refine (θ_run Cert.Reference22Ideal.defs _ _).mono (fun r h c => ?_) (Cert.Reference22Ideal.Value.run m' g')
    obtain ⟨h0, h1, h2, h3, ha⟩ := h c
    obtain ⟨e0, e1, e2, e3⟩ := hagree c
    have s0 := h0.trans (Cert.Reference22Ideal.Read.val_main_v1_eq _)
    have s1 := h1.trans (Cert.Reference22Ideal.Read.val_main_v25_eq _ _ _ _)
    have s2 := h2.trans (Cert.Reference22Ideal.Read.val_main_v6_eq _ _)
    have s3 := h3.trans (Cert.Reference22Ideal.Read.val_main_v12_eq _ _)
    rw [e0] at s0
    rw [e0, e1, e2, e3] at s1
    rw [e0, e2] at s2
    rw [e0, e3] at s3
    exact ⟨s0, s1, s2, s3, ha⟩

end Cert.Claims22

end
-- ==== Proof.Adam23.lean ====
/-
  The update of the cross attention's output: the gradient is the sum of its eight parts, and the rest follows it element by element.
-/
module

public import proofs.«01_k».proof.Proof.Gen.Kernel23Ideal.Value
public import proofs.«01_k».proof.Proof.Gen.Reference23Ideal.Read
public import proofs.«01_k».proof.Proof.Gen.Reference23Ideal.Run
public import Idealize.ShloMosaic.Lib.Pipeline.ValueKit

@[expose] public section

set_option maxRecDepth 16384

noncomputable section

open Idealize.ShloMosaic Idealize.ShloMosaic.TcCoe Idealize.SL.Sem

namespace Cert.Kernel23Ideal.Result

open Cert.Kernel23Ideal Cert.Kernel23Ideal.Gen Cert.Reference23Ideal.Read

variable (m : (ℓ : Loc nD τ sig) → Buf (Elt Ideal) ℓ) (c : Dev nD)

/-- The arguments on one device. -/
abbrev argP : FVec Ideal S8x512x256 .bf16 := m ((c : Thread nD τ).loc main_arg0)
abbrev argW : FVec Ideal S512x256 .f32 := m ((c : Thread nD τ).loc main_arg1)
abbrev argM : FVec Ideal S512x256 .f32 := m ((c : Thread nD τ).loc main_arg2)
abbrev argV : FVec Ideal S512x256 .f32 := m ((c : Thread nD τ).loc main_arg3)

theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- The reference's sum over the parts, written out. -/
theorem ref_sum (p : FVec Ideal S8x512x256 .bf16) (j : S512x256.Idx) : val_main_v1 (F := Ideal) p j
    = p (ix3 0 (j 0) (j 1)) + p (ix3 1 (j 0) (j 1)) + p (ix3 2 (j 0) (j 1)) + p (ix3 3 (j 0) (j 1))
      + p (ix3 4 (j 0) (j 1)) + p (ix3 5 (j 0) (j 1)) + p (ix3 6 (j 0) (j 1)) + p (ix3 7 (j 0) (j 1)) := by
  have e : val_main_v1 (F := Ideal) p j = ∑ k : Fin 8, p (ix3 k (j 0) (j 1)) := by
    pointwise [val_main_v1, val_main_cst, val_main_v0]
  rw [e, Fin.sum_univ_eight]

theorem g_result : (dats m 0 c).arrAt 4 cfg0.N = val_main_v1 (F := Ideal) (argP m c) := by
  refine (dats m 0 c).arrAt_eq_of_covers 4 _ (by decide +kernel) fun t _ y => ?_
  blk_simp
  rw [after0_4]; unfold_out out0_4
  canon_tiles x h
  all_goals (open_payloads; pointwise [k0_pay4]; simp only [ref_sum]; blk_point [iblk, V, idx t])

theorem d_result : (dats m 0 c).arrAt 5 cfg0.N = val_main_v25 (F := Ideal) (argP m c) (argW m c) (argM m c) (argV m c) := by
  refine (dats m 0 c).arrAt_eq_of_covers 5 _ (by decide +kernel) fun t _ y => ?_
  blk_simp
  rw [after0_5]; unfold_out out0_5
  canon_tiles x h
  all_goals (open_payloads; pointwise [k0_pay5, k0_pay4, k0_pay3, k0_pay2, k0_pay1, val_main_v25, val_main_v24, val_main_cst_8, val_main_v23, val_main_v22, val_main_v21, val_main_cst_7, val_main_v20, val_main_v19, val_main_v18, val_main_cst_6, val_main_v17, val_main_v16, val_main_v15, val_main_cst_5, val_main_v14, val_main_v13, val_main_cst_4, val_main_v6, val_main_v5, val_main_v4, val_main_cst_1, val_main_v3, val_main_v2, val_main_cst_0, val_main_v12, val_main_v11, val_main_v10, val_main_cst_3, val_main_v9, val_main_v8, val_main_v7, val_main_cst_2]; simp only [ref_sum]; blk_point [iblk, V, idx t])

theorem mm_result : (dats m 0 c).arrAt 6 cfg0.N = val_main_v6 (F := Ideal) (argP m c) (argM m c) := by
  refine (dats m 0 c).arrAt_eq_of_covers 6 _ (by decide +kernel) fun t _ y => ?_
  blk_simp
  rw [after0_6]; unfold_out out0_6
  canon_tiles x h
  all_goals (open_payloads; pointwise [k0_pay5, k0_pay4, k0_pay1, val_main_v6, val_main_v5, val_main_v4, val_main_cst_1, val_main_v3, val_main_v2, val_main_cst_0]; simp only [ref_sum]; blk_point [iblk, V, idx t])

theorem vv_result : (dats m 0 c).arrAt 7 cfg0.N = val_main_v12 (F := Ideal) (argP m c) (argV m c) := by
  refine (dats m 0 c).arrAt_eq_of_covers 7 _ (by decide +kernel) fun t _ y => ?_
  blk_simp
  rw [after0_7]; unfold_out out0_7
  canon_tiles x h
  all_goals (open_payloads; pointwise [k0_pay5, k0_pay4, k0_pay2, val_main_v12, val_main_v11, val_main_v10, val_main_cst_3, val_main_v9, val_main_v8, val_main_v7, val_main_cst_2]; simp only [ref_sum]; blk_point [iblk, V, idx t])

end Cert.Kernel23Ideal.Result

end
-- ==== Proof.Claims23.lean ====
/-
  The claims of one weight's update.
-/
module

public import proofs.«01_k».proof.Defs
public import proofs.«01_k».proof.Proof.Gen.Reference23Ideal
public import proofs.«01_k».proof.Proof.Adam23
public import Idealize.ShloMosaic.Lib.Claim
public import Idealize.ShloMosaic.Lib.Quiescent
public import Idealize.ShloMosaic.Adequacy
public import Idealize.ShloMosaic.Init

@[expose] public section

noncomputable section

namespace Cert.Claims23

open Idealize.ShloMosaic Idealize.ShloMosaic.TcCoe Idealize.SL.Sem

theorem reference_frame (m : (ℓ : Loc Cert.Reference23Ideal.nD Cert.Reference23Ideal.τ Cert.Reference23Ideal.sig) → Buf (Elt Ideal) ℓ) (g : Dev Cert.Reference23Ideal.nD → PrngReg) :
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0) :=
  (θ_run Cert.Reference23Ideal.defs _ _).mono (fun r h => ⟨fun c => (h c).2.2.2.2, sem_eq_zero_of_no_sems (by decide) _⟩)
    (Cert.Reference23Ideal.Value.run m g)

theorem equal : Cert.algebraic_Kernel23Ideal_Reference23Ideal := by
  intro m g m' g' hpre hagree
  refine ⟨fun c => Cert.Reference23Ideal.Read.val_main_v1 (F := Ideal) (Cert.Kernel23Ideal.Result.argP m c),
    fun c => Cert.Reference23Ideal.Read.val_main_v25 (F := Ideal) (Cert.Kernel23Ideal.Result.argP m c) (Cert.Kernel23Ideal.Result.argW m c) (Cert.Kernel23Ideal.Result.argM m c) (Cert.Kernel23Ideal.Result.argV m c),
    fun c => Cert.Reference23Ideal.Read.val_main_v6 (F := Ideal) (Cert.Kernel23Ideal.Result.argP m c) (Cert.Kernel23Ideal.Result.argM m c),
    fun c => Cert.Reference23Ideal.Read.val_main_v12 (F := Ideal) (Cert.Kernel23Ideal.Result.argP m c) (Cert.Kernel23Ideal.Result.argV m c), ?_, ?_⟩
  · refine (θ_run Cert.Kernel23Ideal.defs _ _).mono (fun r h c => ?_) (Cert.Kernel23Ideal.Value.run_blocks m g)
    obtain ⟨h0, h1, h2, h3, ha⟩ := h c
    exact ⟨h0.trans (Cert.Kernel23Ideal.Result.g_result m c), h1.trans (Cert.Kernel23Ideal.Result.d_result m c), h2.trans (Cert.Kernel23Ideal.Result.mm_result m c), h3.trans (Cert.Kernel23Ideal.Result.vv_result m c), ha⟩
  · refine (θ_run Cert.Reference23Ideal.defs _ _).mono (fun r h c => ?_) (Cert.Reference23Ideal.Value.run m' g')
    obtain ⟨h0, h1, h2, h3, ha⟩ := h c
    obtain ⟨e0, e1, e2, e3⟩ := hagree c
    have s0 := h0.trans (Cert.Reference23Ideal.Read.val_main_v1_eq _)
    have s1 := h1.trans (Cert.Reference23Ideal.Read.val_main_v25_eq _ _ _ _)
    have s2 := h2.trans (Cert.Reference23Ideal.Read.val_main_v6_eq _ _)
    have s3 := h3.trans (Cert.Reference23Ideal.Read.val_main_v12_eq _ _)
    rw [e0] at s0
    rw [e0, e1, e2, e3] at s1
    rw [e0, e2] at s2
    rw [e0, e3] at s3
    exact ⟨s0, s1, s2, s3, ha⟩

end Cert.Claims23

end
-- ==== Proof.CrossOut.lean ====
/-
  The projection of the cross attention's output, added to the stream.
-/
module

public import proofs.«01_k».proof.Proof.Gen.Kernel24Ideal.Value
public import proofs.«01_k».proof.Proof.Gen.Reference24Ideal.Read
public import proofs.«01_k».proof.Proof.Gen.Reference24Ideal.Run
public import Idealize.ShloMosaic.Lib.Pipeline.ValueKit

@[expose] public section

set_option maxRecDepth 16384

noncomputable section

open Idealize.ShloMosaic Idealize.ShloMosaic.TcCoe Idealize.SL.Sem

namespace Cert.Kernel24Ideal.Result

open Cert.Kernel24Ideal Cert.Kernel24Ideal.Gen Cert.Reference24Ideal.Read

variable (m : (ℓ : Loc nD τ sig) → Buf (Elt Ideal) ℓ) (c : Dev nD)

/-- The arguments on one device. -/
abbrev argA : FVec Ideal S4096x512 .bf16 := m ((c : Thread nD τ).loc main_arg0)
abbrev argW : FVec Ideal S512x2048 .bf16 := m ((c : Thread nD τ).loc main_arg1)
abbrev argR : FVec Ideal S4096x2048 .f32 := m ((c : Thread nD τ).loc main_arg2)

theorem idx : ∀ t : Fin cfg0.N, win0_0.index t = ![t.val / 2, 0] ∧ win0_1.index t = ![0, t.val % 2] ∧ win0_2.index t = ![t.val / 2, t.val % 2] ∧ win0_3.index t = ![t.val / 2, t.val % 2] :=
  (by decide +kernel : ∀ t : Fin grid0.N, _)

theorem point (t : Fin cfg0.N) (y) : k0_pay1 (F := Ideal) (iblk m c 0 t) (iblk m c 1 t) (iblk m c 2 t) y
    = val_main_v3 (F := Ideal) (argA m c) (argW m c) (argR m c) (((cfg0.win 3).blk t).view.emb y) := by
  pointwise [k0_pay1, val_main_v3, val_main_v2, val_main_v1, val_main_v0]
  blk_point [iblk, V, idx t]

theorem result : (dats m 0 c).arrAt 3 cfg0.N = val_main_v3 (F := Ideal) (argA m c) (argW m c) (argR m c) := by
  refine (dats m 0 c).arrAt_eq_of_covers 3 _ (by decide +kernel) fun t _ y => ?_
  blk_simp
  rw [after0_3]; frame_out
  exact point m c t y

end Cert.Kernel24Ideal.Result

end
-- ==== Proof.Claims24.lean ====
/-
  The claims of the projection of the cross attention's output.
-/
module

public import proofs.«01_k».proof.Defs
public import proofs.«01_k».proof.Proof.Gen.Reference24Ideal
public import proofs.«01_k».proof.Proof.CrossOut
public import Idealize.ShloMosaic.Lib.Claim
public import Idealize.ShloMosaic.Lib.Quiescent
public import Idealize.ShloMosaic.Adequacy
public import Idealize.ShloMosaic.Init

@[expose] public section

noncomputable section

namespace Cert.Claims24

open Idealize.ShloMosaic Idealize.ShloMosaic.TcCoe Idealize.SL.Sem

theorem reference_frame (m : (ℓ : Loc Cert.Reference24Ideal.nD Cert.Reference24Ideal.τ Cert.Reference24Ideal.sig) → Buf (Elt Ideal) ℓ) (g : Dev Cert.Reference24Ideal.nD → PrngReg) :
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0) :=
  (θ_run Cert.Reference24Ideal.defs _ _).mono (fun r h => ⟨fun c => (h c).2, sem_eq_zero_of_no_sems (by decide) _⟩)
    (Cert.Reference24Ideal.Value.run m g)

theorem equal : Cert.algebraic_Kernel24Ideal_Reference24Ideal := by
  intro m g m' g' hpre hagree
  refine ⟨fun c => Cert.Reference24Ideal.Read.val_main_v3 (F := Ideal) (Cert.Kernel24Ideal.Result.argA m c) (Cert.Kernel24Ideal.Result.argW m c) (Cert.Kernel24Ideal.Result.argR m c), ?_, ?_⟩
  · refine (θ_run Cert.Kernel24Ideal.defs _ _).mono (fun r h c => ?_) (Cert.Kernel24Ideal.Value.run_blocks m g)
    obtain ⟨h0, ha⟩ := h c
    exact ⟨h0.trans (Cert.Kernel24Ideal.Result.result m c), ha⟩
  · refine (θ_run Cert.Reference24Ideal.defs _ _).mono (fun r h c => ?_) (Cert.Reference24Ideal.Value.run m' g')
    obtain ⟨h0, ha⟩ := h c
    obtain ⟨e0, e1, e2⟩ := hagree c
    have s0 := h0.trans (Cert.Reference24Ideal.Read.val_main_v3_eq _ _ _)
    rw [e0, e1, e2] at s0
    exact ⟨s0, ha⟩

end Cert.Claims24

end
-- ==== Proof.CrossBack.lean ====
/-
  The gradient of the cross attention's output through its projection.
-/
module

public import proofs.«01_k».proof.Proof.Gen.Kernel25Ideal.Value
public import proofs.«01_k».proof.Proof.Gen.Reference25Ideal.Read
public import proofs.«01_k».proof.Proof.Gen.Reference25Ideal.Run
public import Idealize.ShloMosaic.Lib.Pipeline.ValueKit

@[expose] public section

set_option maxRecDepth 16384

noncomputable section

open Idealize.ShloMosaic Idealize.ShloMosaic.TcCoe Idealize.SL.Sem

namespace Cert.Kernel25Ideal.Result

open Cert.Kernel25Ideal Cert.Kernel25Ideal.Gen Cert.Reference25Ideal.Read

variable (m : (ℓ : Loc nD τ sig) → Buf (Elt Ideal) ℓ) (c : Dev nD)

/-- The arguments on one device. -/
abbrev argD : FVec Ideal S4096x2048 .bf16 := m ((c : Thread nD τ).loc main_arg0)
abbrev argW : FVec Ideal S512x2048 .bf16 := m ((c : Thread nD τ).loc main_arg1)

theorem idx : ∀ t : Fin cfg0.N, win0_0.index t = ![t.val, 0] ∧ win0_1.index t = ![0, 0] ∧ win0_2.index t = ![t.val, 0] :=
  (by decide +kernel : ∀ t : Fin grid0.N, _)

theorem point (t : Fin cfg0.N) (y) : k0_pay1 (F := Ideal) (iblk m c 0 t) (iblk m c 1 t) y
    = val_main_v5 (F := Ideal) (argD m c) (argW m c) (((cfg0.win 2).blk t).view.emb y) := by
  pointwise [k0_pay1, val_main_v5, val_main_v4, val_main_v1, val_main_v0]
  blk_point [iblk, V, idx t]

theorem result : (dats m 0 c).arrAt 2 cfg0.N = val_main_v5 (F := Ideal) (argD m c) (argW m c) := by
  refine (dats m 0 c).arrAt_eq_of_covers 2 _ (by decide +kernel) fun t _ y => ?_
  blk_simp
  rw [after0_2]; frame_out
  exact point m c t y

end Cert.Kernel25Ideal.Result

end
-- ==== Proof.Claims25.lean ====
/-
  The claims of the gradient through it.
-/
module

public import proofs.«01_k».proof.Defs
public import proofs.«01_k».proof.Proof.Gen.Reference25Ideal
public import proofs.«01_k».proof.Proof.CrossBack
public import Idealize.ShloMosaic.Lib.Claim
public import Idealize.ShloMosaic.Lib.Quiescent
public import Idealize.ShloMosaic.Adequacy
public import Idealize.ShloMosaic.Init

@[expose] public section

noncomputable section

namespace Cert.Claims25

open Idealize.ShloMosaic Idealize.ShloMosaic.TcCoe Idealize.SL.Sem

theorem reference_frame (m : (ℓ : Loc Cert.Reference25Ideal.nD Cert.Reference25Ideal.τ Cert.Reference25Ideal.sig) → Buf (Elt Ideal) ℓ) (g : Dev Cert.Reference25Ideal.nD → PrngReg) :
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0) :=
  (θ_run Cert.Reference25Ideal.defs _ _).mono (fun r h => ⟨fun c => (h c).2, sem_eq_zero_of_no_sems (by decide) _⟩)
    (Cert.Reference25Ideal.Value.run m g)

theorem equal : Cert.algebraic_Kernel25Ideal_Reference25Ideal := by
  intro m g m' g' hpre hagree
  refine ⟨fun c => Cert.Reference25Ideal.Read.val_main_v5 (F := Ideal) (Cert.Kernel25Ideal.Result.argD m c) (Cert.Kernel25Ideal.Result.argW m c), ?_, ?_⟩
  · refine (θ_run Cert.Kernel25Ideal.defs _ _).mono (fun r h c => ?_) (Cert.Kernel25Ideal.Value.run_blocks m g)
    obtain ⟨h0, ha⟩ := h c
    exact ⟨h0.trans (Cert.Kernel25Ideal.Result.result m c), ha⟩
  · refine (θ_run Cert.Reference25Ideal.defs _ _).mono (fun r h c => ?_) (Cert.Reference25Ideal.Value.run m' g')
    obtain ⟨h0, ha⟩ := h c
    obtain ⟨e0, e1⟩ := hagree c
    have s0 := h0.trans (Cert.Reference25Ideal.Read.val_main_v5_eq _ _)
    rw [e0, e1] at s0
    exact ⟨s0, ha⟩

end Cert.Claims25

end
-- ==== Proof.QueryWeight.lean ====
/-
  The gradient of the weights of the cross attention's queries.
-/
module

public import proofs.«01_k».proof.Proof.Gen.Kernel26Ideal.Value
public import proofs.«01_k».proof.Proof.Gen.Reference26Ideal.Read
public import proofs.«01_k».proof.Proof.Gen.Reference26Ideal.Run
public import Idealize.ShloMosaic.Lib.Pipeline.ValueKit

@[expose] public section

set_option maxRecDepth 16384

noncomputable section

open Idealize.ShloMosaic Idealize.ShloMosaic.TcCoe Idealize.SL.Sem

namespace Cert.Kernel26Ideal.Result

open Cert.Kernel26Ideal Cert.Kernel26Ideal.Gen Cert.Reference26Ideal.Read

variable (m : (ℓ : Loc nD τ sig) → Buf (Elt Ideal) ℓ) (c : Dev nD)

/-- The arguments on one device. -/
abbrev argA : FVec Ideal S4096x2048 .bf16 := m ((c : Thread nD τ).loc main_arg0)
abbrev argD : FVec Ideal S4096x512 .bf16 := m ((c : Thread nD τ).loc main_arg1)

theorem idx : ∀ t : Fin cfg0.N, win0_0.index t = ![0, t.val] ∧ win0_1.index t = ![0, 0] ∧ win0_2.index t = ![t.val, 0] :=
  (by decide +kernel : ∀ t : Fin grid0.N, _)

theorem ref_apply (a : FVec Ideal S4096x2048 .bf16) (d : FVec Ideal S4096x512 .bf16) (j : S2048x512.Idx) :
    val_main_v6 (F := Ideal) a d j = ∑ k : Fin 4096, a (ix2 k (j 0)) * d (ix2 k (j 1)) := by
  refine Eq.trans (b := ∑ k : Fin 4096, d (ix2 k (j 1)) * a (ix2 k (j 0))) ?_ (Finset.sum_congr rfl fun k _ => mul_comm _ _)
  pointwise [val_main_v6, val_main_v5, val_main_v4, val_main_v1, val_main_v0]

theorem point (t : Fin cfg0.N) (y) : k0_pay1 (F := Ideal) (iblk m c 0 t) (iblk m c 1 t) y
    = val_main_v6 (F := Ideal) (argA m c) (argD m c) (((cfg0.win 2).blk t).view.emb y) := by
  rw [ref_apply]
  pointwise [k0_pay1]
  blk_point [iblk, V, idx t]

theorem result : (dats m 0 c).arrAt 2 cfg0.N = val_main_v6 (F := Ideal) (argA m c) (argD m c) := by
  refine (dats m 0 c).arrAt_eq_of_covers 2 _ (by decide +kernel) fun t _ y => ?_
  blk_simp
  rw [after0_2]; frame_out
  exact point m c t y

end Cert.Kernel26Ideal.Result

end
-- ==== Proof.Claims26.lean ====
/-
  The claims of the gradient of the queries' weights.
-/
module

public import proofs.«01_k».proof.Defs
public import proofs.«01_k».proof.Proof.Gen.Reference26Ideal
public import proofs.«01_k».proof.Proof.QueryWeight
public import Idealize.ShloMosaic.Lib.Claim
public import Idealize.ShloMosaic.Lib.Quiescent
public import Idealize.ShloMosaic.Adequacy
public import Idealize.ShloMosaic.Init

@[expose] public section

noncomputable section

namespace Cert.Claims26

open Idealize.ShloMosaic Idealize.ShloMosaic.TcCoe Idealize.SL.Sem

theorem reference_frame (m : (ℓ : Loc Cert.Reference26Ideal.nD Cert.Reference26Ideal.τ Cert.Reference26Ideal.sig) → Buf (Elt Ideal) ℓ) (g : Dev Cert.Reference26Ideal.nD → PrngReg) :
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0) :=
  (θ_run Cert.Reference26Ideal.defs _ _).mono (fun r h => ⟨fun c => (h c).2, sem_eq_zero_of_no_sems (by decide) _⟩)
    (Cert.Reference26Ideal.Value.run m g)

theorem equal : Cert.algebraic_Kernel26Ideal_Reference26Ideal := by
  intro m g m' g' hpre hagree
  refine ⟨fun c => Cert.Reference26Ideal.Read.val_main_v6 (F := Ideal) (Cert.Kernel26Ideal.Result.argA m c) (Cert.Kernel26Ideal.Result.argD m c), ?_, ?_⟩
  · refine (θ_run Cert.Kernel26Ideal.defs _ _).mono (fun r h c => ?_) (Cert.Kernel26Ideal.Value.run_blocks m g)
    obtain ⟨h0, ha⟩ := h c
    exact ⟨h0.trans (Cert.Kernel26Ideal.Result.result m c), ha⟩
  · refine (θ_run Cert.Reference26Ideal.defs _ _).mono (fun r h c => ?_) (Cert.Reference26Ideal.Value.run m' g')
    obtain ⟨h0, ha⟩ := h c
    obtain ⟨e0, e1⟩ := hagree c
    have s0 := h0.trans (Cert.Reference26Ideal.Read.val_main_v6_eq _ _)
    rw [e0, e1] at s0
    exact ⟨s0, ha⟩

end Cert.Claims26

end
-- ==== Proof.QueryBack.lean ====
/-
  The gradient of the normalised input through the cross attention's queries.
-/
module

public import proofs.«01_k».proof.Proof.Gen.Kernel27Ideal.Value
public import proofs.«01_k».proof.Proof.Gen.Reference27Ideal.Read
public import proofs.«01_k».proof.Proof.Gen.Reference27Ideal.Run
public import Idealize.ShloMosaic.Lib.Pipeline.ValueKit

@[expose] public section

set_option maxRecDepth 16384

noncomputable section

open Idealize.ShloMosaic Idealize.ShloMosaic.TcCoe Idealize.SL.Sem

namespace Cert.Kernel27Ideal.Result

open Cert.Kernel27Ideal Cert.Kernel27Ideal.Gen Cert.Reference27Ideal.Read

variable (m : (ℓ : Loc nD τ sig) → Buf (Elt Ideal) ℓ) (c : Dev nD)

/-- The arguments on one device. -/
abbrev argD : FVec Ideal S4096x512 .bf16 := m ((c : Thread nD τ).loc main_arg0)
abbrev argW : FVec Ideal S2048x512 .bf16 := m ((c : Thread nD τ).loc main_arg1)

theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

theorem point (t : Fin cfg0.N) (y) : k0_pay1 (F := Ideal) (iblk m c 0 t) (iblk m c 1 t) y
    = val_main_v5 (F := Ideal) (argD m c) (argW m c) (((cfg0.win 2).blk t).view.emb y) := by
  pointwise [k0_pay1, val_main_v5, val_main_v4, val_main_v1, val_main_v0]
  blk_point [iblk, V, idx t]

theorem result : (dats m 0 c).arrAt 2 cfg0.N = val_main_v5 (F := Ideal) (argD m c) (argW m c) := by
  refine (dats m 0 c).arrAt_eq_of_covers 2 _ (by decide +kernel) fun t _ y => ?_
  blk_simp
  rw [after0_2]; frame_out
  exact point m c t y

end Cert.Kernel27Ideal.Result

end
-- ==== Proof.Claims27.lean ====
/-
  The claims of the gradient through the queries.
-/
module

public import proofs.«01_k».proof.Defs
public import proofs.«01_k».proof.Proof.Gen.Reference27Ideal
public import proofs.«01_k».proof.Proof.QueryBack
public import Idealize.ShloMosaic.Lib.Claim
public import Idealize.ShloMosaic.Lib.Quiescent
public import Idealize.ShloMosaic.Adequacy
public import Idealize.ShloMosaic.Init

@[expose] public section

noncomputable section

namespace Cert.Claims27

open Idealize.ShloMosaic Idealize.ShloMosaic.TcCoe Idealize.SL.Sem

theorem reference_frame (m : (ℓ : Loc Cert.Reference27Ideal.nD Cert.Reference27Ideal.τ Cert.Reference27Ideal.sig) → Buf (Elt Ideal) ℓ) (g : Dev Cert.Reference27Ideal.nD → PrngReg) :
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0) :=
  (θ_run Cert.Reference27Ideal.defs _ _).mono (fun r h => ⟨fun c => (h c).2, sem_eq_zero_of_no_sems (by decide) _⟩)
    (Cert.Reference27Ideal.Value.run m g)

theorem equal : Cert.algebraic_Kernel27Ideal_Reference27Ideal := by
  intro m g m' g' hpre hagree
  refine ⟨fun c => Cert.Reference27Ideal.Read.val_main_v5 (F := Ideal) (Cert.Kernel27Ideal.Result.argD m c) (Cert.Kernel27Ideal.Result.argW m c), ?_, ?_⟩
  · refine (θ_run Cert.Kernel27Ideal.defs _ _).mono (fun r h c => ?_) (Cert.Kernel27Ideal.Value.run_blocks m g)
    obtain ⟨h0, ha⟩ := h c
    exact ⟨h0.trans (Cert.Kernel27Ideal.Result.result m c), ha⟩
  · refine (θ_run Cert.Reference27Ideal.defs _ _).mono (fun r h c => ?_) (Cert.Reference27Ideal.Value.run m' g')
    obtain ⟨h0, ha⟩ := h c
    obtain ⟨e0, e1⟩ := hagree c
    have s0 := h0.trans (Cert.Reference27Ideal.Read.val_main_v5_eq _ _)
    rw [e0, e1] at s0
    exact ⟨s0, ha⟩

end Cert.Claims27

end
-- ==== Proof.CrossWeight.lean ====
/-
  The gradient of the weights of the projection of the cross attention's output.
-/
module

public import proofs.«01_k».proof.Proof.Gen.Kernel28Ideal.Value
public import proofs.«01_k».proof.Proof.Gen.Reference28Ideal.Read
public import proofs.«01_k».proof.Proof.Gen.Reference28Ideal.Run
public import Idealize.ShloMosaic.Lib.Pipeline.ValueKit

@[expose] public section

set_option maxRecDepth 16384

noncomputable section

open Idealize.ShloMosaic Idealize.ShloMosaic.TcCoe Idealize.SL.Sem

namespace Cert.Kernel28Ideal.Result

open Cert.Kernel28Ideal Cert.Kernel28Ideal.Gen Cert.Reference28Ideal.Read

variable (m : (ℓ : Loc nD τ sig) → Buf (Elt Ideal) ℓ) (c : Dev nD)

/-- The arguments on one device. -/
abbrev argH : FVec Ideal S4096x512 .bf16 := m ((c : Thread nD τ).loc main_arg0)
abbrev argD : FVec Ideal S4096x2048 .bf16 := m ((c : Thread nD τ).loc main_arg1)

theorem idx : ∀ t : Fin cfg0.N, win0_0.index t = ![0, 0] ∧ win0_1.index t = ![0, t.val] ∧ win0_2.index t = ![t.val, 0, 0] :=
  (by decide +kernel : ∀ t : Fin grid0.N, _)

/-- Column `k` of part `n`. -/
def col (n : Fin 8) (k : Fin 256) : Fin 2048 := ⟨n.val * 256 + k.val, by omega⟩

theorem ref_apply (h : FVec Ideal S4096x512 .bf16) (d : FVec Ideal S4096x2048 .bf16) (j : S8x512x256.Idx) :
    val_main_v8 (F := Ideal) h d j = ∑ k : Fin 4096, h (ix2 k (j 1)) * d (ix2 k (col (j 0) (j 2))) := by
  refine Eq.trans (b := ∑ k : Fin 4096, d (ix2 k (col (j 0) (j 2))) * h (ix2 k (j 1))) ?_ (Finset.sum_congr rfl fun k _ => mul_comm _ _)
  unfold col
  pointwise [val_main_v8, val_main_v7, val_main_v6, val_main_v5, val_main_v1, val_main_v0]

theorem point (t : Fin cfg0.N) (y) : k0_pay1 (F := Ideal) (iblk m c 0 t) (iblk m c 1 t) y
    = val_main_v8 (F := Ideal) (argH m c) (argD m c) (((cfg0.win 2).blk t).view.emb y) := by
  rw [ref_apply]
  unfold col
  pointwise [k0_pay1]
  blk_point [iblk, V, idx t]

theorem result : (dats m 0 c).arrAt 2 cfg0.N = val_main_v8 (F := Ideal) (argH m c) (argD m c) := by
  refine (dats m 0 c).arrAt_eq_of_covers 2 _ (by decide +kernel) fun t _ y => ?_
  blk_simp
  rw [after0_2]; frame_out
  exact point m c t y

end Cert.Kernel28Ideal.Result

end
-- ==== Proof.Claims28.lean ====
/-
  The claims of the gradient of the output's weights.
-/
module

public import proofs.«01_k».proof.Defs
public import proofs.«01_k».proof.Proof.Gen.Reference28Ideal
public import proofs.«01_k».proof.Proof.CrossWeight
public import Idealize.ShloMosaic.Lib.Claim
public import Idealize.ShloMosaic.Lib.Quiescent
public import Idealize.ShloMosaic.Adequacy
public import Idealize.ShloMosaic.Init

@[expose] public section

noncomputable section

namespace Cert.Claims28

open Idealize.ShloMosaic Idealize.ShloMosaic.TcCoe Idealize.SL.Sem

theorem reference_frame (m : (ℓ : Loc Cert.Reference28Ideal.nD Cert.Reference28Ideal.τ Cert.Reference28Ideal.sig) → Buf (Elt Ideal) ℓ) (g : Dev Cert.Reference28Ideal.nD → PrngReg) :
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0) :=
  (θ_run Cert.Reference28Ideal.defs _ _).mono (fun r h => ⟨fun c => (h c).2, sem_eq_zero_of_no_sems (by decide) _⟩)
    (Cert.Reference28Ideal.Value.run m g)

theorem equal : Cert.algebraic_Kernel28Ideal_Reference28Ideal := by
  intro m g m' g' hpre hagree
  refine ⟨fun c => Cert.Reference28Ideal.Read.val_main_v8 (F := Ideal) (Cert.Kernel28Ideal.Result.argH m c) (Cert.Kernel28Ideal.Result.argD m c), ?_, ?_⟩
  · refine (θ_run Cert.Kernel28Ideal.defs _ _).mono (fun r h c => ?_) (Cert.Kernel28Ideal.Value.run_blocks m g)
    obtain ⟨h0, ha⟩ := h c
    exact ⟨h0.trans (Cert.Kernel28Ideal.Result.result m c), ha⟩
  · refine (θ_run Cert.Reference28Ideal.defs _ _).mono (fun r h c => ?_) (Cert.Reference28Ideal.Value.run m' g')
    obtain ⟨h0, ha⟩ := h c
    obtain ⟨e0, e1⟩ := hagree c
    have s0 := h0.trans (Cert.Reference28Ideal.Read.val_main_v8_eq _ _)
    rw [e0, e1] at s0
    exact ⟨s0, ha⟩

end Cert.Claims28

end
-- ==== Proof.lean ====
/-
  The claims, each from the run of its program: the frames from the generated runs and, for the reference, from its run with
  no semaphore in it; the rewrite of the mask from its rule; the equation of the four results from Proof/Result.lean,
  those of the other calls from their own modules.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Read
public import proofs.«01_k».proof.Proof.Gen.ReferenceIdeal.Run
public import proofs.«01_k».proof.Proof.Result
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Claims2
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Claims3
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Claims4
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Claims5
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Claims6
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Claims7
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Claims8
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Claims9
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Claims11
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Claims12
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Claims13
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Claims14
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Claims15
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Claims16
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Claims17
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Claims18
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal
public import proofs.«01_k».proof.Proof.Claims19
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.Claims20
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Reference21Ideal
public import proofs.«01_k».proof.Proof.Claims21
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Reference22Ideal
public import proofs.«01_k».proof.Proof.Claims22
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Reference23Ideal
public import proofs.«01_k».proof.Proof.Claims23
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Reference24Ideal
public import proofs.«01_k».proof.Proof.Claims24
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Reference25Ideal
public import proofs.«01_k».proof.Proof.Claims25
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Reference26Ideal
public import proofs.«01_k».proof.Proof.Claims26
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Reference27Ideal
public import proofs.«01_k».proof.Proof.Claims27
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Reference28Ideal
public import proofs.«01_k».proof.Proof.Claims28
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

instance : Cert.Pre_finite.Facts := Cert.Pre.pre_facts
instance : Cert.Pre_finite2.Facts := Cert.Pre2.pre_facts
instance : Cert.On_dq_columns.Facts := Cert.Pre.on_facts

theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2.2.2.2, sem_eq_zero_of_no_sems (by decide) _⟩)
    (Cert.ReferenceIdeal.Value.run m g)

theorem equal : Cert.algebraic_KernelIdeal_ReferenceIdeal_on_dq_columns_pre_finite := by
  intro m g m' g' hpre hagree
  have hF := fun c => Cert.Pre.finite_of_pre _ _ _ (hpre c)
  refine ⟨fun c => Cert.ReferenceIdeal.Read.val_main_v205 (F := Ideal) (Cert.KernelIdeal.Result.argZ m c) (Cert.KernelIdeal.Result.argT m c) (Cert.KernelIdeal.Result.argD m c),
    fun c => Cert.ReferenceIdeal.Read.val_main_v207 (F := Ideal) (Cert.KernelIdeal.Result.argZ m c) (Cert.KernelIdeal.Result.argT m c) (Cert.KernelIdeal.Result.argD m c),
    fun c => Cert.ReferenceIdeal.Read.val_main_v209 (F := Ideal) (Cert.KernelIdeal.Result.argZ m c) (Cert.KernelIdeal.Result.argT m c) (Cert.KernelIdeal.Result.argD m c),
    fun c => Cert.ReferenceIdeal.Read.val_main_v202 (F := Ideal) (Cert.KernelIdeal.Result.argZ m c) (Cert.KernelIdeal.Result.argT m c) (Cert.KernelIdeal.Result.argD m c), ?_, ?_⟩
  · refine (θ_run Cert.KernelIdeal.defs _ _).mono (fun r h c => ?_) (Cert.KernelIdeal.Value.run_blocks m g)
    obtain ⟨h5, h6, h7, h8, ha⟩ := h c
    exact ⟨fun i hi => (congrFun h5 i).trans (Cert.KernelIdeal.Result.dq_result (hF c) i (Cert.Pre.column_of_mask _ _ _ i hi)),
      fun i _ => congrFun (h6.trans (Cert.KernelIdeal.Result.dk_result (hF c))) i,
      fun i _ => congrFun (h7.trans (Cert.KernelIdeal.Result.dv_result (hF c))) i,
      fun i _ => congrFun (h8.trans (Cert.KernelIdeal.Result.db_result (hF c))) i, ha⟩
  · refine (θ_run Cert.ReferenceIdeal.defs _ _).mono (fun r h c => ?_) (Cert.ReferenceIdeal.Value.run m' g')
    obtain ⟨h5, h6, h7, h8, ha⟩ := h c
    obtain ⟨e0, e1, e2⟩ := hagree c
    have s5 := h5.trans (Cert.ReferenceIdeal.Read.val_main_v205_eq (Idealize.ShloMosaic.StableHlo.launchContents m' c))
    have s6 := h6.trans (Cert.ReferenceIdeal.Read.val_main_v207_eq (Idealize.ShloMosaic.StableHlo.launchContents m' c))
    have s7 := h7.trans (Cert.ReferenceIdeal.Read.val_main_v209_eq (Idealize.ShloMosaic.StableHlo.launchContents m' c))
    have s8 := h8.trans (Cert.ReferenceIdeal.Read.val_main_v202_eq (Idealize.ShloMosaic.StableHlo.launchContents m' c))
    have a0 : Idealize.ShloMosaic.StableHlo.launchContents m' c (Proc.devRef .tc Cert.ReferenceIdeal.main_arg0) = Cert.KernelIdeal.Result.argZ m c := e0
    have a1 : Idealize.ShloMosaic.StableHlo.launchContents m' c (Proc.devRef .tc Cert.ReferenceIdeal.main_arg1) = Cert.KernelIdeal.Result.argT m c := e1
    have a2 : Idealize.ShloMosaic.StableHlo.launchContents m' c (Proc.devRef .tc Cert.ReferenceIdeal.main_arg2) = Cert.KernelIdeal.Result.argD m c := e2
    rw [a0, a1, a2] at s5 s6 s7 s8
    exact ⟨fun i _ => congrFun s5 i, fun i _ => congrFun s6 i, fun i _ => congrFun s7 i, fun i _ => congrFun s8 i, ha⟩

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Kernel28.Gen.facts, Cert.Kernel28Ideal.Gen.facts, Cert.Reference28Ideal.Gen.facts, Cert.Pre.pre_facts, Cert.Pre2.pre_facts, Cert.Pre.on_facts,
    fun m g _ => Cert.Kernel.Gen.frame m g,
    fun m g _ => Cert.KernelIdeal.Gen.frame m g,
    fun m g _ => Cert.KernelIdeal.Gen.frame m g,
    fun m g _ => reference_frame m g,
    fun m g _ => reference_frame m g,
    fun m g _ => Cert.Kernel2.Gen.frame m g,
    fun m g _ => Cert.Kernel2Ideal.Gen.frame m g,
    fun m g _ => Cert.Kernel2Ideal.Gen.frame m g,
    fun m g _ => Cert.Claims2.reference_frame m g,
    fun m g _ => Cert.Claims2.reference_frame m g,
    fun m g _ => Cert.Kernel3.Gen.frame m g,
    fun m g _ => Cert.Kernel3Ideal.Gen.frame m g,
    fun m g _ => Cert.Claims3.reference_frame m g,
    fun m g _ => Cert.Kernel4.Gen.frame m g,
    fun m g _ => Cert.Kernel4Ideal.Gen.frame m g,
    fun m g _ => Cert.Claims4.reference_frame m g,
    fun m g _ => Cert.Kernel5.Gen.frame m g,
    fun m g _ => Cert.Kernel5Ideal.Gen.frame m g,
    fun m g _ => Cert.Claims5.reference_frame m g,
    fun m g _ => Cert.Kernel6.Gen.frame m g,
    fun m g _ => Cert.Kernel6Ideal.Gen.frame m g,
    fun m g _ => Cert.Claims6.reference_frame m g,
    fun m g _ => Cert.Kernel7.Gen.frame m g,
    fun m g _ => Cert.Kernel7Ideal.Gen.frame m g,
    fun m g _ => Cert.Claims7.reference_frame m g,
    fun m g _ => Cert.Kernel8.Gen.frame m g,
    fun m g _ => Cert.Kernel8Ideal.Gen.frame m g,
    fun m g _ => Cert.Claims8.reference_frame m g,
    fun m g _ => Cert.Kernel9.Gen.frame m g,
    fun m g _ => Cert.Kernel9Ideal.Gen.frame m g,
    fun m g _ => Cert.Claims9.reference_frame m g,
    fun m g _ => Cert.Kernel11.Gen.frame m g,
    fun m g _ => Cert.Kernel11Ideal.Gen.frame m g,
    fun m g _ => Cert.Claims11.reference_frame m g,
    fun m g _ => Cert.Kernel12.Gen.frame m g,
    fun m g _ => Cert.Kernel12Ideal.Gen.frame m g,
    fun m g _ => Cert.Claims12.reference_frame m g,
    fun m g _ => Cert.Kernel13.Gen.frame m g,
    fun m g _ => Cert.Kernel13Ideal.Gen.frame m g,
    fun m g _ => Cert.Claims13.reference_frame m g,
    fun m g _ => Cert.Kernel14.Gen.frame m g,
    fun m g _ => Cert.Kernel14Ideal.Gen.frame m g,
    fun m g _ => Cert.Claims14.reference_frame m g,
    fun m g _ => Cert.Kernel15.Gen.frame m g,
    fun m g _ => Cert.Kernel15Ideal.Gen.frame m g,
    fun m g _ => Cert.Claims15.reference_frame m g,
    fun m g _ => Cert.Kernel16.Gen.frame m g,
    fun m g _ => Cert.Kernel16Ideal.Gen.frame m g,
    fun m g _ => Cert.Claims16.reference_frame m g,
    fun m g _ => Cert.Kernel17.Gen.frame m g,
    fun m g _ => Cert.Kernel17Ideal.Gen.frame m g,
    fun m g _ => Cert.Claims17.reference_frame m g,
    fun m g _ => Cert.Kernel18.Gen.frame m g,
    fun m g _ => Cert.Kernel18Ideal.Gen.frame m g,
    fun m g _ => Cert.Claims18.reference_frame m g,
    fun m g _ => Cert.Kernel19.Gen.frame m g,
    fun m g _ => Cert.Kernel19Ideal.Gen.frame m g,
    fun m g _ => Cert.Claims19.reference_frame m g,
    fun m g _ => Cert.Kernel20.Gen.frame m g,
    fun m g _ => Cert.Kernel20Ideal.Gen.frame m g,
    fun m g _ => Cert.Claims20.reference_frame m g,
    fun m g _ => Cert.Kernel21.Gen.frame m g,
    fun m g _ => Cert.Kernel21Ideal.Gen.frame m g,
    fun m g _ => Cert.Claims21.reference_frame m g,
    fun m g _ => Cert.Kernel22.Gen.frame m g,
    fun m g _ => Cert.Kernel22Ideal.Gen.frame m g,
    fun m g _ => Cert.Claims22.reference_frame m g,
    fun m g _ => Cert.Kernel23.Gen.frame m g,
    fun m g _ => Cert.Kernel23Ideal.Gen.frame m g,
    fun m g _ => Cert.Claims23.reference_frame m g,
    fun m g _ => Cert.Kernel24.Gen.frame m g,
    fun m g _ => Cert.Kernel24Ideal.Gen.frame m g,
    fun m g _ => Cert.Claims24.reference_frame m g,
    fun m g _ => Cert.Kernel25.Gen.frame m g,
    fun m g _ => Cert.Kernel25Ideal.Gen.frame m g,
    fun m g _ => Cert.Claims25.reference_frame m g,
    fun m g _ => Cert.Kernel26.Gen.frame m g,
    fun m g _ => Cert.Kernel26Ideal.Gen.frame m g,
    fun m g _ => Cert.Claims26.reference_frame m g,
    fun m g _ => Cert.Kernel27.Gen.frame m g,
    fun m g _ => Cert.Kernel27Ideal.Gen.frame m g,
    fun m g _ => Cert.Claims27.reference_frame m g,
    fun m g _ => Cert.Kernel28.Gen.frame m g,
    fun m g _ => Cert.Kernel28Ideal.Gen.frame m g,
    fun m g _ => Cert.Claims28.reference_frame m g,
    IdealRules.named_const.statement Cert.KernelIdeal.κ "mask" .f32 0xF149F2CA#32 ⊥ rfl, equal,
    trivial, Cert.Claims2.equal,
    trivial, Cert.Claims3.equal,
    trivial, Cert.Claims4.equal,
    trivial, Cert.Claims5.equal,
    trivial, Cert.Claims6.equal,
    trivial, Cert.Claims7.equal,
    trivial, Cert.Claims8.equal,
    trivial, Cert.Claims9.equal,
    trivial, Cert.Claims11.equal,
    trivial, Cert.Claims12.equal,
    trivial, Cert.Claims13.equal,
    trivial, Cert.Claims14.equal,
    trivial, Cert.Claims15.equal,
    trivial, Cert.Claims16.equal,
    trivial, Cert.Claims17.equal,
    trivial, Cert.Claims18.equal,
    trivial, Cert.Claims19.equal,
    trivial, Cert.Claims20.equal,
    trivial, Cert.Claims21.equal,
    trivial, Cert.Claims22.equal,
    trivial, Cert.Claims23.equal,
    trivial, Cert.Claims24.equal,
    trivial, Cert.Claims25.equal,
    trivial, Cert.Claims26.equal,
    trivial, Cert.Claims27.equal,
    trivial, Cert.Claims28.equal⟩

end Cert.Proof

end
